-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_on [hKernelIdeal : Cert.KernelIdeal.Facts] [hReferenceIdeal : Cert.ReferenceIdeal.Facts] [hOn_on : Cert.On_on.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1024, 3584]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v1_0) i = v0 c i)
          ∧ (∀ i : (⟨3, ![2, 1024, 3584]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v1_1) i = v1 c i)
          ∧ (∀ i : (⟨3, ![2, 8, 28]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v1_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1024, 3584]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v0_0) i = v0 c i)
          ∧ (∀ i : (⟨3, ![2, 1024, 3584]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v0_1) i = v1 c i)
          ∧ (∀ i : (⟨3, ![2, 8, 28]⟩ : Shape).Idx, (Cert.On_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v0_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_on : Cert.On_on.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_on (hKernelIdeal := hKernelIdeal) (hReferenceIdeal := hReferenceIdeal) (hOn_on := hOn_on)
-- ==== On_on.lean ====
abbrev S2x1024x3584 : Shape := ⟨3, ![2, 1024, 3584]⟩
abbrev S2x4x1024x128 : Shape := ⟨4, ![2, 4, 1024, 128]⟩
abbrev S2x4x16 : Shape := ⟨3, ![2, 4, 16]⟩
abbrev S2x4x128x1024 : Shape := ⟨4, ![2, 4, 128, 1024]⟩
abbrev S2x4x128 : Shape := ⟨3, ![2, 4, 128]⟩
abbrev S2x8x128x28x128 : Shape := ⟨5, ![2, 8, 128, 28, 128]⟩
abbrev S_ : Shape := ⟨0, ![]⟩
abbrev S2x8x28 : Shape := ⟨3, ![2, 8, 28]⟩
abbrev S2x8x1x28 : Shape := ⟨4, ![2, 8, 1, 28]⟩
abbrev S2x8x128x28 : Shape := ⟨4, ![2, 8, 128, 28]⟩
abbrev S2x4x1x16 : Shape := ⟨4, ![2, 4, 1, 16]⟩
abbrev S2x4x7x16 : Shape := ⟨4, ![2, 4, 7, 16]⟩
abbrev S2x1024x28x1 : Shape := ⟨4, ![2, 1024, 28, 1]⟩
abbrev S2x1x28x16 : Shape := ⟨4, ![2, 1, 28, 16]⟩
abbrev S2x1024x28x16 : Shape := ⟨4, ![2, 1024, 28, 16]⟩
abbrev S2x1024x28 : Shape := ⟨3, ![2, 1024, 28]⟩
abbrev S2x1024x28x128 : Shape := ⟨4, ![2, 1024, 28, 128]⟩

class Facts : Prop where
  bitsLt_bf16_f32 : FTy.bits .bf16 < FTy.bits .f32
  shapeCasts_S2x1024x3584_S2x8x128x28x128 : S2x1024x3584.ShapeCasts S2x8x128x28x128
  bcast_S_S2x8x128x28x128 : S_.BroadcastsInDim S2x8x128x28x128 (![] : Fin 0 → Fin S2x8x128x28x128.rank)
  reducesTo_S2x8x128x28x128_S2x8x28_d2_4 : S2x8x128x28x128.ReducesTo [2, 4] S2x8x28
  h_S_ : 0 < S_.numel
  bcast_S_S2x8x28 : S_.BroadcastsInDim S2x8x28 (![] : Fin 0 → Fin S2x8x28.rank)
  shapeCasts_S2x8x28_S2x8x1x28 : S2x8x28.ShapeCasts S2x8x1x28
  bcast_S2x8x1x28_S2x8x128x28_0_1_2_3 : S2x8x1x28.BroadcastsInDim S2x8x128x28 (![0, 1, 2, 3] : Fin 4 → Fin S2x8x128x28.rank)
  shapeCasts_S2x4x16_S2x4x1x16 : S2x4x16.ShapeCasts S2x4x1x16
  bcast_S2x4x1x16_S2x4x7x16_0_1_2_3 : S2x4x1x16.BroadcastsInDim S2x4x7x16 (![0, 1, 2, 3] : Fin 4 → Fin S2x4x7x16.rank)
  shapeCasts_S2x8x128x28_S2x1024x28x1 : S2x8x128x28.ShapeCasts S2x1024x28x1
  shapeCasts_S2x4x7x16_S2x1x28x16 : S2x4x7x16.ShapeCasts S2x1x28x16
  bcast_S2x1024x28x1_S2x1024x28x16_0_1_2_3 : S2x1024x28x1.BroadcastsInDim S2x1024x28x16 (![0, 1, 2, 3] : Fin 4 → Fin S2x1024x28x16.rank)
  bcast_S2x1x28x16_S2x1024x28x16_0_1_2_3 : S2x1x28x16.BroadcastsInDim S2x1024x28x16 (![0, 1, 2, 3] : Fin 4 → Fin S2x1024x28x16.rank)
  bcast_S_S2x1024x28x16 : S_.BroadcastsInDim S2x1024x28x16 (![] : Fin 0 → Fin S2x1024x28x16.rank)
  reducesTo_S2x1024x28x16_S2x1024x28_d3 : S2x1024x28x16.ReducesTo [3] S2x1024x28
  bcast_S_S2x1024x28 : S_.BroadcastsInDim S2x1024x28 (![] : Fin 0 → Fin S2x1024x28.rank)
  shapeCasts_S2x1024x28_S2x1024x28x1 : S2x1024x28.ShapeCasts S2x1024x28x1
  bcast_S2x1024x28x1_S2x1024x28x128_0_1_2_3 : S2x1024x28x1.BroadcastsInDim S2x1024x28x128 (![0, 1, 2, 3] : Fin 4 → Fin S2x1024x28x128.rank)
  shapeCasts_S2x1024x28x128_S2x1024x3584 : S2x1024x28x128.ShapeCasts S2x1024x3584
  bcast_S_S2x1024x3584 : S_.BroadcastsInDim S2x1024x3584 (![] : Fin 0 → Fin S2x1024x3584.rank)

variable [Facts]

def fn_where {F : FTy → Type} [FloatOps F] (arg0 : IVec S2x8x28 1) (arg1 : FVec F S_ .f32) (arg2 : FVec F S2x8x28 .f32) : FVec F S2x8x28 .f32 :=
  let v0 : FVec F S_ .f32 := id arg1
  let v1 : FVec F S2x8x28 .f32 := broadcastInDim S2x8x28 ![] bcast_S_S2x8x28 v0
  let v2 : FVec F S2x8x28 .f32 := select arg0 v1 arg2
  v2

def fn_where_0 {F : FTy → Type} [FloatOps F] (arg0 : IVec S2x1024x28x16 1) (arg1 : FVec F S2x1024x28x16 .f32) (arg2 : FVec F S_ .f32) : FVec F S2x1024x28x16 .f32 :=
  let v0 : FVec F S_ .f32 := id arg2
  let v1 : FVec F S2x1024x28x16 .f32 := broadcastInDim S2x1024x28x16 ![] bcast_S_S2x1024x28x16 v0
  let v2 : FVec F S2x1024x28x16 .f32 := select arg0 arg1 v1
  v2

def fn_part2 {F : FTy → Type} [FloatOps F] (main_v35 : IVec S2x1024x28x128 1) : IVec S2x1024x3584 1 × IVec S2x1024x3584 1 × IVec S2x8x28 1 :=
  let main_v36 : IVec S2x1024x3584 1 := shapeCast S2x1024x3584 main_v35 shapeCasts_S2x1024x28x128_S2x1024x3584
  let main_c_10 : IVec S_ 1 := constantI S_ 1 1#1
  let main_v37 : IVec S2x1024x3584 1 := broadcastInDim S2x1024x3584 ![] bcast_S_S2x1024x3584 main_c_10
  let main_c_11 : IVec S_ 1 := constantI S_ 1 1#1
  let main_v38 : IVec S2x8x28 1 := broadcastInDim S2x8x28 ![] bcast_S_S2x8x28 main_c_11
  (main_v36, main_v37, main_v38)

def fn_part1 {F : FTy → Type} [FloatOps F] (main_v17 : FVec F S2x1024x28x16 .f32) (main_v18 : FVec F S2x1024x28x16 .f32) : IVec S2x1024x3584 1 × IVec S2x1024x3584 1 × IVec S2x8x28 1 :=
  let main_v19 : FVec F S2x1024x28x16 .f32 := mulf main_v17 main_v18
  let main_cst_4 : FVec F S_ .f32 := constant S_ .f32 0x3FB8AA3B#32
  let main_v20 : FVec F S2x1024x28x16 .f32 := broadcastInDim S2x1024x28x16 ![] bcast_S_S2x1024x28x16 main_cst_4
  let main_v21 : FVec F S2x1024x28x16 .f32 := mulf main_v19 main_v20
  let main_v22 : IVec S2x1024x28x16 32 := iotaInDim S2x1024x28x16 32 3
  let main_c : IVec S_ 32 := constantI S_ 32 64#32
  let main_v23 : IVec S2x1024x28x16 32 := broadcastInDim S2x1024x28x16 ![] bcast_S_S2x1024x28x16 main_c
  let main_v24 : IVec S2x1024x28x16 32 := muli main_v22 main_v23
  let main_v25 : IVec S2x1024x28x16 32 := iotaInDim S2x1024x28x16 32 1
  let main_v26 : IVec S2x1024x28x16 1 := cmpi .sle main_v24 main_v25
  let main_cst_5 : FVec F S_ .f32 := constant S_ .f32 0x7F800000#32
  let main_v27 : FVec F S2x1024x28x16 .f32 := broadcastInDim S2x1024x28x16 ![] bcast_S_S2x1024x28x16 main_cst_5
  let main_v28 : IVec S2x1024x28x16 1 := cmpf .olt main_v21 main_v27
  let main_cst_6 : FVec F S_ .f32 := constant S_ .f32 0x00000000#32
  let main_v29 : FVec F S2x1024x28x16 .f32 := fn_where_0 (F := F) main_v28 main_v21 main_cst_6
  let main_cst_7 : FVec F S_ .f32 := constant S_ .f32 0x0D800000#32
  let main_v30 : FVec F S2x1024x28x16 .f32 := fn_where_0 (F := F) main_v26 main_v29 main_cst_7
  let main_cst_8 : FVec F S_ .f32 := constant S_ .f32 0x7F800000#32
  let main_v31 : FVec F S2x1024x28 .f32 := (fun x v => Host.reduce FloatOps.minimumf x v reducesTo_S2x1024x28x16_S2x1024x28_d3 h_S_) main_v30 main_cst_8
  let main_cst_9 : FVec F S_ .f32 := constant S_ .f32 0x0D800000#32
  let main_v32 : FVec F S2x1024x28 .f32 := broadcastInDim S2x1024x28 ![] bcast_S_S2x1024x28 main_cst_9
  let main_v33 : IVec S2x1024x28 1 := cmpf .oge main_v31 main_v32
  let main_v34 : IVec S2x1024x28x1 1 := shapeCast S2x1024x28x1 main_v33 shapeCasts_S2x1024x28_S2x1024x28x1
  let main_v35 : IVec S2x1024x28x128 1 := broadcastInDim S2x1024x28x128 ![0, 1, 2, 3] bcast_S2x1024x28x1_S2x1024x28x128_0_1_2_3 main_v34
  fn_part2 (F := F) main_v35

def fn {F : FTy → Type} [FloatOps F] (main_arg0 : FVec F S2x1024x3584 .bf16) (main_arg1 : IVec S2x4x1024x128 8) (main_arg2 : FVec F S2x4x16 .f32) (main_arg3 : FVec F S2x4x128x1024 .fp8e4m3) (main_arg4 : FVec F S2x4x128 .f32) : IVec S2x1024x3584 1 × IVec S2x1024x3584 1 × IVec S2x8x28 1 :=
  let main_v0 : FVec F S2x1024x3584 .f32 := (extf .f32 · bitsLt_bf16_f32) main_arg0
  let main_v1 : FVec F S2x8x128x28x128 .f32 := shapeCast S2x8x128x28x128 main_v0 shapeCasts_S2x1024x3584_S2x8x128x28x128
  let main_cst : FVec F S_ .f32 := constant S_ .f32 0x3DB504F3#32
  let main_v2 : FVec F S2x8x128x28x128 .f32 := broadcastInDim S2x8x128x28x128 ![] bcast_S_S2x8x128x28x128 main_cst
  let main_v3 : FVec F S2x8x128x28x128 .f32 := mulf main_v1 main_v2
  let main_v4 : FVec F S2x8x128x28x128 .f32 := Host.absf main_v3
  let main_cst_0 : FVec F S_ .f32 := constant S_ .f32 0xFF800000#32
  let main_v5 : FVec F S2x8x28 .f32 := (fun x v => Host.reduce FloatOps.maximumf x v reducesTo_S2x8x128x28x128_S2x8x28_d2_4 h_S_) main_v4 main_cst_0
  let main_cst_1 : FVec F S_ .f32 := constant S_ .f32 0x00000000#32
  let main_v6 : FVec F S2x8x28 .f32 := broadcastInDim S2x8x28 ![] bcast_S_S2x8x28 main_cst_1
  let main_v7 : IVec S2x8x28 1 := cmpf .oeq main_v5 main_v6
  let main_cst_2 : FVec F S_ .f32 := constant S_ .f32 0x42FE0000#32
  let main_v8 : FVec F S2x8x28 .f32 := broadcastInDim S2x8x28 ![] bcast_S_S2x8x28 main_cst_2
  let main_v9 : FVec F S2x8x28 .f32 := Host.divf main_v5 main_v8
  let main_cst_3 : FVec F S_ .f32 := constant S_ .f32 0x3F800000#32
  let main_v10 : FVec F S2x8x28 .f32 := fn_where (F := F) main_v7 main_cst_3 main_v9
  let main_v11 : FVec F S2x8x1x28 .f32 := shapeCast S2x8x1x28 main_v10 shapeCasts_S2x8x28_S2x8x1x28
  let main_v12 : FVec F S2x8x128x28 .f32 := broadcastInDim S2x8x128x28 ![0, 1, 2, 3] bcast_S2x8x1x28_S2x8x128x28_0_1_2_3 main_v11
  let main_v13 : FVec F S2x4x1x16 .f32 := shapeCast S2x4x1x16 main_arg2 shapeCasts_S2x4x16_S2x4x1x16
  let main_v14 : FVec F S2x4x7x16 .f32 := broadcastInDim S2x4x7x16 ![0, 1, 2, 3] bcast_S2x4x1x16_S2x4x7x16_0_1_2_3 main_v13
  let main_v15 : FVec F S2x1024x28x1 .f32 := shapeCast S2x1024x28x1 main_v12 shapeCasts_S2x8x128x28_S2x1024x28x1
  let main_v16 : FVec F S2x1x28x16 .f32 := shapeCast S2x1x28x16 main_v14 shapeCasts_S2x4x7x16_S2x1x28x16
  let main_v17 : FVec F S2x1024x28x16 .f32 := broadcastInDim S2x1024x28x16 ![0, 1, 2, 3] bcast_S2x1024x28x1_S2x1024x28x16_0_1_2_3 main_v15
  let main_v18 : FVec F S2x1024x28x16 .f32 := broadcastInDim S2x1024x28x16 ![0, 1, 2, 3] bcast_S2x1x28x16_S2x1024x28x16_0_1_2_3 main_v16
  fn_part1 (F := F) main_v17 main_v18
-- ==== Kernel.lean ====
abbrev S2x1024x3584 : Shape := ⟨3, ![2, 1024, 3584]⟩
abbrev S2x4x1024x128 : Shape := ⟨4, ![2, 4, 1024, 128]⟩
abbrev S2x4x16 : Shape := ⟨3, ![2, 4, 16]⟩
abbrev S2x4x128x1024 : Shape := ⟨4, ![2, 4, 128, 1024]⟩
abbrev S2x4x128 : Shape := ⟨3, ![2, 4, 128]⟩
abbrev S2x4x1x128 : Shape := ⟨4, ![2, 4, 1, 128]⟩
abbrev S2x8x28 : Shape := ⟨3, ![2, 8, 28]⟩
abbrev S1x1024x896 : Shape := ⟨3, ![1, 1024, 896]⟩
abbrev S1x1x1024x128 : Shape := ⟨4, ![1, 1, 1024, 128]⟩
abbrev S1x1x128x1024 : Shape := ⟨4, ![1, 1, 128, 1024]⟩
abbrev S1x1x1x128 : Shape := ⟨4, ![1, 1, 1, 128]⟩
abbrev S1x8x28 : Shape := ⟨3, ![1, 8, 28]⟩
abbrev S1024x128 : Shape := ⟨2, ![1024, 128]⟩
abbrev S7168x128 : Shape := ⟨2, ![7168, 128]⟩
abbrev S8x896 : Shape := ⟨2, ![8, 896]⟩
abbrev S1024x256 : Shape := ⟨2, ![1024, 256]⟩
abbrev S128 : Shape := ⟨1, ![128]⟩
abbrev S128x1 : Shape := ⟨2, ![128, 1]⟩
abbrev S128x256 : Shape := ⟨2, ![128, 256]⟩
abbrev S1x896 : Shape := ⟨2, ![1, 896]⟩
abbrev S1x28 : Shape := ⟨2, ![1, 28]⟩
abbrev S1x1x28 : Shape := ⟨3, ![1, 1, 28]⟩
abbrev S1x128x128 : Shape := ⟨3, ![1, 128, 128]⟩
abbrev S128x128 : Shape := ⟨2, ![128, 128]⟩
abbrev S1x128 : Shape := ⟨2, ![1, 128]⟩
abbrev S1 : Shape := ⟨1, ![1]⟩
abbrev S1x1 : Shape := ⟨2, ![1, 1]⟩
abbrev S16x128 : Shape := ⟨2, ![16, 128]⟩
abbrev S1x256 : Shape := ⟨2, ![1, 256]⟩
abbrev S256x128 : Shape := ⟨2, ![256, 128]⟩
abbrev S8x256 : Shape := ⟨2, ![8, 256]⟩
abbrev S64x128 : Shape := ⟨2, ![64, 128]⟩
abbrev S64x256 : Shape := ⟨2, ![64, 256]⟩
abbrev S1x1x1 : Shape := ⟨3, ![1, 1, 1]⟩
abbrev S8x8x256 : Shape := ⟨3, ![8, 8, 256]⟩
abbrev S256 : Shape := ⟨1, ![256]⟩
abbrev S1x1x128x128 : Shape := ⟨4, ![1, 1, 128, 128]⟩
abbrev S1x16x128 : Shape := ⟨3, ![1, 16, 128]⟩
abbrev S256x256 : Shape := ⟨2, ![256, 256]⟩
abbrev S1x1x128x256 : Shape := ⟨4, ![1, 1, 128, 256]⟩
abbrev S384x256 : Shape := ⟨2, ![384, 256]⟩
abbrev S1x1x128x384 : Shape := ⟨4, ![1, 1, 128, 384]⟩
abbrev S128x384 : Shape := ⟨2, ![128, 384]⟩
abbrev S512x256 : Shape := ⟨2, ![512, 256]⟩
abbrev S1x1x128x512 : Shape := ⟨4, ![1, 1, 128, 512]⟩
abbrev S128x512 : Shape := ⟨2, ![128, 512]⟩
abbrev S640x256 : Shape := ⟨2, ![640, 256]⟩
abbrev S1x1x128x640 : Shape := ⟨4, ![1, 1, 128, 640]⟩
abbrev S128x640 : Shape := ⟨2, ![128, 640]⟩
abbrev S768x256 : Shape := ⟨2, ![768, 256]⟩
abbrev S1x1x128x768 : Shape := ⟨4, ![1, 1, 128, 768]⟩
abbrev S128x768 : Shape := ⟨2, ![128, 768]⟩
abbrev S896x256 : Shape := ⟨2, ![896, 256]⟩
abbrev S1x1x128x896 : Shape := ⟨4, ![1, 1, 128, 896]⟩
abbrev S128x896 : Shape := ⟨2, ![128, 896]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x3584, .bf16⟩
  | .hbm, ⟨1, _⟩ => ⟨S2x4x1024x128, .i8⟩
  | .hbm, ⟨2, _⟩ => ⟨S2x4x16, .f32⟩
  | .hbm, ⟨3, _⟩ => ⟨S2x4x128x1024, .fp8e4m3⟩
  | .hbm, ⟨4, _⟩ => ⟨S2x4x128, .f32⟩
  | .hbm, ⟨5, _⟩ => ⟨S2x4x1x128, .f32⟩
  | .hbm, ⟨6, _⟩ => ⟨S2x1024x3584, .bf16⟩
  | .hbm, ⟨7, _⟩ => ⟨S2x1024x3584, .i8⟩
  | .hbm, ⟨8, _⟩ => ⟨S2x8x28, .f32⟩
  | .local _ .vmem, ⟨0, _⟩ => ⟨S1x1024x896, .bf16⟩
  | .local _ .vmem, ⟨1, _⟩ => ⟨S1x1024x896, .bf16⟩
  | .local _ .vmem, ⟨2, _⟩ => ⟨S1x1x1024x128, .i8⟩
  | .local _ .vmem, ⟨3, _⟩ => ⟨S1x1x1024x128, .i8⟩
  | .local _ .vmem, ⟨4, _⟩ => ⟨S1x1x128x1024, .fp8e4m3⟩
  | .local _ .vmem, ⟨5, _⟩ => ⟨S1x1x128x1024, .fp8e4m3⟩
  | .local _ .vmem, ⟨6, _⟩ => ⟨S1x1x1x128, .f32⟩
  | .local _ .vmem, ⟨7, _⟩ => ⟨S1x1x1x128, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .i8⟩
  | .local _ .vmem, ⟨11, _⟩ => ⟨S1x1024x896, .i8⟩
  | .local _ .vmem, ⟨12, _⟩ => ⟨S1x8x28, .f32⟩
  | .local _ .vmem, ⟨13, _⟩ => ⟨S1x8x28, .f32⟩
  | .local _ .vmem, ⟨14, _⟩ => ⟨S1024x128, .bf16⟩
  | .local _ .vmem, ⟨15, _⟩ => ⟨S7168x128, .bf16⟩
  | .local _ .vmem, ⟨16, _⟩ => ⟨S8x896, .f32⟩
  | .local _ .vmem, ⟨17, _⟩ => ⟨S1024x256, .f32⟩
  | .local _ .smem, ⟨0, _⟩ => ⟨S2x4x16, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg0 : BitVec 32 := BitVec.ofNat 32 (i 0).val
  let v4432 : Index := Scalar.indexCast arg0
  let arg1 : BitVec 32 := BitVec.ofNat 32 (i 1).val
  let v4433 : Index := Scalar.indexCast arg1
  let c0_1595 : Index := 0#32
  ![v4432.toNat, v4433.toNat, 0]
def k0_off2 (i : grid0.Coords) : Fin 3 → Nat :=
  let arg0 : BitVec 32 := BitVec.ofNat 32 (i 0).val
  let v4585 : Index := Scalar.indexCast arg0
  let arg1 : BitVec 32 := BitVec.ofNat 32 (i 1).val
  let v4586 : Index := Scalar.indexCast arg1
  let c1_1685 : Index := 1#32
  ![v4585.toNat, v4586.toNat, 1]
def k0_off3 (i : grid0.Coords) : Fin 3 → Nat :=
  let arg0 : BitVec 32 := BitVec.ofNat 32 (i 0).val
  let v4931 : Index := Scalar.indexCast arg0
  let arg1 : BitVec 32 := BitVec.ofNat 32 (i 1).val
  let v4932 : Index := Scalar.indexCast arg1
  let c2_1882 : Index := 2#32
  ![v4931.toNat, v4932.toNat, 2]
def k0_off4 (i : grid0.Coords) : Fin 3 → Nat :=
  let arg0 : BitVec 32 := BitVec.ofNat 32 (i 0).val
  let v5335 : Index := Scalar.indexCast arg0
  let arg1 : BitVec 32 := BitVec.ofNat 32 (i 1).val
  let v5336 : Index := Scalar.indexCast arg1
  let c3_2104 : Index := 3#32
  ![v5335.toNat, v5336.toNat, 3]
def k0_off5 (i : grid0.Coords) : Fin 3 → Nat :=
  let arg0 : BitVec 32 := BitVec.ofNat 32 (i 0).val
  let v5792 : Index := Scalar.indexCast arg0
  let arg1 : BitVec 32 := BitVec.ofNat 32 (i 1).val
  let v5793 : Index := Scalar.indexCast arg1
  let c4_2348 : Index := 4#32
  ![v5792.toNat, v5793.toNat, 4]
def k0_off6 (i : grid0.Coords) : Fin 3 → Nat :=
  let arg0 : BitVec 32 := BitVec.ofNat 32 (i 0).val
  let v6069 : Index := Scalar.indexCast arg0
  let arg1 : BitVec 32 := BitVec.ofNat 32 (i 1).val
  let v6070 : Index := Scalar.indexCast arg1
  let c5_2490 : Index := 5#32
  ![v6069.toNat, v6070.toNat, 5]
def k0_off7 (i : grid0.Coords) : Fin 3 → Nat :=
  let arg0 : BitVec 32 := BitVec.ofNat 32 (i 0).val
  let v6663 : Index := Scalar.indexCast arg0
  let arg1 : BitVec 32 := BitVec.ofNat 32 (i 1).val
  let v6664 : Index := Scalar.indexCast arg1
  let c6_2791 : Index := 6#32
  ![v6663.toNat, v6664.toNat, 6]
def k0_off8 (i : grid0.Coords) : Fin 3 → Nat :=
  let arg0 : BitVec 32 := BitVec.ofNat 32 (i 0).val
  let v7315 : Index := Scalar.indexCast arg0
  let arg1 : BitVec 32 := BitVec.ofNat 32 (i 1).val
  let v7316 : Index := Scalar.indexCast arg1
  let c7_3117 : Index := 7#32
  ![v7315.toNat, v7316.toNat, 7]
def k0_off9 (i : grid0.Coords) : Fin 3 → Nat :=
  let arg0 : BitVec 32 := BitVec.ofNat 32 (i 0).val
  let v8020 : Index := Scalar.indexCast arg0
  let arg1 : BitVec 32 := BitVec.ofNat 32 (i 1).val
  let v8021 : Index := Scalar.indexCast arg1
  let c8 : Index := 8#32
  ![v8020.toNat, v8021.toNat, 8]
def k0_off10 (i : grid0.Coords) : Fin 3 → Nat :=
  let arg0 : BitVec 32 := BitVec.ofNat 32 (i 0).val
  let v8421 : Index := Scalar.indexCast arg0
  let arg1 : BitVec 32 := BitVec.ofNat 32 (i 1).val
  let v8422 : Index := Scalar.indexCast arg1
  let c9 : Index := 9#32
  ![v8421.toNat, v8422.toNat, 9]
def k0_off11 (i : grid0.Coords) : Fin 3 → Nat :=
  let arg0 : BitVec 32 := BitVec.ofNat 32 (i 0).val
  let v9263 : Index := Scalar.indexCast arg0
  let arg1 : BitVec 32 := BitVec.ofNat 32 (i 1).val
  let v9264 : Index := Scalar.indexCast arg1
  let c10 : Index := 10#32
  ![v9263.toNat, v9264.toNat, 10]
def k0_off12 (i : grid0.Coords) : Fin 3 → Nat :=
  let arg0 : BitVec 32 := BitVec.ofNat 32 (i 0).val
  let v10163 : Index := Scalar.indexCast arg0
  let arg1 : BitVec 32 := BitVec.ofNat 32 (i 1).val
  let v10164 : Index := Scalar.indexCast arg1
  let c11 : Index := 11#32
  ![v10163.toNat, v10164.toNat, 11]
def k0_off13 (i : grid0.Coords) : Fin 3 → Nat :=
  let arg0 : BitVec 32 := BitVec.ofNat 32 (i 0).val
  let v11116 : Index := Scalar.indexCast arg0
  let arg1 : BitVec 32 := BitVec.ofNat 32 (i 1).val
  let v11117 : Index := Scalar.indexCast arg1
  let c12 : Index := 12#32
  ![v11116.toNat, v11117.toNat, 12]
def k0_off14 (i : grid0.Coords) : Fin 3 → Nat :=
  let arg0 : BitVec 32 := BitVec.ofNat 32 (i 0).val
  let v11641 : Index := Scalar.indexCast arg0
  let arg1 : BitVec 32 := BitVec.ofNat 32 (i 1).val
  let v11642 : Index := Scalar.indexCast arg1
  let c13 : Index := 13#32
  ![v11641.toNat, v11642.toNat, 13]
def k0_off15 (i : grid0.Coords) : Fin 3 → Nat :=
  let arg0 : BitVec 32 := BitVec.ofNat 32 (i 0).val
  let v12731 : Index := Scalar.indexCast arg0
  let arg1 : BitVec 32 := BitVec.ofNat 32 (i 1).val
  let v12732 : Index := Scalar.indexCast arg1
  let c14 : Index := 14#32
  ![v12731.toNat, v12732.toNat, 14]
def k0_off16 (i : grid0.Coords) : Fin 3 → Nat :=
  let arg0 : BitVec 32 := BitVec.ofNat 32 (i 0).val
  let v13879 : Index := Scalar.indexCast arg0
  let arg1 : BitVec 32 := BitVec.ofNat 32 (i 1).val
  let v13880 : Index := Scalar.indexCast arg1
  let c15 : Index := 15#32
  ![v13879.toNat, v13880.toNat, 15]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x896 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x1024x3584 : Shape := ⟨3, ![2, 1024, 3584]⟩
abbrev S2x4x1024x128 : Shape := ⟨4, ![2, 4, 1024, 128]⟩
abbrev S2x4x16 : Shape := ⟨3, ![2, 4, 16]⟩
abbrev S2x4x128x1024 : Shape := ⟨4, ![2, 4, 128, 1024]⟩
abbrev S2x4x128 : Shape := ⟨3, ![2, 4, 128]⟩
abbrev S2x8x28 : Shape := ⟨3, ![2, 8, 28]⟩
abbrev S2x8x128x28x128 : Shape := ⟨5, ![2, 8, 128, 28, 128]⟩
abbrev S2x8x1x28x1 : Shape := ⟨5, ![2, 8, 1, 28, 1]⟩
abbrev S2x1024x4x7x128 : Shape := ⟨5, ![2, 1024, 4, 7, 128]⟩
abbrev S2x4x7x1024x128 : Shape := ⟨5, ![2, 4, 7, 1024, 128]⟩
abbrev S8x7168x128 : Shape := ⟨3, ![8, 7168, 128]⟩
abbrev S8x1024x128 : Shape := ⟨3, ![8, 1024, 128]⟩
abbrev S8x7168x1024 : Shape := ⟨3, ![8, 7168, 1024]⟩
abbrev S2x8x4x7 : Shape := ⟨4, ![2, 8, 4, 7]⟩
abbrev S2x4x7x8 : Shape := ⟨4, ![2, 4, 7, 8]⟩
abbrev S8x56x1x1x1 : Shape := ⟨5, ![8, 56, 1, 1, 1]⟩
abbrev S8x1x1x16x1 : Shape := ⟨5, ![8, 1, 1, 16, 1]⟩
abbrev S8x56x128x16x64 : Shape := ⟨5, ![8, 56, 128, 16, 64]⟩
abbrev S8x7x1024x1024 : Shape := ⟨4, ![8, 7, 1024, 1024]⟩
abbrev S8x7x1024 : Shape := ⟨3, ![8, 7, 1024]⟩
abbrev S8x7x1024x1 : Shape := ⟨4, ![8, 7, 1024, 1]⟩
abbrev S8x128x1024 : Shape := ⟨3, ![8, 128, 1024]⟩
abbrev S8x7x1024x128 : Shape := ⟨4, ![8, 7, 1024, 128]⟩
abbrev S8x1x1x128 : Shape := ⟨4, ![8, 1, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x1024x3584, .bf16⟩
  | .hbm, ⟨1, _⟩ => ⟨S2x4x1024x128, .i8⟩
  | .hbm, ⟨2, _⟩ => ⟨S2x4x16, .f32⟩
  | .hbm, ⟨3, _⟩ => ⟨S2x4x128x1024, .fp8e4m3⟩
  | .hbm, ⟨4, _⟩ => ⟨S2x4x128, .f32⟩
  | .hbm, ⟨5, _⟩ => ⟨S2x1024x3584, .bf16⟩
  | .hbm, ⟨6, _⟩ => ⟨S2x1024x3584, .i8⟩
  | .hbm, ⟨7, _⟩ => ⟨S2x8x28, .f32⟩
  | .local _ .vmem, ⟨0, _⟩ => ⟨S2x1024x3584, .bf16⟩
  | .local _ .vmem, ⟨1, _⟩ => ⟨S2x4x1024x128, .i8⟩
  | .local _ .vmem, ⟨2, _⟩ => ⟨S2x4x16, .f32⟩
  | .local _ .vmem, ⟨3, _⟩ => ⟨S2x4x128x1024, .fp8e4m3⟩
  | .local _ .vmem, ⟨4, _⟩ => ⟨S2x4x128, .f32⟩
  | .local _ .vmem, ⟨5, _⟩ => ⟨S2x1024x3584, .bf16⟩
  | .local _ .vmem, ⟨6, _⟩ => ⟨S2x1024x3584, .i8⟩
  | .local _ .vmem, ⟨7, _⟩ => ⟨S2x8x28, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x1024x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x3584 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/- The kernel's body, written once as a program over whatever memrefs it is given: the quantiser of one
   128-row block and head, the row of scales it closes, and one query chunk of the attention. Each is in
   continuation-passing form, so that a program is one chain of loads and stores. -/
module

public import Idealize.ShloMosaic.Lib.ShapeFacts
public import Idealize.ShloMosaic.Lib.Pipeline
public import Idealize.ShloMosaic.Lib.VecWindow
public import Idealize.ShloMosaic.PureOps

@[expose] public section

noncomputable section

namespace Attn

open Idealize.ShloMosaic Idealize.SL.Sem

/-! ## Shapes -/

abbrev S1 : Shape := ⟨1, ![1]⟩
abbrev S128 : Shape := ⟨1, ![128]⟩
abbrev S256 : Shape := ⟨1, ![256]⟩
abbrev S1x1 : Shape := ⟨2, ![1, 1]⟩
abbrev S1x28 : Shape := ⟨2, ![1, 28]⟩
abbrev S1x128 : Shape := ⟨2, ![1, 128]⟩
abbrev S1x256 : Shape := ⟨2, ![1, 256]⟩
abbrev S1x896 : Shape := ⟨2, ![1, 896]⟩
abbrev S8x256 : Shape := ⟨2, ![8, 256]⟩
abbrev S8x896 : Shape := ⟨2, ![8, 896]⟩
abbrev S16x128 : Shape := ⟨2, ![16, 128]⟩
abbrev S64x128 : Shape := ⟨2, ![64, 128]⟩
abbrev S64x256 : Shape := ⟨2, ![64, 256]⟩
abbrev S128x1 : Shape := ⟨2, ![128, 1]⟩
abbrev S128x128 : Shape := ⟨2, ![128, 128]⟩
abbrev S128x256 : Shape := ⟨2, ![128, 256]⟩
abbrev S256x128 : Shape := ⟨2, ![256, 128]⟩
abbrev S1024x128 : Shape := ⟨2, ![1024, 128]⟩
abbrev S1024x256 : Shape := ⟨2, ![1024, 256]⟩
abbrev S7168x128 : Shape := ⟨2, ![7168, 128]⟩
abbrev S1x1x1 : Shape := ⟨3, ![1, 1, 1]⟩
abbrev S1x1x28 : Shape := ⟨3, ![1, 1, 28]⟩
abbrev S1x8x28 : Shape := ⟨3, ![1, 8, 28]⟩
abbrev S1x16x128 : Shape := ⟨3, ![1, 16, 128]⟩
abbrev S1x128x128 : Shape := ⟨3, ![1, 128, 128]⟩
abbrev S2x4x16 : Shape := ⟨3, ![2, 4, 16]⟩
abbrev S8x8x256 : Shape := ⟨3, ![8, 8, 256]⟩
abbrev S1x1024x896 : Shape := ⟨3, ![1, 1024, 896]⟩
abbrev S1x1x1x128 : Shape := ⟨4, ![1, 1, 1, 128]⟩
abbrev S1x1x1024x128 : Shape := ⟨4, ![1, 1, 1024, 128]⟩
abbrev S1x1x128x1024 : Shape := ⟨4, ![1, 1, 128, 1024]⟩

/-- `K` stacked key rows of 256 lanes. -/
abbrev Keys (K : ℕ) : Shape := ⟨2, ![K, 256]⟩
/-- The first `K` key columns of the values. -/
abbrev Vals (K : ℕ) : Shape := ⟨2, ![128, K]⟩
abbrev Vals4 (K : ℕ) : Shape := ⟨4, ![1, 1, 128, K]⟩

/-! ## Loads and stores in continuation-passing form -/

section Ops
variable {nD : ℕ} {τ : Topo} {sig : RefSig} {Val : EltTy → Type} {Λ : Labels} {α : Type}

/-- Load the rectangle of `size` at `off`. -/
abbrev ld {s : Shape} {e : EltTy} (M : Memref sig .tc .vmem s e) (off size : Fin s.rank → ℕ)
    (inb : ∀ a, off a + size a ≤ s.size a) (pos : 0 < (Rect.unit (s := s) off size inb).shape.numel)
    (k : ((Rect.unit (s := s) off size inb).shape.Idx → Val e) → Prog (TpuEff nD τ sig Val Λ .tc) α) : Prog (TpuEff nD τ sig Val Λ .tc) α :=
  .op (.load M (Rect.unit (s := s) off size inb).toLoadRect (View.loadsAt_vmem pos)) k

/-- Store a 32-bit rectangle. -/
abbrev st32 {s : Shape} {e : EltTy} (M : Memref sig .tc .vmem s e) (off size : Fin s.rank → ℕ)
    (inb : ∀ a, off a + size a ≤ s.size a) (pos : 0 < (Rect.unit (s := s) off size inb).shape.numel) (h32 : e.bits = 32)
    (w : (Rect.unit (s := s) off size inb).shape.Idx → Val e) (k : Prog (TpuEff nD τ sig Val Λ .tc) α) : Prog (TpuEff nD τ sig Val Λ .tc) α :=
  .op (.store M (Rect.unit (s := s) off size inb) w Finset.univ (View.stores_vmem_bits_univ pos h32) (.inl rfl)) fun _ => k

/-- Store a rectangle of packed rows of a whole buffer. -/
abbrev stp {s : Shape} {e : EltTy} (M : Memref sig .tc .vmem s e) (hM : M.IsWhole) (off size : Fin s.rank → ℕ)
    (inb : ∀ a, off a + size a ≤ s.size a) (pos : 0 < (Rect.unit (s := s) off size inb).shape.numel)
    (hp : (Rect.unit (s := s) off size inb).PackedRows e.packing)
    (w : (Rect.unit (s := s) off size inb).shape.Idx → Val e) (k : Prog (TpuEff nD τ sig Val Λ .tc) α) : Prog (TpuEff nD τ sig Val Λ .tc) α :=
  .op (.store M (Rect.unit (s := s) off size inb) w Finset.univ
    (View.stores_vmem pos (hM.storeExact_slice rfl _ hp) (fun _ => rfl)) (.inl rfl)) fun _ => k

end Ops

/-! ## In-bounds and packing facts, over the indices -/

theorem inb2 {a b m n p q : ℕ} (h0 : a + m ≤ p) (h1 : b + n ≤ q) :
    ∀ x : Fin 2, (![a, b] : Fin 2 → ℕ) x + (![m, n] : Fin 2 → ℕ) x ≤ (![p, q] : Fin 2 → ℕ) x := by
  intro x; match x with
  | 0 => exact h0
  | 1 => exact h1

theorem inb3 {a b c m n o p q r : ℕ} (h0 : a + m ≤ p) (h1 : b + n ≤ q) (h2 : c + o ≤ r) :
    ∀ x : Fin 3, (![a, b, c] : Fin 3 → ℕ) x + (![m, n, o] : Fin 3 → ℕ) x ≤ (![p, q, r] : Fin 3 → ℕ) x := by
  intro x; match x with
  | 0 => exact h0
  | 1 => exact h1
  | 2 => exact h2

theorem inb4 {a b c d m n o l p q r t : ℕ} (h0 : a + m ≤ p) (h1 : b + n ≤ q) (h2 : c + o ≤ r) (h3 : d + l ≤ t) :
    ∀ x : Fin 4, (![a, b, c, d] : Fin 4 → ℕ) x + (![m, n, o, l] : Fin 4 → ℕ) x ≤ (![p, q, r, t] : Fin 4 → ℕ) x := by
  intro x; match x with
  | 0 => exact h0
  | 1 => exact h1
  | 2 => exact h2
  | 3 => exact h3

theorem packed2 {a b m n p q k : ℕ} (inb) (h : k ∣ a) (h' : k ∣ m) :
    (Rect.unit (s := ⟨2, ![p, q]⟩) ![a, b] ![m, n] inb).PackedRows k :=
  Or.inr ⟨le_rfl, rfl, Or.inl ⟨h, h'⟩⟩

theorem packed3 {a b c m n o p q r k : ℕ} (inb) (h : k ∣ b) (h' : k ∣ n) :
    (Rect.unit (s := ⟨3, ![p, q, r]⟩) ![a, b, c] ![m, n, o] inb).PackedRows k :=
  have h2 : 2 ≤ (⟨3, ![p, q, r]⟩ : Shape).rank := Nat.le_succ 2
  Or.inr ⟨h2, rfl, Or.inl ⟨h, h'⟩⟩

theorem numel2 {a b : ℕ} (ha : 0 < a) (hb : 0 < b) : 0 < (⟨2, ![a, b]⟩ : Shape).numel :=
  Shape.numel_pos (by intro x; match x with
    | 0 => exact ha
    | 1 => exact hb)

theorem numel3 {a b c : ℕ} (ha : 0 < a) (hb : 0 < b) (hc : 0 < c) : 0 < (⟨3, ![a, b, c]⟩ : Shape).numel :=
  Shape.numel_pos (by intro x; match x with
    | 0 => exact ha
    | 1 => exact hb
    | 2 => exact hc)

theorem numel4 {a b c d : ℕ} (ha : 0 < a) (hb : 0 < b) (hc : 0 < c) (hd : 0 < d) : 0 < (⟨4, ![a, b, c, d]⟩ : Shape).numel :=
  Shape.numel_pos (by intro x; match x with
    | 0 => exact ha
    | 1 => exact hb
    | 2 => exact hc
    | 3 => exact hd)

/-! ## The memrefs of one grid step -/

/-- The operands, results and scratch of the body: the scales of the keys in scalar memory, the queries, the
    key codes, the value codes and their channel scales; the attention, the query codes and their scales; and
    the four scratch arrays, the keys widened, the query codes in chunk order, the scales along the chunks and
    the raw scores. -/
structure Mems (sig : RefSig) where
  ks : Memref sig .tc .smem S2x4x16 .f32
  x : Memref sig .tc .vmem S1x1024x896 .bf16
  k : Memref sig .tc .vmem S1x1x1024x128 .i8
  v : Memref sig .tc .vmem S1x1x128x1024 .fp8e4m3
  vs : Memref sig .tc .vmem S1x1x1x128 .f32
  out : Memref sig .tc .vmem S1x1024x896 .bf16
  hout : out.IsWhole
  qc : Memref sig .tc .vmem S1x1024x896 .i8
  hqc : qc.IsWhole
  qs : Memref sig .tc .vmem S1x8x28 .f32
  kb : Memref sig .tc .vmem S1024x128 .bf16
  hkb : kb.IsWhole
  qb : Memref sig .tc .vmem S7168x128 .bf16
  hqb : qb.IsWhole
  qr : Memref sig .tc .vmem S8x896 .f32
  raw : Memref sig .tc .vmem S1024x256 .f32

/-- The body's programs. -/
abbrev Body (F : FTy → Type) (nD : ℕ) (τ : Topo) (sig : RefSig) (Λ : Labels) := Prog (TpuEff nD τ sig (Elt F) Λ .tc) PUnit

/-! ## The quantiser -/

section Pure
variable {F : FTy → Type} [FloatOps F]

/-- Which of the group's heads a lane of a 128-row block's 896 belongs to. -/
def lanes : IVec S1x896 32 := iota .tc S1x896 32 [1]
def pieces : IVec S1x896 32 := shrsi lanes (broadcast S1x896 4#32)
def subs : IVec S1x896 32 := shrsi (muli pieces (broadcast S1x896 37#32)) (broadcast S1x896 8#32)
def heads : IVec S1x896 32 := subi pieces (muli subs (broadcast S1x896 7#32))
/-- Which token of the block it belongs to. -/
def toks : IVec S1x896 32 := addi (muli subs (broadcast S1x896 16#32)) (andi lanes (broadcast S1x896 15#32))
def cols : IVec S1x28 32 := iota .tc S1x28 32 [1]

/-- The scale of one 128-row block of one head, from the block. -/
def tileScale (xt : FVec F S128x128 .bf16) : FVec F S1x1 .f32 :=
  have a : FVec F S1x1 .f32 := mulf (shapeCast S1x1 (multiReduction .maximumf [1] S1
      (extf .f32 (shapeCast S1x128 (multiReduction .maximumf [0] S128 (absf xt) 0xFF80#16 (by decide) (.inr rfl) rfl)) (by decide))
      0xFF800000#32 (by decide) (.inl rfl) rfl)) (broadcast S1x1 (Scalar.ofBits .f32 0x3DB504F3#32))
  select (cmpf .oeq a (broadcast S1x1 (Scalar.ofBits .f32 0x00000000#32))) (broadcast S1x1 (Scalar.ofBits .f32 0x3F800000#32))
    (divf a (broadcast S1x1 (Scalar.ofBits .f32 0x42FE0000#32)))

/-- The codes of the block, as numbers. -/
def tileCodes (xt : FVec F S128x128 .bf16) : FVec F S128x128 .f32 :=
  minimumf (broadcast S128x128 (Scalar.ofBits .f32 0x42FE0000#32)) (maximumf (broadcast S128x128 (Scalar.ofBits .f32 0xC2FE0000#32))
    (roundeven (mulf (mulf (extf .f32 xt (by decide)) (broadcast S128x128 (Scalar.ofBits .f32 0x3DB504F3#32)))
      (broadcastTo S128x128 (divf (broadcast S1x1 (Scalar.ofBits .f32 0x3F800000#32)) (tileScale xt))))))

/-- The sixteen rows of a block from row `16 s`. -/
def rows16 (wide : FVec F S128x128 .bf16) (s : ℕ) (hs : s < 8) : FVec F S16x128 .bf16 :=
  extractStridedSlice (s := S128x128) S16x128 ![16 * s, 0] wide ⟨rfl, inb2 (by omega) (by omega)⟩

def coefStep (h : ℕ) (sc : FVec F S1x1 .f32) (coef : FVec F S1x896 .f32) : FVec F S1x896 .f32 :=
  select (cmpi .eq heads (broadcast S1x896 (BitVec.ofNat 32 h))) (broadcastTo S1x896 (shapeCast S1x1 sc)) coef

def srowStep (a1 : BitVec 32) (h : ℕ) (sc : FVec F S1x1 .f32) (srow : FVec F S1x28 .f32) : FVec F S1x28 .f32 :=
  select (cmpi .eq cols (broadcast S1x28 (Scalar.addi (Scalar.muli a1 7#32) (BitVec.ofNat 32 h))))
    (broadcastTo S1x28 (shapeCast S1x1 sc)) srow

end Pure

section Prog
variable {F : FTy → Type} [FloatOps F] {nD : ℕ} {τ : Topo} {sig : RefSig} {Λ : Labels}

variable (M : Mems sig)

/-- The codes of the block's sixteen-row pieces `s, s + 1, …`, `n` of them, put where the chunks find them. -/
def putSubs (qb h : ℕ) (hq : qb < 8) (hh : h < 7) (wide : FVec F S128x128 .bf16) : (n s : ℕ) → s + n = 8 → Body F nD τ sig Λ → Body F nD τ sig Λ
  | 0, _, _, k => k
  | n + 1, s, hs, k =>
    ld M.qb ![896 * qb + 112 * s + 16 * h, 0] S16x128.size (inb2 (by omega) (by omega)) (numel2 (by omega) (by omega)) fun _ =>
    stp M.qb M.hqb ![896 * qb + 112 * s + 16 * h, 0] S16x128.size (inb2 (by omega) (by omega)) (numel2 (by omega) (by omega))
      (packed2 _ (show 2 ∣ _ by omega) (by decide))
      (shapeCast S16x128 (rows16 wide s (by omega)))
      (putSubs qb h hq hh wide n (s + 1) (by omega) k)

/-- One head of one 128-row block: its codes stored, and its scale put into the two rows being built. -/
def quantHead (a1 : BitVec 32) (qb h : ℕ) (hq : qb < 8) (hh : h < 7) (coef : FVec F S1x896 .f32) (srow : FVec F S1x28 .f32)
    (k : FVec F S1x896 .f32 → FVec F S1x28 .f32 → Body F nD τ sig Λ) : Body F nD τ sig Λ :=
  ld M.x ![0, 128 * qb, 128 * h] S1x128x128.size (inb3 (by omega) (by omega) (by omega)) (numel3 (by omega) (by omega) (by omega)) fun (xt : Vec F S1x128x128 .bf16) =>
  ld M.qc ![0, 128 * qb, 128 * h] S1x128x128.size (inb3 (by omega) (by omega) (by omega)) (numel3 (by omega) (by omega) (by omega)) fun _ =>
  stp M.qc M.hqc ![0, 128 * qb, 128 * h] S1x128x128.size (inb3 (by omega) (by omega) (by omega)) (numel3 (by omega) (by omega) (by omega))
    (packed3 _ (show 4 ∣ _ by omega) (by decide)) (shapeCast S1x128x128 (fptosi 8 (tileCodes (shapeCast S128x128 xt)))) <|
  putSubs M qb h hq hh (truncf .bf16 (tileCodes (shapeCast S128x128 xt)) (by decide)) 8 0 rfl <|
  k (coefStep h (tileScale (shapeCast S128x128 xt)) coef) (srowStep a1 h (tileScale (shapeCast S128x128 xt)) srow)

/-- The heads `h, h + 1, …`, `n` of them. -/
def quantHeads (a1 : BitVec 32) (qb : ℕ) (hq : qb < 8) : (n h : ℕ) → h + n = 7 → FVec F S1x896 .f32 → FVec F S1x28 .f32 →
    (FVec F S1x896 .f32 → FVec F S1x28 .f32 → Body F nD τ sig Λ) → Body F nD τ sig Λ
  | 0, _, _, coef, srow, k => k coef srow
  | n + 1, h, hh, coef, srow, k =>
    quantHead M a1 qb h hq (by omega) coef srow fun coef srow => quantHeads a1 qb hq n (h + 1) (by omega) coef srow k

/-- The two rows of scales a 128-row block closes with. -/
def closeRow (qb : ℕ) (hq : qb < 8) (coef : FVec F S1x896 .f32) (srow : FVec F S1x28 .f32) (k : Body F nD τ sig Λ) : Body F nD τ sig Λ :=
  ld M.qr ![qb, 0] S1x896.size (inb2 (by omega) (by omega)) (numel2 (by omega) (by omega)) fun _ =>
  st32 M.qr ![qb, 0] S1x896.size (inb2 (by omega) (by omega)) (numel2 (by omega) (by omega)) rfl (shapeCast S1x896 coef) <|
  ld M.qs ![0, qb, 0] S1x1x28.size (inb3 (by omega) (by omega) (by omega)) (numel3 (by omega) (by omega) (by omega)) fun _ =>
  st32 M.qs ![0, qb, 0] S1x1x28.size (inb3 (by omega) (by omega) (by omega)) (numel3 (by omega) (by omega) (by omega)) rfl (shapeCast S1x1x28 srow) k

/-- A row that starts at no scale. -/
def zeroRow : FVec F S1x896 .f32 := broadcast S1x896 (Scalar.ofBits .f32 0x00000000#32)

/-- One 128-row block, once its row of the scales has been loaded. -/
def quantRowFrom (a1 : BitVec 32) (qb : ℕ) (hq : qb < 8) (srow : FVec F S1x28 .f32) (k : Body F nD τ sig Λ) : Body F nD τ sig Λ :=
  quantHeads M a1 qb hq 7 0 rfl zeroRow srow fun coef srow => closeRow M qb hq coef srow k

/-- One 128-row block. -/
def quantRow (a1 : BitVec 32) (qb : ℕ) (hq : qb < 8) (k : Body F nD τ sig Λ) : Body F nD τ sig Λ :=
  ld M.qs ![0, qb, 0] S1x1x28.size (inb3 (by omega) (by omega) (by omega)) (numel3 (by omega) (by omega) (by omega)) fun (s : Vec F S1x1x28 .f32) =>
  quantRowFrom M a1 qb hq (shapeCast S1x28 s) k

/-- The blocks `qb, qb + 1, …`, `n` of them. -/
def quantRows (a1 : BitVec 32) : (n qb : ℕ) → qb + n = 8 → Body F nD τ sig Λ → Body F nD τ sig Λ
  | 0, _, _, k => k
  | n + 1, qb, hq, k => quantRow M a1 qb (by omega) (quantRows a1 n (qb + 1) (by omega) k)

end Prog

/-! ## The attention of one chunk of 256 query lanes -/

/-- The first token the chunk's lanes hold, within its sixteen. -/
def tokLo (c : ℕ) : ℕ := 256 * c / 112 * 16
/-- How many groups of 64 keys the chunk reads. -/
def nGroups (c : ℕ) : ℕ := (((256 * c + 255) / 112 + 1) * 16 + 63) / 64
/-- Whether some key of the group comes after some query of the chunk. -/
def masked (c g : ℕ) : Bool := Nat.blt (tokLo c + 1) ((g + 1) * 64)

/-- The groups' width of the values the chunk reads, an even number of groups. -/
def wGroups (c : ℕ) : ℕ := (nGroups c + 1) / 2 * 2

theorem nGroups_le (c : ℕ) (hc : c < 28) : 0 + nGroups c ≤ 16 := by unfold nGroups; omega
theorem wGroups_le (c : ℕ) (hc : c < 28) : 0 + 64 * wGroups c ≤ 1024 := by unfold wGroups nGroups; omega
theorem wGroups_two (c : ℕ) : 2 ≤ wGroups c := by unfold wGroups nGroups; omega
theorem wGroups_pos (c : ℕ) : 0 < 64 * wGroups c := by unfold wGroups nGroups; omega

section Pure
variable {F : FTy → Type} [FloatOps F]

/-- The tokens of the chunk that lies within one 128-row block. -/
def qtok1 (c : ℕ) (hc : 256 * c % 896 + 256 ≤ 896) : IVec S1x256 32 :=
  addi (extractStridedSlice S1x256 ![0, 256 * c % 896] toks ⟨rfl, inb2 (by omega) hc⟩) (broadcast S1x256 (BitVec.ofNat 32 (128 * (256 * c / 896))))

/-- The tokens of the chunk that is the last 128 lanes of block `qb` and the first 128 of the next. -/
def qtok2 (qb : ℕ) : IVec S1x256 32 :=
  concatenate S1x256 1
    [⟨S1x128, addi (extractStridedSlice S1x128 ![0, 768] toks) (broadcast S1x128 (BitVec.ofNat 32 (128 * qb)))⟩,
     ⟨S1x128, addi (extractStridedSlice S1x128 ![0, 0] toks) (broadcast S1x128 (BitVec.ofNat 32 (128 * (qb + 1))))⟩]
    (show Shape.Concatenates [S1x128, S1x128] S1x256 1 by decide)

/-- The raw scores of a group, a key after the query holding `-∞`. -/
def rawOf (c g : ℕ) (qtok : IVec S1x256 32) (kb : FVec F S64x128 .bf16) (qt : FVec F S256x128 .bf16) : FVec F S64x256 .f32 :=
  cond (masked c g)
    (select (cmpi .sle (addi (iota .tc S64x256 32 [0]) (broadcast S64x256 (BitVec.ofNat 32 (64 * g)))) (broadcastTo S64x256 qtok))
      (matmul (DotDims.transposedRhs 64 128 256) none kb qt (constant S64x256 .f32 0x00000000#32))
      (broadcast S64x256 (Scalar.ofBits .f32 0xFF800000#32)))
    (matmul (DotDims.transposedRhs 64 128 256) none kb qt (constant S64x256 .f32 0x00000000#32))

/-- What one unit of raw score is worth, lane by lane. -/
def cgOf (coef : FVec F S1x256 .f32) (ks : F .f32) : FVec F S1x256 .f32 :=
  maximumf (mulf (mulf coef (broadcast S1x256 ks)) (broadcast S1x256 (Scalar.ofBits .f32 0x3FB8AA3B#32)))
    (broadcast S1x256 (Scalar.ofBits .f32 0x0D800000#32))

/-- The running maximum, eight rows of it. -/
def m8Of (m8 : FVec F S8x256 .f32) (raw : FVec F S64x256 .f32) (cg : FVec F S1x256 .f32) : FVec F S8x256 .f32 :=
  maximumf m8 (mulf (multiReduction .maximumf [0] S8x256 (shapeCast S8x8x256 raw) 0xFF800000#32 (by decide) (.inl rfl) rfl) (broadcastTo S8x256 cg))

def m8Init : FVec F S8x256 .f32 := broadcast S8x256 (Scalar.ofBits .f32 0xFF800000#32)
def l8Init : FVec F S8x256 .f32 := broadcast S8x256 (Scalar.ofBits .f32 0x00000000#32)

/-- What is subtracted before the exponential. -/
def shiftOf (m8 : FVec F S8x256 .f32) : FVec F S1x256 .f32 :=
  subf (shapeCast S1x256 (multiReduction .maximumf [0] S256 m8 0xFF800000#32 (by decide) (.inl rfl) rfl)) (broadcast S1x256 (Scalar.ofBits .f32 0x41000000#32))

/-- The probabilities of a group, up to the common factor. -/
def pOf (raw : FVec F S64x256 .f32) (cg shift : FVec F S1x256 .f32) : FVec F S64x256 .f32 :=
  exp2 (subf (mulf raw (broadcastTo S64x256 cg)) (broadcastTo S64x256 shift))

def l8Of (l8 : FVec F S8x256 .f32) (p : FVec F S64x256 .f32) : FVec F S8x256 .f32 :=
  addf l8 (multiReduction .add [0] S8x256 (shapeCast S8x8x256 p) 0x00000000#32 (by decide) (.inl rfl) rfl)

/-- Their eight-bit codes. -/
def pcOf (p : FVec F S64x256 .f32) : FVec F S64x256 .fp8e4m3 :=
  truncf .fp8e4m3 (minimumf p (broadcast S64x256 (Scalar.ofBits .f32 0x43E00000#32))) (by decide)

def pcZero : FVec F S64x256 .fp8e4m3 := broadcast S64x256 (Scalar.ofBits .fp8e4m3 0x00#8)

/-- The codes of the groups, with a group of zeroes after an odd number of them. -/
def padTo (c : ℕ) (ps : List (FVec F S64x256 .fp8e4m3)) : List (FVec F S64x256 .fp8e4m3) :=
  cond (Nat.beq (nGroups c % 2) 1) (ps ++ [pcZero]) ps

theorem padTo_length (c : ℕ) (ps : List (FVec F S64x256 .fp8e4m3)) (h : ps.length = nGroups c) : (padTo c ps).length = wGroups c := by
  unfold padTo wGroups
  cases hb : Nat.beq (nGroups c % 2) 1
  · have : nGroups c % 2 ≠ 1 := fun e => by rw [e] at hb; exact absurd hb (by decide)
    simp only [cond_false]; omega
  · have : nGroups c % 2 = 1 := Nat.eq_of_beq_eq_true hb
    simp only [cond_true, List.length_append, List.length_cons, List.length_nil]; omega

/-- Two halves of a chunk's scales side by side. -/
def coef2 (l r : FVec F S1x128 .f32) : FVec F S1x256 .f32 :=
  concatenate S1x256 1 [⟨S1x128, l⟩, ⟨S1x128, r⟩] (show Shape.Concatenates [S1x128, S1x128] S1x256 1 by decide)

/-- Groups of codes stacked along the keys. -/
def stack : List (FVec F S64x256 .fp8e4m3) → List ((s : Shape) × (s.Idx → F .fp8e4m3))
  | [] => []
  | p :: ps => ⟨S64x256, p⟩ :: stack ps

theorem stack_shapes : (ps : List (FVec F S64x256 .fp8e4m3)) → (stack ps).map (·.1) = List.replicate ps.length S64x256
  | [] => rfl
  | p :: ps => by rw [stack, List.map_cons, stack_shapes ps]; rfl

theorem concatenates_replicate {n : ℕ} (hn : 2 ≤ n) : Shape.Concatenates (List.replicate n S64x256) (Keys (64 * n)) 0 := by
  refine ⟨by rw [List.length_replicate]; exact hn, fun s hs => ?_, ?_⟩
  · obtain rfl := List.eq_of_mem_replicate hs
    exact ⟨rfl, fun b hb => match b, hb with
      | 0, hb => absurd rfl hb
      | 1, _ => rfl⟩
  · rw [List.map_replicate, List.sum_replicate]
    exact Nat.mul_comm n 64

theorem casts_vals (K : ℕ) : (Vals4 K).ShapeCasts (Vals K) := by
  simp [Shape.ShapeCasts, Shape.numel_rank2, Shape.numel_rank4]

/-- The chunk's result, transposed back to rows of tokens: `kk` keys, their codes `ps`. -/
def outOf (n : ℕ) (hn : 2 ≤ n) (vscol : FVec F S128x256 .f32) (v : Vec F (Vals4 (64 * n)) .fp8e4m3) (l8 : FVec F S8x256 .f32)
    (ps : List (FVec F S64x256 .fp8e4m3)) (hps : ps.length = n) : FVec F S256x128 .bf16 :=
  transpose S256x128 [1, 0] (truncf .bf16 (mulf (mulf
      (matmul (DotDims.plain 128 (64 * n) 256) none (shapeCast (Vals (64 * n)) v (casts_vals _))
        (concatenate (Keys (64 * n)) 0 (stack ps) (by rw [stack_shapes, hps]; exact concatenates_replicate hn))
        (constant S128x256 .f32 0x00000000#32)) vscol)
    (broadcastTo S128x256 (divf (broadcast S1x256 (Scalar.ofBits .f32 0x3F800000#32))
      (shapeCast S1x256 (multiReduction .add [0] S256 l8 0x00000000#32 (by decide) (.inl rfl) rfl))))) (by decide))

/-- The sixteen rows of a chunk's result from row `16 i`. -/
def rows16of256 (ot : FVec F S256x128 .bf16) (i : ℕ) (hi : i < 16) : FVec F S16x128 .bf16 :=
  extractStridedSlice (s := S256x128) S16x128 ![16 * i, 0] ot ⟨rfl, inb2 (by omega) (by omega)⟩

end Pure

section Prog
variable {F : FTy → Type} [FloatOps F] {nD : ℕ} {τ : Topo} {sig : RefSig} {Λ : Labels} (M : Mems sig)

/-- One group of the first pass: its raw scores, what they are worth, and the maximum so far. -/
def score (a0 a1 c g : ℕ) (h0 : a0 < 2) (h1 : a1 < 4) (hg : g < 16) (qtok : IVec S1x256 32) (coef : FVec F S1x256 .f32)
    (qt : FVec F S256x128 .bf16) (m8 : FVec F S8x256 .f32) (k : FVec F S1x256 .f32 → FVec F S8x256 .f32 → Body F nD τ sig Λ) : Body F nD τ sig Λ :=
  ld M.kb ![64 * g, 0] S64x128.size (inb2 (by omega) (by omega)) (numel2 (by omega) (by omega)) fun (kb : FVec F S64x128 .bf16) =>
  ld M.raw ![64 * g, 0] S64x256.size (inb2 (by omega) (by omega)) (numel2 (by omega) (by omega)) fun _ =>
  st32 M.raw ![64 * g, 0] S64x256.size (inb2 (by omega) (by omega)) (numel2 (by omega) (by omega)) rfl
    (shapeCast S64x256 (rawOf c g qtok kb qt)) <|
  smemLoadElt M.ks (Rect.unit (s := S2x4x16) ![a0, a1, g] S1x1x1.size (inb3 (by omega) (by omega) (by omega)))
    (View.loads_smem_one rfl (by rfl : S1x1x1.numel = 1)) (Shape.Idx.first (s := S1x1x1) (by decide)) fun ks =>
  k (cgOf coef ks) (m8Of m8 (rawOf c g qtok kb qt) (cgOf coef ks))

/-- The first pass over the groups `g, g + 1, …`, `n` of them, keeping what each is worth. -/
def scores (a0 a1 c : ℕ) (h0 : a0 < 2) (h1 : a1 < 4) (qtok : IVec S1x256 32) (coef : FVec F S1x256 .f32) (qt : FVec F S256x128 .bf16) :
    (n g : ℕ) → g + n ≤ 16 → FVec F S8x256 .f32 →
    ((cgs : List (FVec F S1x256 .f32)) → cgs.length = n → FVec F S8x256 .f32 → Body F nD τ sig Λ) → Body F nD τ sig Λ
  | 0, _, _, m8, k => k [] rfl m8
  | n + 1, g, hg, m8, k => score M a0 a1 c g h0 h1 (by omega) qtok coef qt m8 fun cg m8 =>
    scores a0 a1 c h0 h1 qtok coef qt n (g + 1) (by omega) m8 fun cgs hl m8 => k (cg :: cgs) (congrArg (· + 1) hl) m8

/-- The second pass: the probabilities' codes and their sum. -/
def probs (shift : FVec F S1x256 .f32) : (cgs : List (FVec F S1x256 .f32)) → (g : ℕ) → g + cgs.length ≤ 16 → FVec F S8x256 .f32 →
    ((ps : List (FVec F S64x256 .fp8e4m3)) → ps.length = cgs.length → FVec F S8x256 .f32 → Body F nD τ sig Λ) → Body F nD τ sig Λ
  | [], _, _, l8, k => k [] rfl l8
  | cg :: cgs, g, hg, l8, k =>
    ld M.raw ![64 * g, 0] S64x256.size (inb2 (by rw [List.length_cons] at hg; omega) (by omega)) (numel2 (by omega) (by omega)) fun (raw : FVec F S64x256 .f32) =>
    probs shift cgs (g + 1) (by rw [List.length_cons] at hg; omega) (l8Of l8 (pOf raw cg shift)) fun ps hl l8 =>
    k (pcOf (pOf raw cg shift) :: ps) (congrArg (· + 1) hl) l8

/-- The tiles `i, i + 1, …`, `n` of them, of the chunk's result. -/
def tiles (c : ℕ) (hc : c < 28) (ot : FVec F S256x128 .bf16) : (n i : ℕ) → i + n = 16 → Body F nD τ sig Λ → Body F nD τ sig Λ
  | 0, _, _, k => k
  | n + 1, i, hi, k =>
    ld M.out ![0, (16 * c + i) / 7 * 16, (16 * c + i) % 7 * 128] S1x16x128.size (inb3 (by omega) (by omega) (by omega)) (numel3 (by omega) (by omega) (by omega)) fun _ =>
    stp M.out M.hout ![0, (16 * c + i) / 7 * 16, (16 * c + i) % 7 * 128] S1x16x128.size (inb3 (by omega) (by omega) (by omega)) (numel3 (by omega) (by omega) (by omega))
      (packed3 _ (show 2 ∣ _ by omega) (by decide)) (shapeCast S1x16x128 (rows16of256 ot i (by omega))) <|
    tiles c hc ot n (i + 1) (by omega) k

/-- The chunk from its lanes' tokens and scales on: `2 N` groups' width of values, `pad` of it past the last group. -/
def chunkFrom (vscol : FVec F S128x256 .f32) (a0 a1 c : ℕ) (h0 : a0 < 2) (h1 : a1 < 4) (hc : c < 28) (qtok : IVec S1x256 32)
    (coef : FVec F S1x256 .f32) (k : Body F nD τ sig Λ) : Body F nD τ sig Λ :=
  ld M.qb ![256 * c, 0] S256x128.size (inb2 (by omega) (by omega)) (numel2 (by omega) (by omega)) fun (qt : FVec F S256x128 .bf16) =>
  scores M a0 a1 c h0 h1 qtok coef qt (nGroups c) 0 (nGroups_le c hc) m8Init fun cgs hcgs m8 =>
  probs M (shiftOf m8) cgs 0 (by rw [hcgs]; exact nGroups_le c hc) l8Init fun ps hps l8 =>
  ld M.v ![0, 0, 0, 0] (Vals4 (64 * wGroups c)).size (inb4 (by omega) (by omega) (by omega) (wGroups_le c hc))
    (numel4 (by omega) (by omega) (by omega) (wGroups_pos c)) fun (v : Vec F (Vals4 (64 * wGroups c)) .fp8e4m3) =>
  tiles M c hc (outOf (wGroups c) (wGroups_two c) vscol v l8 (padTo c ps) (padTo_length c ps (hps.trans hcgs))) 16 0 rfl k

/-- Chunk `c`. -/
def chunk (vscol : FVec F S128x256 .f32) (a0 a1 c : ℕ) (h0 : a0 < 2) (h1 : a1 < 4) (hc : c < 28) (k : Body F nD τ sig Λ) : Body F nD τ sig Λ :=
  if h : 256 * c % 896 + 256 ≤ 896 then
    ld M.qr ![256 * c / 896, 256 * c % 896] S1x256.size (inb2 (by omega) h) (numel2 (by omega) (by omega)) fun (coef : FVec F S1x256 .f32) =>
    chunkFrom M vscol a0 a1 c h0 h1 hc (qtok1 c h) coef k
  else
    ld M.qr ![256 * c / 896, 768] S1x128.size (inb2 (by omega) (by omega)) (numel2 (by omega) (by omega)) fun (l : FVec F S1x128 .f32) =>
    ld M.qr ![256 * c / 896 + 1, 0] S1x128.size (inb2 (by omega) (by omega)) (numel2 (by omega) (by omega)) fun (r : FVec F S1x128 .f32) =>
    chunkFrom M vscol a0 a1 c h0 h1 hc (qtok2 (256 * c / 896)) (coef2 l r) k

/-- The chunks `c, c + 1, …`, `n` of them. -/
def chunks (vscol : FVec F S128x256 .f32) (a0 a1 : ℕ) (h0 : a0 < 2) (h1 : a1 < 4) : (n c : ℕ) → c + n = 28 → Body F nD τ sig Λ
  | 0, _, _ => .ret ⟨⟩
  | n + 1, c, hc => chunk M vscol a0 a1 c h0 h1 (by omega) (chunks vscol a0 a1 h0 h1 n (c + 1) (by omega))

/-- Whether the group of heads is the first, as the body computes it. -/
abbrev firstKv (a1w : BitVec 32) : BitVec 1 := Scalar.cmpi .ne ((Scalar.extui (Scalar.cmpi .eq a1w 0#32) : BitVec 32)) 0#32

/-- A value channel's scale, across the lanes of a chunk. -/
def vsCol (vs : Vec F S1x1x1x128 .f32) : FVec F S128x256 .f32 :=
  broadcastTo S128x256 (shapeCast S128x1 (shapeCast S128x1 (shapeCast S128 vs)))

/-- The body after its first results: all the blocks quantised, then all the chunks. -/
def bodyRest (vs : Vec F S1x1x1x128 .f32) (a1w : BitVec 32) (a0 a1 : ℕ) (h0 : a0 < 2) (h1 : a1 < 4) : Body F nD τ sig Λ :=
  quantRows M a1w 8 0 rfl <| chunks M (vsCol vs) a0 a1 h0 h1 28 0 rfl

/-- The whole body, at the grid step of batch `a0` and group of heads `a1`, which is the word `a1w`. -/
def body (a1w : BitVec 32) (a0 a1 : ℕ) (h0 : a0 < 2) (h1 : a1 < 4) : Body F nD τ sig Λ :=
  ld M.k ![0, 0, 0, 0] S1x1x1024x128.size (inb4 (by omega) (by omega) (by omega) (by omega)) (numel4 (by omega) (by omega) (by omega) (by omega)) fun (k : Vec F S1x1x1024x128 .i8) =>
  ld M.kb ![0, 0] S1024x128.size (inb2 (by omega) (by omega)) (numel2 (by omega) (by omega)) fun _ =>
  stp M.kb M.hkb ![0, 0] S1024x128.size (inb2 (by omega) (by omega)) (numel2 (by omega) (by omega)) (packed2 _ (show 2 ∣ _ by omega) (by decide))
    (shapeCast S1024x128 (sitofp (F := F) .bf16 (shapeCast S1024x128 k))) <|
  ld M.vs ![0, 0, 0, 0] S1x1x1x128.size (inb4 (by omega) (by omega) (by omega) (by omega)) (numel4 (by omega) (by omega) (by omega) (by omega)) fun (vs : Vec F S1x1x1x128 .f32) =>
  if firstKv a1w = 1#1 then
    ld M.qs ![0, 0, 0] S1x8x28.size (inb3 (by omega) (by omega) (by omega)) (numel3 (by omega) (by omega) (by omega)) fun _ =>
    st32 M.qs ![0, 0, 0] S1x8x28.size (inb3 (by omega) (by omega) (by omega)) (numel3 (by omega) (by omega) (by omega)) rfl
      (broadcast S1x8x28 (Scalar.ofBits .f32 0x00000000#32)) <|
    bodyRest M vs a1w a0 a1 h0 h1
  else bodyRest M vs a1w a0 a1 h0 h1

end Prog

end Attn
-- ==== Proof.Wp.lean ====
/- One step of the body at a time: what its operands and scratch hold is a record of arrays, and each load
   and each store says which record the rest of the body starts from. -/
module

public import proofs.«01_k».proof.Proof.Body
public import Idealize.ShloMosaic.Lib.Updates.Own

@[expose] public section

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns)
open Idealize.ShloMosaic.Updates (owns_read)

/-- What the operands, results and scratch of the body hold. -/
structure St (F : FTy → Type) where
  ks : Vec F S2x4x16 .f32
  x : Vec F S1x1024x896 .bf16
  k : Vec F S1x1x1024x128 .i8
  v : Vec F S1x1x128x1024 .fp8e4m3
  vs : Vec F S1x1x1x128 .f32
  out : Vec F S1x1024x896 .bf16
  qc : Vec F S1x1024x896 .i8
  qs : Vec F S1x8x28 .f32
  kb : Vec F S1024x128 .bf16
  qb : Vec F S7168x128 .bf16
  qr : Vec F S8x896 .f32
  raw : Vec F S1024x256 .f32

section
variable {nD : ℕ} {τ : Topo} {sig : RefSig} {Λ : Labels} {Ix : Type} [DecidableEq Ix] {Name : Type} [DecidableEq Name]
variable {U : Type} [URA U] {Lvl : Type} [Preorder Lvl]
variable {F : FTy → Type} [FloatOps F]
variable (defs : Defs nD τ sig (Elt F) Λ) (𝒱 : Variants) (c : Dev nD) (bd : Option 𝒱.V) (E : Set Name)
variable (Q : PUnit.{1} → sProp (MT nD τ sig Ix (Elt F) Name U Lvl))
variable (M : Mems sig)

/-- Everything the body holds, at the record `s`. -/
def held (s : St F) : sProp (MT nD τ sig Ix (Elt F) Name U Lvl) :=
  iprop(owns (c : Thread nD τ) M.ks fullShare s.ks ∗ owns (c : Thread nD τ) M.x fullShare s.x ∗ owns (c : Thread nD τ) M.k fullShare s.k
    ∗ owns (c : Thread nD τ) M.v fullShare s.v ∗ owns (c : Thread nD τ) M.vs fullShare s.vs
    ∗ owns (c : Thread nD τ) M.out fullShare s.out ∗ owns (c : Thread nD τ) M.qc fullShare s.qc ∗ owns (c : Thread nD τ) M.qs fullShare s.qs
    ∗ owns (c : Thread nD τ) M.kb fullShare s.kb ∗ owns (c : Thread nD τ) M.qb fullShare s.qb ∗ owns (c : Thread nD τ) M.qr fullShare s.qr
    ∗ owns (c : Thread nD τ) M.raw fullShare s.raw)

/-- From the record `s` the program `P` runs to the post `Q`. -/
def Ok (s : St F) (P : Body F nD τ sig Λ) : Prop :=
  held (Ix := Ix) (Name := Name) (U := U) (Lvl := Lvl) c M s ⊢ wp frame (wpE defs 𝒱 (c : Thread nD τ) bd) E P Q

/-- A load of a memref owned at `X`: the rest goes on at the window of `X`. -/
theorem wp_ld {s : Shape} {e : EltTy} (m : Memref sig .tc .vmem s e) (X : s.Idx → Elt F e) (off size : Fin s.rank → ℕ)
    (inb : ∀ a, off a + size a ≤ s.size a) (pos : 0 < (Rect.unit (s := s) off size inb).shape.numel)
    (k : ((Rect.unit (s := s) off size inb).shape.Idx → Elt F e) → Body F nD τ sig Λ) :
    owns (c : Thread nD τ) m fullShare X ⊢ iprop((owns (c : Thread nD τ) m fullShare X -∗ wp frame (wpE defs 𝒱 (c : Thread nD τ) bd) E (k (VecWindow.window X off size inb)) Q)
        -∗ wp frame (wpE defs 𝒱 (c : Thread nD τ) bd) E (ld m off size inb pos k) Q) := by
  iintro H Hk
  icases (owns_read (c : Thread nD τ) m X) $$ H with ⟨%f, H, %hf⟩
  iapply (wp_load 𝒱 (c : Thread nD τ) bd E (Q := Q) (k := k) (m := m) (r := (Rect.unit (s := s) off size inb).toLoadRect) (f := f) (S := m.view.set) (q := fullShare)
    (View.setOn_subset_set _ _)) $$ H
  iintro H
  rw [View.readAt_unit m.view f inb rfl inb, hf]
  iapply Hk
  iapply (raw_owns (c : Thread nD τ) m hf)
  iexact H

/-- A store into a memref owned at `X`: the rest goes on with the payload put over its window. -/
theorem wp_st {s : Shape} {e : EltTy} (m : Memref sig .tc .vmem s e) (X : s.Idx → Elt F e) (off size : Fin s.rank → ℕ)
    (inb : ∀ a, off a + size a ≤ s.size a) (w : (Rect.unit (s := s) off size inb).shape.Idx → Elt F e)
    (hx : (m.access (Rect.unit (s := s) off size inb)).Stores Finset.univ) (hm) (k : Body F nD τ sig Λ) :
    owns (c : Thread nD τ) m fullShare X ⊢ iprop((owns (c : Thread nD τ) m fullShare (VecWindow.put X off size w) -∗ wp frame (wpE defs 𝒱 (c : Thread nD τ) bd) E k Q)
        -∗ wp frame (wpE defs 𝒱 (c : Thread nD τ) bd) E (.op (.store m (Rect.unit (s := s) off size inb) w Finset.univ hx hm) fun _ => k) Q) := by
  iintro H Hk
  icases (owns_read (c : Thread nD τ) m X) $$ H with ⟨%f, H, %hf⟩
  iapply (wp_store 𝒱 (c : Thread nD τ) bd E (Q := Q) (m := m) (r := Rect.unit (s := s) off size inb) (w := w) (Mk := Finset.univ) (hx := hx) (hm := hm)
    (k := fun _ => k) (f := f) (S := m.view.set) (View.set_slice_subset _ _)) $$ H
  iintro H
  iapply Hk
  iapply (raw_owns (c : Thread nD τ) m (f := m.view.writes (Elt F) f [⟨Rect.unit (s := s) off size inb, w⟩]) (by
    rw [View.read_writes_cons_put m.view f inb w [] rfl, View.writes_nil, hf]))
  iexact H

/-- A read of one word of scalar memory owned at `X`. -/
theorem wp_ks (m : Memref sig .tc .smem S2x4x16 .f32) (X : Vec F S2x4x16 .f32) (r : Rect S2x4x16) {hw : (m.access r).Loads} (x : r.shape.Idx)
    (k : F .f32 → Body F nD τ sig Λ) :
    owns (c : Thread nD τ) m fullShare X ⊢ iprop((owns (c : Thread nD τ) m fullShare X -∗ wp frame (wpE defs 𝒱 (c : Thread nD τ) bd) E (k (X (r.emb x))) Q)
        -∗ wp frame (wpE defs 𝒱 (c : Thread nD τ) bd) E (smemLoadElt (nD := nD) (Λ := Λ) (Val := Elt F) m r hw x k) Q) := by
  iintro H Hk
  icases (owns_read (c : Thread nD τ) m X) $$ H with ⟨%f, H, %hf⟩
  iapply (wp_smemLoadElt 𝒱 (c : Thread nD τ) bd E (Q := Q) (k := k) (m := m) (r := r) (hw := hw) (x := x) (f := f) (S := m.view.set) (q := fullShare)
    (View.set_slice_subset _ _)) $$ H
  iintro H
  rw [show (m.access r).read (Elt F) f x = X (r.emb x) from congrFun hf (r.emb x)]
  iapply Hk
  iapply (raw_owns (c : Thread nD τ) m hf)
  iexact H

/-! ## One part of a separating conjunction, and the rest -/

theorem part_here {P P' R : sProp (MT nD τ sig Ix (Elt F) Name U Lvl)} : iprop(P ∗ R) ⊢ iprop(P ∗ (P' -∗ (P' ∗ R))) := by
  iintro ⟨HP, HR⟩
  isplitl [HP]; · iexact HP
  iintro HP
  isplitl [HP]; · iexact HP
  iexact HR

theorem part_last {P P' : sProp (MT nD τ sig Ix (Elt F) Name U Lvl)} : P ⊢ iprop(P ∗ (P' -∗ P')) := by
  iintro HP
  isplitl [HP]; · iexact HP
  iintro HP
  iexact HP

theorem part_skip {A P P' R R' : sProp (MT nD τ sig Ix (Elt F) Name U Lvl)} (h : R ⊢ iprop(P ∗ (P' -∗ R'))) :
    iprop(A ∗ R) ⊢ iprop(P ∗ (P' -∗ (A ∗ R'))) := by
  iintro ⟨HA, HR⟩
  icases h $$ HR with ⟨HP, HR⟩
  isplitl [HP]; · iexact HP
  iintro HP
  isplitl [HA]; · iexact HA
  iapply HR
  iexact HP

variable {defs 𝒱 c bd E Q M}

/-- Within everything held at `s` the memref `m` is owned at `X`, and put back at `X'` it makes `s'`. -/
abbrev Part (c : Dev nD) (M : Mems sig) (s s' : St F) {sp : Space} {sh : Shape} {e : EltTy} (m : Memref sig .tc sp sh e) (X X' : sh.Idx → Elt F e) : Prop :=
  held (Ix := Ix) (Name := Name) (U := U) (Lvl := Lvl) c M s
    ⊢ iprop(owns (c : Thread nD τ) m fullShare X ∗ (owns (c : Thread nD τ) m fullShare X' -∗ held (Ix := Ix) (Name := Name) (U := U) (Lvl := Lvl) c M s'))

theorem ok_ld {s : St F} {sh : Shape} {e : EltTy} {m : Memref sig .tc .vmem sh e} {X : sh.Idx → Elt F e}
    (hp : Part (τ := τ) (Ix := Ix) (Name := Name) (U := U) (Lvl := Lvl) c M s s m X X) {off size : Fin sh.rank → ℕ}
    {inb : ∀ a, off a + size a ≤ sh.size a} {pos : 0 < (Rect.unit (s := sh) off size inb).shape.numel}
    {k : ((Rect.unit (s := sh) off size inb).shape.Idx → Elt F e) → Body F nD τ sig Λ}
    (hk : Ok defs 𝒱 c bd E Q M s (k (VecWindow.window X off size inb))) : Ok defs 𝒱 c bd E Q M s (ld m off size inb pos k) := by
  unfold Ok at hk ⊢
  iintro H
  icases hp $$ H with ⟨H, HR⟩
  iapply (wp_ld defs 𝒱 c bd E Q m X off size inb pos k) $$ H
  iintro H
  iapply hk
  iapply HR
  iexact H

theorem ok_st {s s' : St F} {sh : Shape} {e : EltTy} {m : Memref sig .tc .vmem sh e} {X : sh.Idx → Elt F e} {off size : Fin sh.rank → ℕ}
    {inb : ∀ a, off a + size a ≤ sh.size a} {w : (Rect.unit (s := sh) off size inb).shape.Idx → Elt F e}
    (hp : Part (τ := τ) (Ix := Ix) (Name := Name) (U := U) (Lvl := Lvl) c M s s' m X (VecWindow.put X off size w))
    {hx : (m.access (Rect.unit (s := sh) off size inb)).Stores Finset.univ} {hm} {k : Body F nD τ sig Λ}
    (hk : Ok defs 𝒱 c bd E Q M s' k) :
    Ok defs 𝒱 c bd E Q M s (.op (.store m (Rect.unit (s := sh) off size inb) w Finset.univ hx hm) fun _ => k) := by
  unfold Ok at hk ⊢
  iintro H
  icases hp $$ H with ⟨H, HR⟩
  iapply (wp_st defs 𝒱 c bd E Q m X off size inb w hx hm k) $$ H
  iintro H
  iapply hk
  iapply HR
  iexact H

theorem part_ks (s : St F) : Part (τ := τ) (Ix := Ix) (Name := Name) (U := U) (Lvl := Lvl) c M s s M.ks s.ks s.ks := part_here
theorem part_x (s : St F) : Part (τ := τ) (Ix := Ix) (Name := Name) (U := U) (Lvl := Lvl) c M s s M.x s.x s.x := part_skip part_here
theorem part_k (s : St F) : Part (τ := τ) (Ix := Ix) (Name := Name) (U := U) (Lvl := Lvl) c M s s M.k s.k s.k := part_skip (part_skip part_here)
theorem part_v (s : St F) : Part (τ := τ) (Ix := Ix) (Name := Name) (U := U) (Lvl := Lvl) c M s s M.v s.v s.v := part_skip (part_skip (part_skip part_here))
theorem part_vs (s : St F) : Part (τ := τ) (Ix := Ix) (Name := Name) (U := U) (Lvl := Lvl) c M s s M.vs s.vs s.vs :=
  part_skip (part_skip (part_skip (part_skip part_here)))
theorem part_out (s : St F) (X) : Part (τ := τ) (Ix := Ix) (Name := Name) (U := U) (Lvl := Lvl) c M s { s with out := X } M.out s.out X :=
  part_skip (part_skip (part_skip (part_skip (part_skip part_here))))
theorem part_qc (s : St F) (X) : Part (τ := τ) (Ix := Ix) (Name := Name) (U := U) (Lvl := Lvl) c M s { s with qc := X } M.qc s.qc X :=
  part_skip (part_skip (part_skip (part_skip (part_skip (part_skip part_here)))))
theorem part_qs (s : St F) (X) : Part (τ := τ) (Ix := Ix) (Name := Name) (U := U) (Lvl := Lvl) c M s { s with qs := X } M.qs s.qs X :=
  part_skip (part_skip (part_skip (part_skip (part_skip (part_skip (part_skip part_here))))))
theorem part_kb (s : St F) (X) : Part (τ := τ) (Ix := Ix) (Name := Name) (U := U) (Lvl := Lvl) c M s { s with kb := X } M.kb s.kb X :=
  part_skip (part_skip (part_skip (part_skip (part_skip (part_skip (part_skip (part_skip part_here)))))))
theorem part_qb (s : St F) (X) : Part (τ := τ) (Ix := Ix) (Name := Name) (U := U) (Lvl := Lvl) c M s { s with qb := X } M.qb s.qb X :=
  part_skip (part_skip (part_skip (part_skip (part_skip (part_skip (part_skip (part_skip (part_skip part_here))))))))
theorem part_qr (s : St F) (X) : Part (τ := τ) (Ix := Ix) (Name := Name) (U := U) (Lvl := Lvl) c M s { s with qr := X } M.qr s.qr X :=
  part_skip (part_skip (part_skip (part_skip (part_skip (part_skip (part_skip (part_skip (part_skip (part_skip part_here)))))))))
theorem part_raw (s : St F) (X) : Part (τ := τ) (Ix := Ix) (Name := Name) (U := U) (Lvl := Lvl) c M s { s with raw := X } M.raw s.raw X :=
  part_skip (part_skip (part_skip (part_skip (part_skip (part_skip (part_skip (part_skip (part_skip (part_skip (part_skip part_last))))))))))

theorem ok_ks {s : St F} {r : Rect S2x4x16} {hw : (M.ks.access r).Loads} {x : r.shape.Idx} {k : F .f32 → Body F nD τ sig Λ}
    (hk : Ok defs 𝒱 c bd E Q M s (k (s.ks (r.emb x)))) : Ok defs 𝒱 c bd E Q M s (smemLoadElt (nD := nD) (Λ := Λ) (Val := Elt F) M.ks r hw x k) := by
  unfold Ok at hk ⊢
  iintro H
  icases (part_ks s) $$ H with ⟨H, HR⟩
  iapply (wp_ks defs 𝒱 c bd E Q M.ks s.ks r x k) $$ H
  iintro H
  iapply hk
  iapply HR
  iexact H

end

end Attn
-- ==== Proof.Quant.lean ====
/- What the quantiser's blocks leave: the codes of every 128-row block and head, the same codes in the order the
   chunks read them, and the scales, along the chunks' lanes and per block and head. -/
module

public import proofs.«01_k».proof.Proof.Wp
public import Idealize.ShloMosaic.Lib.Pipeline.Value
public import Idealize.ShloMosaic.Lib.Pipeline.ValueKit.Geometry

@[expose] public section

noncomputable section

namespace Attn

open Idealize.ShloMosaic Idealize.ShloMosaic.TcCoe
open Idealize.SL Idealize.SL.RA Idealize.SL.BI Idealize.SL.Sem

/-! ## Indices -/

def ix2 {p q : ℕ} (a : Fin p) (b : Fin q) : (⟨2, ![p, q]⟩ : Shape).Idx := fun x => match x with
  | 0 => a
  | 1 => b

def ix3 {p q r : ℕ} (a : Fin p) (b : Fin q) (c : Fin r) : (⟨3, ![p, q, r]⟩ : Shape).Idx := fun x => match x with
  | 0 => a
  | 1 => b
  | 2 => c

theorem idx2_ext {p q : ℕ} {y z : (⟨2, ![p, q]⟩ : Shape).Idx} (h0 : (y 0).val = (z 0).val) (h1 : (y 1).val = (z 1).val) : y = z :=
  funext fun x => match x with
    | 0 => Fin.ext h0
    | 1 => Fin.ext h1

theorem idx3_ext {p q r : ℕ} {y z : (⟨3, ![p, q, r]⟩ : Shape).Idx} (h0 : (y 0).val = (z 0).val) (h1 : (y 1).val = (z 1).val)
    (h2 : (y 2).val = (z 2).val) : y = z :=
  funext fun x => match x with
    | 0 => Fin.ext h0
    | 1 => Fin.ext h1
    | 2 => Fin.ext h2

/-! ## Puts and windows at an index -/

section Put
variable {α : Type}

theorem put2_in {p q a b m n : ℕ} (X : (⟨2, ![p, q]⟩ : Shape).Idx → α) (w : (⟨2, ![m, n]⟩ : Shape).Idx → α) (y : (⟨2, ![p, q]⟩ : Shape).Idx)
    (z : (⟨2, ![m, n]⟩ : Shape).Idx) (h0 : (y 0).val = a + (z 0).val) (h1 : (y 1).val = b + (z 1).val) :
    VecWindow.put X ![a, b] ![m, n] w y = w z := by
  have hz0 := (z 0).isLt
  have hz1 := (z 1).isLt
  have h : ∀ x : Fin 2, (![a, b] : Fin 2 → ℕ) x ≤ (y x).val ∧ (y x).val < (![a, b] : Fin 2 → ℕ) x + (![m, n] : Fin 2 → ℕ) x := fun x => match x with
    | 0 => ⟨by show a ≤ (y 0).val; omega, by show (y 0).val < a + m; rw [h0]; exact Nat.add_lt_add_left hz0 a⟩
    | 1 => ⟨by show b ≤ (y 1).val; omega, by show (y 1).val < b + n; rw [h1]; exact Nat.add_lt_add_left hz1 b⟩
  unfold VecWindow.put
  have e0 : (y 0).val - a = (z 0).val := by omega
  have e1 : (y 1).val - b = (z 1).val := by omega
  exact (dif_pos h).trans (congrArg w (idx2_ext (p := m) (q := n) (z := z) e0 e1))

theorem put2_out {p q a b m n : ℕ} (X : (⟨2, ![p, q]⟩ : Shape).Idx → α) (w : (⟨2, ![m, n]⟩ : Shape).Idx → α) (y : (⟨2, ![p, q]⟩ : Shape).Idx)
    (hy : (y 0).val < a ∨ a + m ≤ (y 0).val ∨ (y 1).val < b ∨ b + n ≤ (y 1).val) : VecWindow.put X ![a, b] ![m, n] w y = X y := by
  unfold VecWindow.put
  refine dif_neg fun h => ?_
  have h0 : a ≤ (y 0).val ∧ (y 0).val < a + m := h 0
  have h1 : b ≤ (y 1).val ∧ (y 1).val < b + n := h 1
  omega

theorem put3_in {p q r a b c m n o : ℕ} (X : (⟨3, ![p, q, r]⟩ : Shape).Idx → α) (w : (⟨3, ![m, n, o]⟩ : Shape).Idx → α)
    (y : (⟨3, ![p, q, r]⟩ : Shape).Idx) (z : (⟨3, ![m, n, o]⟩ : Shape).Idx) (h0 : (y 0).val = a + (z 0).val) (h1 : (y 1).val = b + (z 1).val)
    (h2 : (y 2).val = c + (z 2).val) : VecWindow.put X ![a, b, c] ![m, n, o] w y = w z := by
  have hz0 := (z 0).isLt
  have hz1 := (z 1).isLt
  have hz2 := (z 2).isLt
  have h : ∀ x : Fin 3, (![a, b, c] : Fin 3 → ℕ) x ≤ (y x).val ∧ (y x).val < (![a, b, c] : Fin 3 → ℕ) x + (![m, n, o] : Fin 3 → ℕ) x := fun x => match x with
    | 0 => ⟨by show a ≤ (y 0).val; omega, by show (y 0).val < a + m; rw [h0]; exact Nat.add_lt_add_left hz0 a⟩
    | 1 => ⟨by show b ≤ (y 1).val; omega, by show (y 1).val < b + n; rw [h1]; exact Nat.add_lt_add_left hz1 b⟩
    | 2 => ⟨by show c ≤ (y 2).val; omega, by show (y 2).val < c + o; rw [h2]; exact Nat.add_lt_add_left hz2 c⟩
  unfold VecWindow.put
  have e0 : (y 0).val - a = (z 0).val := by omega
  have e1 : (y 1).val - b = (z 1).val := by omega
  have e2 : (y 2).val - c = (z 2).val := by omega
  exact (dif_pos h).trans (congrArg w (idx3_ext (p := m) (q := n) (r := o) (z := z) e0 e1 e2))

theorem put3_out {p q r a b c m n o : ℕ} (X : (⟨3, ![p, q, r]⟩ : Shape).Idx → α) (w : (⟨3, ![m, n, o]⟩ : Shape).Idx → α)
    (y : (⟨3, ![p, q, r]⟩ : Shape).Idx)
    (hy : (y 1).val < b ∨ b + n ≤ (y 1).val ∨ (y 2).val < c ∨ c + o ≤ (y 2).val) : VecWindow.put X ![a, b, c] ![m, n, o] w y = X y := by
  unfold VecWindow.put
  refine dif_neg fun h => ?_
  have h1 : b ≤ (y 1).val ∧ (y 1).val < b + n := h 1
  have h2 : c ≤ (y 2).val ∧ (y 2).val < c + o := h 2
  omega

theorem win2 {p q a b : ℕ} {size : Fin 2 → ℕ} (X : (⟨2, ![p, q]⟩ : Shape).Idx → α) (inb)
    (z : (Rect.unit (s := ⟨2, ![p, q]⟩) ![a, b] size inb).shape.Idx) (y : (⟨2, ![p, q]⟩ : Shape).Idx)
    (h0 : (y 0).val = a + (z 0).val) (h1 : (y 1).val = b + (z 1).val) : VecWindow.window X ![a, b] size inb z = X y :=
  congrArg X (idx2_ext ((ValueKit.rect_emb_unit_val (s := ⟨2, ![p, q]⟩) ![a, b] size inb z 0).trans h0.symm)
    ((ValueKit.rect_emb_unit_val (s := ⟨2, ![p, q]⟩) ![a, b] size inb z 1).trans h1.symm))

theorem win3 {p q r a b c : ℕ} {size : Fin 3 → ℕ} (X : (⟨3, ![p, q, r]⟩ : Shape).Idx → α) (inb)
    (z : (Rect.unit (s := ⟨3, ![p, q, r]⟩) ![a, b, c] size inb).shape.Idx) (y : (⟨3, ![p, q, r]⟩ : Shape).Idx)
    (h0 : (y 0).val = a + (z 0).val) (h1 : (y 1).val = b + (z 1).val) (h2 : (y 2).val = c + (z 2).val) :
    VecWindow.window X ![a, b, c] size inb z = X y :=
  congrArg X (idx3_ext ((ValueKit.rect_emb_unit_val (s := ⟨3, ![p, q, r]⟩) ![a, b, c] size inb z 0).trans h0.symm)
    ((ValueKit.rect_emb_unit_val (s := ⟨3, ![p, q, r]⟩) ![a, b, c] size inb z 1).trans h1.symm)
    ((ValueKit.rect_emb_unit_val (s := ⟨3, ![p, q, r]⟩) ![a, b, c] size inb z 2).trans h2.symm))

end Put

/-! ## The targets -/

section Pure
variable {F : FTy → Type} [FloatOps F]

/-- One 128-row block of one head. -/
def tile (x : Vec F S1x1024x896 .bf16) (q : Fin 8) (h : Fin 7) : FVec F S128x128 .bf16 := fun y =>
  x (ix3 (0 : Fin 1) ⟨128 * q.val + (y 0).val, by have : (y 0).val < 128 := (y 0).isLt; omega⟩
    ⟨128 * h.val + (y 1).val, by have : (y 1).val < 128 := (y 1).isLt; omega⟩)

/-- Its scale. -/
def scaleT (x : Vec F S1x1024x896 .bf16) (q : Fin 8) (h : Fin 7) : F .f32 := tileScale (tile x q h) (ix2 (0 : Fin 1) (0 : Fin 1))

/-- Its codes, widened to be multiplied. -/
def wideT (x : Vec F S1x1024x896 .bf16) (q : Fin 8) (h : Fin 7) : FVec F S128x128 .bf16 := truncf .bf16 (tileCodes (tile x q h)) (by decide)

theorem lt3 {y : S1x1024x896.Idx} : (y 1).val < 1024 ∧ (y 2).val < 896 := ⟨(y 1).isLt, (y 2).isLt⟩

/-- The codes of the whole block of heads. -/
def qcT (x : Vec F S1x1024x896 .bf16) : Vec F S1x1024x896 .i8 := fun y =>
  fptosi 8 (tileCodes (tile x ⟨(y 1).val / 128, by have := @lt3 y; omega⟩ ⟨(y 2).val / 128, by have := @lt3 y; omega⟩))
    (ix2 ⟨(y 1).val % 128, Nat.mod_lt _ (by decide)⟩ ⟨(y 2).val % 128, Nat.mod_lt _ (by decide)⟩)

theorem lt2 {y : S7168x128.Idx} : (y 0).val < 7168 ∧ (y 1).val < 128 := ⟨(y 0).isLt, (y 1).isLt⟩

/-- The same codes in the chunks' order: blocks, then sixteen tokens at a time, then heads. -/
def qbT (x : Vec F S1x1024x896 .bf16) : Vec F S7168x128 .bf16 := fun y =>
  wideT x ⟨(y 0).val / 896, by have := @lt2 y; omega⟩ ⟨(y 0).val % 112 / 16, by omega⟩
    (ix2 ⟨16 * ((y 0).val % 896 / 112) + (y 0).val % 16, by omega⟩ ⟨(y 1).val, (@lt2 y).2⟩)

/-- The scales along the chunks' lanes. -/
def qrT (x : Vec F S1x1024x896 .bf16) : Vec F S8x896 .f32 := fun y => scaleT x (y 0) ⟨(y 1).val % 112 / 16, by omega⟩

/-- The scales per block and head: the group of heads `a1` writes its seven columns. -/
def qsT (a1 : ℕ) (x : Vec F S1x1024x896 .bf16) (old : Vec F S1x8x28 .f32) : Vec F S1x8x28 .f32 := fun y =>
  if h : 7 * a1 ≤ (y 2).val ∧ (y 2).val < 7 * a1 + 7 then scaleT x (y 1) ⟨(y 2).val - 7 * a1, by omega⟩ else old y

end Pure

/-! ## The quantiser's loops -/

section Loops
variable {nD : ℕ} {τ : Topo} {sig : RefSig} {Λ : Labels} {Ix : Type} [DecidableEq Ix] {Name : Type} [DecidableEq Name]
variable {U : Type} [URA U] {Lvl : Type} [Preorder Lvl]
variable {F : FTy → Type} [FloatOps F]
variable {defs : Defs nD τ sig (Elt F) Λ} {𝒱 : Variants} {c : Dev nD} {bd : Option 𝒱.V} {E : Set Name}
variable {Q : PUnit.{1} → sProp (MT nD τ sig Ix (Elt F) Name U Lvl)}
variable {M : Mems sig}

/-- The pieces stored before piece `s` of head `h` of block `q`. -/
def doneB (q h s r : ℕ) : Prop := r / 896 < q ∨ r / 896 = q ∧ (r % 112 / 16 < h ∨ r % 112 / 16 = h ∧ r % 896 / 112 < s)

theorem tile_eq (x : Vec F S1x1024x896 .bf16) (q h : ℕ) (hq : q < 8) (hh : h < 7) (inb) :
    shapeCast S128x128 (s := S1x128x128) (VecWindow.window x ![0, 128 * q, 128 * h] S1x128x128.size inb) = tile x ⟨q, hq⟩ ⟨h, hh⟩ :=
  funext fun y => (shapeCast_dropUnit_apply _ _ _ y).trans (win3 x inb _ _ rfl rfl rfl)

theorem ok_putSubs {s : St F} (q h : ℕ) (hq : q < 8) (hh : h < 7) {k : Body F nD τ sig Λ} : ∀ (n s0 : ℕ) (hs : s0 + n = 8) (B : Vec F S7168x128 .bf16),
    (∀ y : S7168x128.Idx, doneB q h s0 (y 0).val → B y = qbT s.x y) →
    (∀ B' : Vec F S7168x128 .bf16, (∀ y : S7168x128.Idx, doneB q h 8 (y 0).val → B' y = qbT s.x y) → Ok defs 𝒱 c bd E Q M { s with qb := B' } k) →
    Ok defs 𝒱 c bd E Q M { s with qb := B } (putSubs M q h hq hh (wideT s.x ⟨q, hq⟩ ⟨h, hh⟩) n s0 hs k)
  | 0, s0, hs, B, hB, hk => by
    obtain rfl : s0 = 8 := by omega
    exact hk B hB
  | n + 1, s0, hs, B, hB, hk => by
    unfold putSubs
    refine ok_ld (part_qb _ _) (ok_st (part_qb _ _) ?_)
    refine ok_putSubs q h hq hh n (s0 + 1) (by omega) _ (fun y hy => ?_) hk
    have hy0 := (@lt2 y).1
    have hy1 := (@lt2 y).2
    by_cases hin : (y 0).val / 896 = q ∧ (y 0).val % 112 / 16 = h ∧ (y 0).val % 896 / 112 = s0
    · obtain ⟨h1, h2, h3⟩ := hin
      refine (put2_in B _ y (ix2 ⟨(y 0).val % 16, Nat.mod_lt _ (by decide)⟩ ⟨(y 1).val, hy1⟩) (by show _ = _ + (y 0).val % 16; omega)
        (by show _ = 0 + (y 1).val; omega)).trans ?_
      rw [shapeCast_self]
      subst h1 h2
      unfold rows16 extractStridedSlice qbT
      refine congrArg _ (idx2_ext ?_ ?_)
      · show 16 * s0 + (y 0).val % 16 = 16 * ((y 0).val % 896 / 112) + (y 0).val % 16
        omega
      · show 0 + (y 1).val = (y 1).val
        omega
    · refine (put2_out B _ y ?_).trans (hB y ?_)
      · have hs16 : S16x128.size 0 = 16 := rfl
        unfold doneB at hy
        show _ ∨ _ + 16 ≤ _ ∨ _ ∨ _
        omega
      · unfold doneB at hy ⊢
        omega

/-! ## The two rows of scales -/

theorem heads_eq : ∀ j : Fin 896, heads (ix2 (0 : Fin 1) j) = BitVec.ofNat 32 (j.val % 112 / 16) := by decide +kernel

theorem head_word : ∀ a b : Fin 7, (BitVec.ofNat 32 a.val = BitVec.ofNat 32 b.val) ↔ a = b := by decide +kernel

theorem col_word : ∀ (j : Fin 28) (a : Fin 4) (b : Fin 7),
    BitVec.ofNat 32 j.val = Scalar.addi (Scalar.muli (BitVec.ofNat 32 a.val) 7#32) (BitVec.ofNat 32 b.val) ↔ j.val = 7 * a.val + b.val := by
  decide +kernel

theorem cmp_eq (a : BitVec 32) : Scalar.cmpi .eq a a = 1#1 := by simp [Scalar.cmpi, IntOp.cmpi]
theorem cmp_ne {a b : BitVec 32} (h : ¬ a = b) : Scalar.cmpi .eq a b = 0#1 := by show BitVec.ofBool (a == b) = 0#1; rw [beq_eq_false_iff_ne.mpr h]; rfl

/-- The scale lane `j` holds after `h` heads. -/
def coefV (x : Vec F S1x1024x896 .bf16) (q : Fin 8) (h j : ℕ) : F .f32 :=
  if j % 112 / 16 < h then scaleT x q ⟨j % 112 / 16, by omega⟩ else Scalar.ofBits .f32 0x00000000#32

/-- The row of scales along the lanes after `h` heads. -/
def coefT (x : Vec F S1x1024x896 .bf16) (q : Fin 8) (h : ℕ) : FVec F S1x896 .f32 := fun y => coefV x q h (y 1).val

/-- The scale column `j` holds after `h` heads of the group `a1`, over `o`. -/
def srowV (a1 : ℕ) (x : Vec F S1x1024x896 .bf16) (q : Fin 8) (h j : ℕ) (o : F .f32) : F .f32 :=
  if hy : 7 * a1 ≤ j ∧ j < 7 * a1 + h ∧ j < 7 * a1 + 7 then scaleT x q ⟨j - 7 * a1, by omega⟩ else o

/-- The row of scales per head after `h` heads of the group `a1`. -/
def srowT (a1 : ℕ) (x : Vec F S1x1024x896 .bf16) (q : Fin 8) (h : ℕ) (old : FVec F S1x28 .f32) : FVec F S1x28 .f32 := fun y =>
  srowV a1 x q h (y 1).val (old y)

theorem coef_zero (x : Vec F S1x1024x896 .bf16) (q : Fin 8) : zeroRow = coefT x q 0 :=
  funext fun y => by
    show _ = coefV x q 0 (y 1).val
    unfold coefV
    rw [if_neg (Nat.not_lt_zero _)]
    rfl

theorem srow_zero (a1 : ℕ) (x : Vec F S1x1024x896 .bf16) (q : Fin 8) (old : FVec F S1x28 .f32) : old = srowT a1 x q 0 old :=
  funext fun y => by
    show _ = srowV a1 x q 0 (y 1).val _
    unfold srowV
    rw [dif_neg (by omega)]

theorem bcast1 {n : ℕ} (sc : FVec F S1x1 .f32) (hc hb) (y : (⟨2, ![1, n]⟩ : Shape).Idx) :
    broadcastTo ⟨2, ![1, n]⟩ (shapeCast S1x1 sc hc) hb y = sc (ix2 (0 : Fin 1) (0 : Fin 1)) := by
  rw [shapeCast_self]
  exact broadcastTo_apply _ _ _ _ (fun a => match a with
    | 0 => rfl
    | 1 => rfl)

theorem coef_step (x : Vec F S1x1024x896 .bf16) (q : Fin 8) (h : Fin 7) :
    coefStep h.val (tileScale (tile x q h)) (coefT x q h.val) = coefT x q (h.val + 1) := by
  funext y
  obtain ⟨j, rfl⟩ : ∃ j : Fin 896, y = ix2 (0 : Fin 1) j := ⟨y 1, idx2_ext (p := 1) (z := ix2 (0 : Fin 1) (y 1)) (by have : (y 0).val < 1 := (y 0).isLt; show (y 0).val = 0; omega) rfl⟩
  have hw := heads_eq j
  have hm : j.val % 112 / 16 < 7 := by omega
  unfold coefStep select
  show Scalar.select (Scalar.cmpi .eq (heads (ix2 (0 : Fin 1) j)) (BitVec.ofNat 32 h.val)) _ _ = _
  rw [hw, bcast1]
  by_cases e : j.val % 112 / 16 = h.val
  · rw [e]
    have : Scalar.cmpi .eq (BitVec.ofNat 32 h.val) (BitVec.ofNat 32 h.val) = 1#1 := cmp_eq _
    rw [this]
    show _ = coefV x q (h.val + 1) j.val
    unfold coefV
    rw [if_pos (show j.val % 112 / 16 < h.val + 1 by omega)]
    have : (⟨j.val % 112 / 16, hm⟩ : Fin 7) = h := Fin.ext e
    show tileScale (tile x q h) _ = scaleT x q ⟨j.val % 112 / 16, hm⟩
    rw [this]
    rfl
  · have hne : ¬ BitVec.ofNat 32 (j.val % 112 / 16) = BitVec.ofNat 32 h.val := fun e' => e (congrArg Fin.val ((head_word ⟨_, hm⟩ h).1 e'))
    have : Scalar.cmpi .eq (BitVec.ofNat 32 (j.val % 112 / 16)) (BitVec.ofNat 32 h.val) = 0#1 := cmp_ne hne
    rw [this]
    show coefV x q h.val j.val = coefV x q (h.val + 1) j.val
    unfold coefV
    by_cases l : j.val % 112 / 16 < h.val
    · rw [if_pos l, if_pos (by omega)]
    · rw [if_neg l, if_neg (by omega)]

theorem srow_step (a1 : Fin 4) (x : Vec F S1x1024x896 .bf16) (q : Fin 8) (h : Fin 7) (old : FVec F S1x28 .f32) :
    srowStep (BitVec.ofNat 32 a1.val) h.val (tileScale (tile x q h)) (srowT a1.val x q h.val old) = srowT a1.val x q (h.val + 1) old := by
  funext y
  obtain ⟨j, rfl⟩ : ∃ j : Fin 28, y = ix2 (0 : Fin 1) j := ⟨y 1, idx2_ext (p := 1) (z := ix2 (0 : Fin 1) (y 1)) (by have : (y 0).val < 1 := (y 0).isLt; show (y 0).val = 0; omega) rfl⟩
  have hw : cols (ix2 (0 : Fin 1) j) = BitVec.ofNat 32 j.val := iota_single_apply _ _ _ _ _ _
  unfold srowStep select
  show Scalar.select (Scalar.cmpi .eq (cols (ix2 (0 : Fin 1) j)) (Scalar.addi (Scalar.muli (BitVec.ofNat 32 a1.val) 7#32) (BitVec.ofNat 32 h.val))) _ _ = _
  rw [hw, bcast1]
  have hlt := h.isLt
  by_cases e : j.val = 7 * a1.val + h.val
  · have : Scalar.cmpi .eq (BitVec.ofNat 32 j.val) (Scalar.addi (Scalar.muli (BitVec.ofNat 32 a1.val) 7#32) (BitVec.ofNat 32 h.val)) = 1#1 := by
      rw [(col_word j a1 h).2 e]; exact cmp_eq _
    rw [this]
    show _ = srowV a1.val x q (h.val + 1) j.val _
    unfold srowV
    have hy : 7 * a1.val ≤ j.val ∧ j.val < 7 * a1.val + (h.val + 1) ∧ j.val < 7 * a1.val + 7 := by omega
    refine Eq.trans ?_ (dif_pos hy).symm
    have : (⟨j.val - 7 * a1.val, by omega⟩ : Fin 7) = h := Fin.ext (by show j.val - 7 * a1.val = h.val; omega)
    show tileScale (tile x q h) _ = scaleT x q ⟨j.val - 7 * a1.val, _⟩
    rw [this]
    rfl
  · have hne := fun e' => e ((col_word j a1 h).1 e')
    have : Scalar.cmpi .eq (BitVec.ofNat 32 j.val) (Scalar.addi (Scalar.muli (BitVec.ofNat 32 a1.val) 7#32) (BitVec.ofNat 32 h.val)) = 0#1 := cmp_ne hne
    rw [this]
    show srowV a1.val x q h.val j.val _ = srowV a1.val x q (h.val + 1) j.val _
    unfold srowV
    by_cases l : 7 * a1.val ≤ j.val ∧ j.val < 7 * a1.val + h.val ∧ j.val < 7 * a1.val + 7
    · rw [dif_pos l, dif_pos (by omega)]
    · rw [dif_neg l, dif_neg (by omega)]

/-! ## One head, the heads, one block, the blocks -/

/-- The tiles of codes stored before head `h` of block `q`. -/
def doneC (q h t j : ℕ) : Prop := t / 128 < q ∨ t / 128 = q ∧ j / 128 < h

theorem ok_quantHeads {s : St F} (a1 : Fin 4) (q : ℕ) (hq : q < 8) (old : FVec F S1x28 .f32)
    {k : FVec F S1x896 .f32 → FVec F S1x28 .f32 → Body F nD τ sig Λ} :
    ∀ (n h : ℕ) (hs : h + n = 7) (C : Vec F S1x1024x896 .i8) (B : Vec F S7168x128 .bf16),
    (∀ y : S1x1024x896.Idx, doneC q h (y 1).val (y 2).val → C y = qcT s.x y) →
    (∀ y : S7168x128.Idx, doneB q h 0 (y 0).val → B y = qbT s.x y) →
    (∀ (C' : Vec F S1x1024x896 .i8) (B' : Vec F S7168x128 .bf16), (∀ y : S1x1024x896.Idx, doneC q 7 (y 1).val (y 2).val → C' y = qcT s.x y) →
      (∀ y : S7168x128.Idx, doneB q 7 0 (y 0).val → B' y = qbT s.x y) →
      Ok defs 𝒱 c bd E Q M { s with qc := C', qb := B' } (k (coefT s.x ⟨q, hq⟩ 7) (srowT a1.val s.x ⟨q, hq⟩ 7 old))) →
    Ok defs 𝒱 c bd E Q M { s with qc := C, qb := B }
      (quantHeads M (BitVec.ofNat 32 a1.val) q hq n h hs (coefT s.x ⟨q, hq⟩ h) (srowT a1.val s.x ⟨q, hq⟩ h old) k)
  | 0, h, hs, C, B, hC, hB, hk => by
    obtain rfl : h = 7 := by omega
    exact hk C B hC hB
  | n + 1, h, hs, C, B, hC, hB, hk => by
    have hh : h < 7 := by omega
    unfold quantHeads quantHead
    refine ok_ld (part_x _) (ok_ld (part_qc _ _) (ok_st (part_qc _ _) ?_))
    rw [tile_eq s.x q h hq hh]
    rw [coef_step s.x ⟨q, hq⟩ ⟨h, hh⟩, srow_step a1 s.x ⟨q, hq⟩ ⟨h, hh⟩]
    refine ok_putSubs (s := { s with qc := _ }) q h hq hh 8 0 rfl B hB fun B' hB' => ?_
    refine ok_quantHeads a1 q hq old n (h + 1) (by omega) _ B' (fun y hy => ?_) (fun y hy => hB' y ?_) hk
    · have hy1 := (@lt3 y).1
      have hy2 := (@lt3 y).2
      have hy0 : (y 0).val < 1 := (y 0).isLt
      by_cases hin : (y 1).val / 128 = q ∧ (y 2).val / 128 = h
      · obtain ⟨h1, h2⟩ := hin
        refine (put3_in C _ y (ix3 (0 : Fin 1) ⟨(y 1).val % 128, Nat.mod_lt _ (by decide)⟩ ⟨(y 2).val % 128, Nat.mod_lt _ (by decide)⟩)
          (by show _ = 0 + 0; omega) (by show _ = _ + (y 1).val % 128; omega) (by show _ = _ + (y 2).val % 128; omega)).trans ?_
        refine (shapeCast_addUnit_apply _ _ _ _).trans ?_
        subst h1 h2
        exact congrArg _ (idx2_ext rfl rfl)
      · refine (put3_out C _ y ?_).trans (hC y ?_)
        · unfold doneC at hy
          show _ ∨ _ + 128 ≤ _ ∨ _ ∨ _ + 128 ≤ _
          omega
        · unfold doneC at hy ⊢
          omega
    · have hy0 := (@lt2 y).1
      unfold doneB at hy ⊢
      omega

theorem ok_quantRows {s : St F} (a1 : Fin 4) (old : Vec F S1x8x28 .f32) {k : Body F nD τ sig Λ} :
    ∀ (n q : ℕ) (hs : q + n = 8) (C : Vec F S1x1024x896 .i8) (B : Vec F S7168x128 .bf16) (R : Vec F S8x896 .f32) (S : Vec F S1x8x28 .f32),
    (∀ y : S1x1024x896.Idx, doneC q 0 (y 1).val (y 2).val → C y = qcT s.x y) →
    (∀ y : S7168x128.Idx, doneB q 0 0 (y 0).val → B y = qbT s.x y) →
    (∀ y : S8x896.Idx, (y 0).val < q → R y = qrT s.x y) →
    (∀ y : S1x8x28.Idx, S y = if (y 1).val < q then qsT a1.val s.x old y else old y) →
    Ok defs 𝒱 c bd E Q M { s with qc := qcT s.x, qb := qbT s.x, qr := qrT s.x, qs := qsT a1.val s.x old } k →
    Ok defs 𝒱 c bd E Q M { s with qc := C, qb := B, qr := R, qs := S } (quantRows M (BitVec.ofNat 32 a1.val) n q hs k)
  | 0, q, hs, C, B, R, S, hC, hB, hR, hS, hk => by
    obtain rfl : q = 8 := by omega
    have e1 : C = qcT s.x := funext fun y => hC y (by have := (@lt3 y).1; unfold doneC; omega)
    have e2 : B = qbT s.x := funext fun y => hB y (by have := (@lt2 y).1; unfold doneB; omega)
    have e3 : R = qrT s.x := funext fun y => hR y (y 0).isLt
    have e4 : S = qsT a1.val s.x old := funext fun y => (hS y).trans (if_pos (y 1).isLt)
    rw [e1, e2, e3, e4]
    exact hk
  | n + 1, q, hs, C, B, R, S, hC, hB, hR, hS, hk => by
    have hq : q < 8 := by omega
    unfold quantRows quantRow quantRowFrom
    refine ok_ld (part_qs _ _) ?_
    rw [coef_zero s.x ⟨q, hq⟩]
    generalize hsrow : shapeCast S1x28 (s := S1x1x28) _ _ = srow
    have hsrow' : ∀ j : Fin 28, srow (ix2 (0 : Fin 1) j) = old (ix3 (0 : Fin 1) ⟨q, hq⟩ j) := fun j => by
      subst hsrow
      refine (shapeCast_dropUnit_apply _ _ _ _).trans ?_
      refine (win3 S _ _ (ix3 (0 : Fin 1) ⟨q, hq⟩ j) rfl rfl (by show j.val = 0 + j.val; omega)).trans ?_
      refine (hS _).trans (if_neg (Nat.lt_irrefl q))
    rw [srow_zero a1.val s.x ⟨q, hq⟩ srow]
    refine ok_quantHeads (s := { s with qr := R, qs := S }) a1 q hq srow 7 0 rfl C B hC hB fun C' B' hC' hB' => ?_
    unfold closeRow
    refine ok_ld (part_qr _ _) (ok_st (part_qr _ _) (ok_ld (part_qs _ _) (ok_st (part_qs _ _) ?_)))
    refine ok_quantRows (s := s) a1 old n (q + 1) (by omega) C' B' _ _ (fun y hy => hC' y ?_) (fun y hy => hB' y ?_) (fun y hy => ?_) (fun y => ?_) hk
    · have := (@lt3 y).2
      unfold doneC at hy ⊢
      omega
    · unfold doneB at hy ⊢
      omega
    · by_cases hin : (y 0).val = q
      · refine (put2_in R _ y (ix2 (0 : Fin 1) (y 1)) (by show _ = q + 0; omega) (by show _ = 0 + (y 1).val; omega)).trans ?_
        rw [shapeCast_self]
        subst hin
        exact if_pos (show (y 1).val % 112 / 16 < 7 by omega)
      · refine (put2_out R _ y ?_).trans (hR y (by omega))
        show _ ∨ q + 1 ≤ _ ∨ _
        omega
    · have hy0 : (y 0).val < 1 := (y 0).isLt
      by_cases hin : (y 1).val = q
      · refine (put3_in S _ y (ix3 (0 : Fin 1) (0 : Fin 1) (y 2)) (by show _ = 0 + 0; omega) (by show _ = q + 0; omega) (by show _ = 0 + (y 2).val; omega)).trans ?_
        refine (shapeCast_addUnit_apply _ _ _ _).trans ?_
        rw [if_pos (by omega)]
        subst hin
        have hz : (fun a : Fin 2 => (ix3 (0 : Fin 1) (0 : Fin 1) (y 2)) a.succ) = ix2 (0 : Fin 1) (y 2) := idx2_ext rfl rfl
        have hyy : y = ix3 (0 : Fin 1) (y 1) (y 2) := idx3_ext (by show (y 0).val = 0; omega) rfl rfl
        show srowV a1.val s.x (y 1) 7 (y 2).val _ = _
        unfold srowV qsT
        by_cases l : 7 * a1.val ≤ (y 2).val ∧ (y 2).val < 7 * a1.val + 7
        · rw [dif_pos l, dif_pos (by omega)]
        · rw [dif_neg l, dif_neg (by omega)]
          exact (congrArg srow hz).trans ((hsrow' (y 2)).trans (congrArg old hyy.symm))
      · refine (put3_out S _ y ?_).trans ((hS y).trans ?_)
        · show _ ∨ q + 1 ≤ _ ∨ _
          omega
        · by_cases l : (y 1).val < q
          · rw [if_pos l, if_pos (by omega)]
          · rw [if_neg l, if_neg (by omega)]

end Loops

end Attn
-- ==== Proof.Chunk.lean ====
/- What the chunks leave: the raw scores of a chunk's groups of keys, what the two passes over them make, and the
   sixteen tiles of the attention it stores. -/
module

public import proofs.«01_k».proof.Proof.Quant

@[expose] public section

noncomputable section

namespace Attn

open Idealize.ShloMosaic Idealize.ShloMosaic.TcCoe
open Idealize.SL Idealize.SL.RA Idealize.SL.BI Idealize.SL.Sem

section Pure
variable {F : FTy → Type} [FloatOps F]

/-- The tokens of the chunk's lanes. -/
def qtokC (c : ℕ) : IVec S1x256 32 := if h : 256 * c % 896 + 256 ≤ 896 then qtok1 c h else qtok2 (256 * c / 896)

/-- The scales along the chunk's lanes. -/
def coefC (qr : Vec F S8x896 .f32) (c : ℕ) (hc : c < 28) : FVec F S1x256 .f32 :=
  if h : 256 * c % 896 + 256 ≤ 896 then VecWindow.window (s := S8x896) qr ![256 * c / 896, 256 * c % 896] S1x256.size (inb2 (by omega) h)
  else coef2 (VecWindow.window (s := S8x896) qr ![256 * c / 896, 768] S1x128.size (inb2 (by omega) (by omega)))
    (VecWindow.window (s := S8x896) qr ![256 * c / 896 + 1, 0] S1x128.size (inb2 (by omega) (by omega)))

/-- The chunk's query codes. -/
def qtC (qb : Vec F S7168x128 .bf16) (c : ℕ) (hc : c < 28) : FVec F S256x128 .bf16 :=
  VecWindow.window (s := S7168x128) qb ![256 * c, 0] S256x128.size (inb2 (by omega) (by omega))

/-- The raw scores of group `g`. -/
def rawG (c : ℕ) (qtok : IVec S1x256 32) (kb : Vec F S1024x128 .bf16) (qt : FVec F S256x128 .bf16) (g : Fin 16) : FVec F S64x256 .f32 :=
  rawOf c g.val qtok (VecWindow.window (s := S1024x128) kb ![64 * g.val, 0] S64x128.size (inb2 (by omega) (by omega))) qt

theorem ltR {y : S1024x256.Idx} : (y 0).val < 1024 ∧ (y 1).val < 256 := ⟨(y 0).isLt, (y 1).isLt⟩

/-- The raw scores of all the groups, stacked. -/
def rawT (c : ℕ) (qtok : IVec S1x256 32) (kb : Vec F S1024x128 .bf16) (qt : FVec F S256x128 .bf16) : Vec F S1024x256 .f32 := fun y =>
  rawG c qtok kb qt ⟨(y 0).val / 64, by have := (@ltR y).1; omega⟩ (ix2 ⟨(y 0).val % 64, Nat.mod_lt _ (by decide)⟩ ⟨(y 1).val, (@ltR y).2⟩)

/-- The scale of group `g` of the keys. -/
def ksAt (ks : Vec F S2x4x16 .f32) (a0 : Fin 2) (a1 : Fin 4) (g : ℕ) (hg : g < 16) : F .f32 :=
  ks ((Rect.unit (s := S2x4x16) ![a0.val, a1.val, g] S1x1x1.size (inb3 (by omega) (by omega) (by omega))).emb (Shape.Idx.first (s := S1x1x1) (by decide)))

/-- What a unit of raw score is worth, of the groups `g, …`, `n` of them. -/
def cgsL (ks : Vec F S2x4x16 .f32) (a0 : Fin 2) (a1 : Fin 4) (coef : FVec F S1x256 .f32) : (n g : ℕ) → g + n ≤ 16 → List (FVec F S1x256 .f32)
  | 0, _, _ => []
  | n + 1, g, hg => cgOf coef (ksAt ks a0 a1 g (by omega)) :: cgsL ks a0 a1 coef n (g + 1) (by omega)

theorem cgsL_length (ks : Vec F S2x4x16 .f32) (a0 : Fin 2) (a1 : Fin 4) (coef : FVec F S1x256 .f32) :
    (n g : ℕ) → (hg : g + n ≤ 16) → (cgsL ks a0 a1 coef n g hg).length = n
  | 0, _, _ => rfl
  | n + 1, g, hg => congrArg (· + 1) (cgsL_length ks a0 a1 coef n (g + 1) (by omega))

/-- The running maximum after the groups `g, …`, `n` of them. -/
def m8L (ks : Vec F S2x4x16 .f32) (a0 : Fin 2) (a1 : Fin 4) (coef : FVec F S1x256 .f32) (raw : Fin 16 → FVec F S64x256 .f32) :
    (n g : ℕ) → g + n ≤ 16 → FVec F S8x256 .f32 → FVec F S8x256 .f32
  | 0, _, _, m8 => m8
  | n + 1, g, hg, m8 => m8L ks a0 a1 coef raw n (g + 1) (by omega) (m8Of m8 (raw ⟨g, by omega⟩) (cgOf coef (ksAt ks a0 a1 g (by omega))))

/-- The codes of the probabilities of the groups from `g` on. -/
def psL (raw : Fin 16 → FVec F S64x256 .f32) (shift : FVec F S1x256 .f32) : (cgs : List (FVec F S1x256 .f32)) → (g : ℕ) → g + cgs.length ≤ 16 →
    List (FVec F S64x256 .fp8e4m3)
  | [], _, _ => []
  | cg :: cgs, g, hg => pcOf (pOf (raw ⟨g, by rw [List.length_cons] at hg; omega⟩) cg shift) ::
      psL raw shift cgs (g + 1) (by rw [List.length_cons] at hg; omega)

theorem psL_length (raw : Fin 16 → FVec F S64x256 .f32) (shift : FVec F S1x256 .f32) : (cgs : List (FVec F S1x256 .f32)) → (g : ℕ) →
    (hg : g + cgs.length ≤ 16) → (psL raw shift cgs g hg).length = cgs.length
  | [], _, _ => rfl
  | cg :: cgs, g, hg => congrArg (· + 1) (psL_length raw shift cgs (g + 1) (by rw [List.length_cons] at hg; omega))

/-- The sum of the probabilities, eight rows of it. -/
def l8L (raw : Fin 16 → FVec F S64x256 .f32) (shift : FVec F S1x256 .f32) : (cgs : List (FVec F S1x256 .f32)) → (g : ℕ) → g + cgs.length ≤ 16 →
    FVec F S8x256 .f32 → FVec F S8x256 .f32
  | [], _, _, l8 => l8
  | cg :: cgs, g, hg, l8 => l8L raw shift cgs (g + 1) (by rw [List.length_cons] at hg; omega)
      (l8Of l8 (pOf (raw ⟨g, by rw [List.length_cons] at hg; omega⟩) cg shift))

/-- The first `64 n` columns of the values. -/
def vWin (v : Vec F S1x1x128x1024 .fp8e4m3) (c : ℕ) (hc : c < 28) : Vec F (Vals4 (64 * wGroups c)) .fp8e4m3 :=
  VecWindow.window (s := S1x1x128x1024) v ![0, 0, 0, 0] (Vals4 (64 * wGroups c)).size (inb4 (by omega) (by omega) (by omega) (wGroups_le c hc))

/-- A chunk's result, from what the two passes over its raw scores make. -/
def chunkOf (ks : Vec F S2x4x16 .f32) (a0 : Fin 2) (a1 : Fin 4) (coef : FVec F S1x256 .f32) (raw : Fin 16 → FVec F S64x256 .f32)
    (vscol : FVec F S128x256 .f32) (v : Vec F S1x1x128x1024 .fp8e4m3) (c : ℕ) (hc : c < 28) : FVec F S256x128 .bf16 :=
  have hn := nGroups_le c hc
  have hl : 0 + (cgsL ks a0 a1 coef (nGroups c) 0 hn).length ≤ 16 := by rw [cgsL_length]; exact hn
  outOf (wGroups c) (wGroups_two c) vscol (vWin v c hc)
    (l8L raw (shiftOf (m8L ks a0 a1 coef raw (nGroups c) 0 hn m8Init)) (cgsL ks a0 a1 coef (nGroups c) 0 hn) 0 hl l8Init)
    (padTo c (psL raw (shiftOf (m8L ks a0 a1 coef raw (nGroups c) 0 hn m8Init)) (cgsL ks a0 a1 coef (nGroups c) 0 hn) 0 hl))
    (padTo_length c _ ((psL_length _ _ _ _ _).trans (cgsL_length _ _ _ _ _ _ _)))

/-- A chunk's result, from the arrays the body holds. -/
def chunkOut (s : St F) (vscol : FVec F S128x256 .f32) (a0 : Fin 2) (a1 : Fin 4) (c : ℕ) (hc : c < 28) : FVec F S256x128 .bf16 :=
  chunkOf s.ks a0 a1 (coefC s.qr c hc) (rawG c (qtokC c) s.kb (qtC s.qb c hc)) vscol s.v c hc

/-- The attention, from the chunks' results. -/
def outA (f : (c : ℕ) → c < 28 → FVec F S256x128 .bf16) : Vec F S1x1024x896 .bf16 := fun y =>
  f (((y 1).val / 16 * 7 + (y 2).val / 128) / 16) (by have := @lt3 y; omega)
    (ix2 ⟨16 * (((y 1).val / 16 * 7 + (y 2).val / 128) % 16) + (y 1).val % 16, by omega⟩ ⟨(y 2).val % 128, by omega⟩)

theorem rawT_at (c : ℕ) (qtok : IVec S1x256 32) (kb : Vec F S1024x128 .bf16) (qt : FVec F S256x128 .bf16) (g : ℕ) (hg : g < 16) (y : S1024x256.Idx)
    (z : S64x256.Idx) (h0 : (y 0).val = 64 * g + (z 0).val) (h1 : (y 1).val = (z 1).val) :
    rawT c qtok kb qt y = rawG c qtok kb qt ⟨g, hg⟩ z := by
  have hz : (z 0).val < 64 := (z 0).isLt
  unfold rawT
  have e : (⟨(y 0).val / 64, by have := (@ltR y).1; omega⟩ : Fin 16) = ⟨g, hg⟩ := Fin.ext (by show (y 0).val / 64 = g; omega)
  rw [e]
  exact congrArg _ (idx2_ext (p := 64) (q := 256) (z := z) (by show (y 0).val % 64 = (z 0).val; omega) h1)

end Pure

section Loops
variable {nD : ℕ} {τ : Topo} {sig : RefSig} {Λ : Labels} {Ix : Type} [DecidableEq Ix] {Name : Type} [DecidableEq Name]
variable {U : Type} [URA U] {Lvl : Type} [Preorder Lvl]
variable {F : FTy → Type} [FloatOps F]
variable {defs : Defs nD τ sig (Elt F) Λ} {𝒱 : Variants} {d : Dev nD} {bd : Option 𝒱.V} {E : Set Name}
variable {Q : PUnit.{1} → sProp (MT nD τ sig Ix (Elt F) Name U Lvl)}
variable {M : Mems sig}

theorem ok_scores {s : St F} (a0 : Fin 2) (a1 : Fin 4) (c : ℕ) (qtok : IVec S1x256 32) (coef : FVec F S1x256 .f32) (qt : FVec F S256x128 .bf16) :
    ∀ (n g : ℕ) (hg : g + n ≤ 16) (m8 : FVec F S8x256 .f32)
      (k : (cgs : List (FVec F S1x256 .f32)) → cgs.length = n → FVec F S8x256 .f32 → Body F nD τ sig Λ) (W : Vec F S1024x256 .f32),
    (∀ y : S1024x256.Idx, (y 0).val < 64 * g → W y = rawT c qtok s.kb qt y) →
    (∀ W' : Vec F S1024x256 .f32, (∀ y : S1024x256.Idx, (y 0).val < 64 * (g + n) → W' y = rawT c qtok s.kb qt y) →
      Ok defs 𝒱 d bd E Q M { s with raw := W' } (k (cgsL s.ks a0 a1 coef n g hg) (cgsL_length _ _ _ _ _ _ _)
        (m8L s.ks a0 a1 coef (rawG c qtok s.kb qt) n g hg m8))) →
    Ok defs 𝒱 d bd E Q M { s with raw := W } (scores M a0.val a1.val c a0.isLt a1.isLt qtok coef qt n g hg m8 k)
  | 0, g, hg, m8, k, W, hW, hk => hk W hW
  | n + 1, g, hg, m8, k, W, hW, hk => by
    unfold scores score
    refine ok_ld (part_kb _ _) (ok_ld (part_raw _ _) (ok_st (part_raw _ _) (ok_ks ?_)))
    refine ok_scores (s := s) a0 a1 c qtok coef qt n (g + 1) (by omega) _ _ _ (fun y hy => ?_) fun W' hW' => hk W' fun y hy => hW' y (by omega)
    by_cases hin : 64 * g ≤ (y 0).val
    · refine (put2_in W _ y (ix2 ⟨(y 0).val - 64 * g, by omega⟩ (y 1)) (by show _ = 64 * g + ((y 0).val - 64 * g); omega) (by show _ = 0 + (y 1).val; omega)).trans ?_
      rw [shapeCast_self]
      exact (rawT_at c qtok s.kb qt g (by omega) y _ (by show _ = 64 * g + ((y 0).val - 64 * g); omega) rfl).symm
    · exact (put2_out W _ y (.inl (by omega))).trans (hW y (by omega))

theorem ok_probs {s : St F} (N : ℕ) (hN : N ≤ 16) (c : ℕ) (qtok : IVec S1x256 32) (kb : Vec F S1024x128 .bf16) (qt : FVec F S256x128 .bf16) (shift : FVec F S1x256 .f32)
    (hW : ∀ y : S1024x256.Idx, (y 0).val < 64 * N → s.raw y = rawT c qtok kb qt y) :
    ∀ (cgs : List (FVec F S1x256 .f32)) (g : ℕ) (hg : g + cgs.length ≤ 16) (hgN : g + cgs.length ≤ N) (l8 : FVec F S8x256 .f32)
      (k : (ps : List (FVec F S64x256 .fp8e4m3)) → ps.length = cgs.length → FVec F S8x256 .f32 → Body F nD τ sig Λ),
    Ok defs 𝒱 d bd E Q M s (k (psL (rawG c qtok kb qt) shift cgs g hg) (psL_length _ _ _ _ _) (l8L (rawG c qtok kb qt) shift cgs g hg l8)) →
    Ok defs 𝒱 d bd E Q M s (probs M shift cgs g hg l8 k)
  | [], g, hg, hgN, l8, k, hk => hk
  | cg :: cgs, g, hg, hgN, l8, k, hk => by
    rw [List.length_cons] at hgN
    unfold probs
    refine ok_ld (part_raw _ _) ?_
    have e : VecWindow.window (s := S1024x256) s.raw ![64 * g, 0] S64x256.size (inb2 (by omega) (by omega)) = rawG c qtok kb qt ⟨g, by omega⟩ := by
      funext z
      have hz : (z 0).val < 64 := (z 0).isLt
      refine (win2 s.raw _ z (ix2 ⟨64 * g + (z 0).val, by omega⟩ (z 1)) rfl (by show (z 1).val = 0 + (z 1).val; omega)).trans ?_
      exact (hW _ (by show 64 * g + (z 0).val < _; omega)).trans (rawT_at c qtok kb qt g (by omega) _ z rfl rfl)
    rw [e]
    refine ok_probs N hN c qtok kb qt shift hW cgs (g + 1) (by omega) (by omega) _ _ hk

theorem ok_tiles {s : St F} (c : ℕ) (hc : c < 28) (f : (c : ℕ) → c < 28 → FVec F S256x128 .bf16) {k : Body F nD τ sig Λ} :
    ∀ (n i : ℕ) (hi : i + n = 16) (O : Vec F S1x1024x896 .bf16),
    (∀ y : S1x1024x896.Idx, (y 1).val / 16 * 7 + (y 2).val / 128 < 16 * c + i → O y = outA f y) →
    (∀ O' : Vec F S1x1024x896 .bf16, (∀ y : S1x1024x896.Idx, (y 1).val / 16 * 7 + (y 2).val / 128 < 16 * (c + 1) → O' y = outA f y) →
      Ok defs 𝒱 d bd E Q M { s with out := O' } k) →
    Ok defs 𝒱 d bd E Q M { s with out := O } (tiles M c hc (f c hc) n i hi k)
  | 0, i, hi, O, hO, hk => hk O fun y hy => hO y (by omega)
  | n + 1, i, hi, O, hO, hk => by
    unfold tiles
    refine ok_ld (part_out _ _) (ok_st (part_out _ _) ?_)
    refine ok_tiles c hc f n (i + 1) (by omega) _ (fun y hy => ?_) hk
    have hy1 := (@lt3 y).1
    have hy2 := (@lt3 y).2
    have hy0 : (y 0).val < 1 := (y 0).isLt
    by_cases hin : (y 1).val / 16 * 7 + (y 2).val / 128 = 16 * c + i
    · refine (put3_in O _ y (ix3 (0 : Fin 1) ⟨(y 1).val % 16, Nat.mod_lt _ (by decide)⟩ ⟨(y 2).val % 128, Nat.mod_lt _ (by decide)⟩)
          (by show _ = 0 + 0; omega) (by show _ = _ + (y 1).val % 16; omega) (by show _ = _ + (y 2).val % 128; omega)).trans ?_
      refine (shapeCast_addUnit_apply _ _ _ _).trans ?_
      unfold outA
      have ec : ((y 1).val / 16 * 7 + (y 2).val / 128) / 16 = c := by omega
      have ei : ((y 1).val / 16 * 7 + (y 2).val / 128) % 16 = i := by omega
      simp only [ec, ei]
      refine congrArg (f c hc) (idx2_ext (p := 256) (q := 128) ?_ ?_)
      · rfl
      · show 0 + (y 2).val % 128 = (y 2).val % 128
        omega
    · refine (put3_out O _ y ?_).trans (hO y (by omega))
      show _ ∨ _ + 16 ≤ _ ∨ _ ∨ _ + 128 ≤ _
      omega

theorem ok_chunkFrom {s : St F} (vscol : FVec F S128x256 .f32) (a0 : Fin 2) (a1 : Fin 4) (c : ℕ) (hc : c < 28) {k : Body F nD τ sig Λ}
    (O : Vec F S1x1024x896 .bf16) (W : Vec F S1024x256 .f32)
    (hO : ∀ y : S1x1024x896.Idx, (y 1).val / 16 * 7 + (y 2).val / 128 < 16 * c → O y = outA (chunkOut s vscol a0 a1) y)
    (hk : ∀ (O' : Vec F S1x1024x896 .bf16) (W' : Vec F S1024x256 .f32),
      (∀ y : S1x1024x896.Idx, (y 1).val / 16 * 7 + (y 2).val / 128 < 16 * (c + 1) → O' y = outA (chunkOut s vscol a0 a1) y) →
      Ok defs 𝒱 d bd E Q M { s with out := O', raw := W' } k) :
    Ok defs 𝒱 d bd E Q M { s with out := O, raw := W } (chunkFrom M vscol a0.val a1.val c a0.isLt a1.isLt hc (qtokC c) (coefC s.qr c hc) k) := by
  unfold chunkFrom
  refine ok_ld (part_qb _ _) ?_
  refine ok_scores (s := { s with out := O }) a0 a1 c (qtokC c) (coefC s.qr c hc) _ (nGroups c) 0 (nGroups_le c hc) m8Init _ W (fun y hy => absurd hy (by omega)) fun W' hW' => ?_
  refine ok_probs (s := { s with out := O, raw := W' }) (0 + nGroups c) (nGroups_le c hc) c (qtokC c) s.kb (qtC s.qb c hc) _ hW' _ 0 _ (by rw [cgsL_length]) _ _ ?_
  refine ok_ld (part_v _) ?_
  exact ok_tiles (s := { s with raw := W' }) c hc (chunkOut s vscol a0 a1) 16 0 rfl O (fun y hy => hO y hy) fun O' hO' => hk O' W' hO'

theorem ok_chunk {s : St F} (vscol : FVec F S128x256 .f32) (a0 : Fin 2) (a1 : Fin 4) (c : ℕ) (hc : c < 28) {k : Body F nD τ sig Λ}
    (O : Vec F S1x1024x896 .bf16) (W : Vec F S1024x256 .f32)
    (hO : ∀ y : S1x1024x896.Idx, (y 1).val / 16 * 7 + (y 2).val / 128 < 16 * c → O y = outA (chunkOut s vscol a0 a1) y)
    (hk : ∀ (O' : Vec F S1x1024x896 .bf16) (W' : Vec F S1024x256 .f32),
      (∀ y : S1x1024x896.Idx, (y 1).val / 16 * 7 + (y 2).val / 128 < 16 * (c + 1) → O' y = outA (chunkOut s vscol a0 a1) y) →
      Ok defs 𝒱 d bd E Q M { s with out := O', raw := W' } k) :
    Ok defs 𝒱 d bd E Q M { s with out := O, raw := W } (chunk M vscol a0.val a1.val c a0.isLt a1.isLt hc k) := by
  have main := ok_chunkFrom (defs := defs) (𝒱 := 𝒱) (d := d) (bd := bd) (E := E) (Q := Q) (M := M) vscol a0 a1 c hc O W hO hk
  unfold chunk
  unfold qtokC coefC at main
  by_cases h : 256 * c % 896 + 256 ≤ 896
  · rw [dif_pos h]
    rw [dif_pos h, dif_pos h] at main
    exact ok_ld (part_qr _ _) main
  · rw [dif_neg h]
    rw [dif_neg h, dif_neg h] at main
    exact ok_ld (part_qr _ _) (ok_ld (part_qr _ _) main)

theorem ok_chunks {s : St F} (vscol : FVec F S128x256 .f32) (a0 : Fin 2) (a1 : Fin 4) :
    ∀ (n c : ℕ) (hc : c + n = 28) (O : Vec F S1x1024x896 .bf16) (W : Vec F S1024x256 .f32),
    (∀ y : S1x1024x896.Idx, (y 1).val / 16 * 7 + (y 2).val / 128 < 16 * c → O y = outA (chunkOut s vscol a0 a1) y) →
    (∀ W' : Vec F S1024x256 .f32, Ok defs 𝒱 d bd E Q M { s with out := outA (chunkOut s vscol a0 a1), raw := W' } (.ret ⟨⟩)) →
    Ok defs 𝒱 d bd E Q M { s with out := O, raw := W } (chunks M vscol a0.val a1.val a0.isLt a1.isLt n c hc)
  | 0, c, hc, O, W, hO, hk => by
    have e : O = outA (chunkOut s vscol a0 a1) := funext fun y => hO y (by have := @lt3 y; omega)
    rw [e]
    exact hk W
  | n + 1, c, hc, O, W, hO, hk => by
    unfold chunks
    exact ok_chunk vscol a0 a1 c (by omega) O W hO fun O' W' hO' => ok_chunks vscol a0 a1 n (c + 1) (by omega) O' W' hO' hk

end Loops

end Attn
-- ==== Proof.BodyRun.lean ====
/- The whole body at one grid step: what it leaves in its results, from what its operands hold. -/
module

public import proofs.«01_k».proof.Proof.Chunk

@[expose] public section

noncomputable section

namespace Attn

open Idealize.ShloMosaic Idealize.ShloMosaic.TcCoe
open Idealize.SL Idealize.SL.RA Idealize.SL.BI Idealize.SL.Sem

section Pure
variable {F : FTy → Type} [FloatOps F]

/-- The keys' codes, widened. -/
def kbT (k : Vec F S1x1x1024x128 .i8) : Vec F S1024x128 .bf16 := sitofp (F := F) .bf16 (shapeCast S1024x128 k)

/-- The scales before the group's own are put in: none for the first group, and the earlier groups' after it. -/
def qsOld (a1 : Fin 4) (old : Vec F S1x8x28 .f32) : Vec F S1x8x28 .f32 :=
  if a1 = 0 then broadcast S1x8x28 (Scalar.ofBits .f32 0x00000000#32) else old

/-- What the body holds once the queries are quantised. -/
def quantSt (a1 : Fin 4) (s : St F) : St F :=
  { s with kb := kbT s.k, qc := qcT s.x, qb := qbT s.x, qr := qrT s.x, qs := qsT a1.val s.x (qsOld a1 s.qs) }

/-- The attention of one grid step. -/
def outT (a0 : Fin 2) (a1 : Fin 4) (s : St F) : Vec F S1x1024x896 .bf16 := outA (chunkOut (quantSt a1 s) (vsCol s.vs) a0 a1)

theorem win_full {s : Shape} {α : Type} (X : s.Idx → α) {off : Fin s.rank → ℕ} (inb : ∀ a, off a + s.size a ≤ s.size a) :
    VecWindow.window X off s.size inb = X :=
  funext fun z => congrArg X (Rect.emb_unit_full inb z)

theorem put_full {s : Shape} {α : Type} (X : s.Idx → α) {off : Fin s.rank → ℕ} (h0 : ∀ a, off a = 0) (w : s.Idx → α) :
    VecWindow.put X off s.size w = w := by
  have inb : ∀ a, off a + s.size a ≤ s.size a := fun a => by rw [h0 a]; omega
  exact (win_full _ inb).symm.trans (VecWindow.window_put_same X off s.size inb w)

theorem zero2 : ∀ a : Fin 2, (![0, 0] : Fin 2 → ℕ) a = 0 := by decide
theorem zero3 : ∀ a : Fin 3, (![0, 0, 0] : Fin 3 → ℕ) a = 0 := by decide

theorem first_iff : ∀ a1 : Fin 4, firstKv (BitVec.ofNat 32 a1.val) = 1#1 ↔ a1 = 0 := by decide

end Pure

section Run
variable {nD : ℕ} {τ : Topo} {sig : RefSig} {Λ : Labels} {Ix : Type} [DecidableEq Ix] {Name : Type} [DecidableEq Name]
variable {U : Type} [URA U] {Lvl : Type} [Preorder Lvl]
variable {F : FTy → Type} [FloatOps F]
variable {defs : Defs nD τ sig (Elt F) Λ} {𝒱 : Variants} {d : Dev nD} {bd : Option 𝒱.V} {E : Set Name}
variable {Q : PUnit.{1} → sProp (MT nD τ sig Ix (Elt F) Name U Lvl)}
variable {M : Mems sig}

theorem ok_bodyRest {s : St F} (a0 : Fin 2) (a1 : Fin 4)
    (hk : ∀ W' : Vec F S1024x256 .f32, Ok defs 𝒱 d bd E Q M { quantSt a1 s with out := outT a0 a1 s, raw := W' } (.ret ⟨⟩)) :
    Ok defs 𝒱 d bd E Q M { s with kb := kbT s.k, qs := qsOld a1 s.qs } (bodyRest M s.vs (BitVec.ofNat 32 a1.val) a0.val a1.val a0.isLt a1.isLt) := by
  unfold bodyRest
  refine ok_quantRows (s := { s with kb := kbT s.k }) a1 (qsOld a1 s.qs) 8 0 rfl s.qc s.qb s.qr (qsOld a1 s.qs) (fun y hy => absurd hy ?_) (fun y hy => absurd hy ?_)
    (fun y hy => absurd hy (by omega)) (fun y => (if_neg (by omega)).symm) ?_
  · unfold doneC; omega
  · unfold doneB; omega
  · exact ok_chunks (s := quantSt a1 s) (vsCol s.vs) a0 a1 28 0 rfl s.out s.raw (fun y hy => absurd hy (by omega)) hk

theorem ok_body {s : St F} (a0 : Fin 2) (a1 : Fin 4)
    (hk : ∀ W' : Vec F S1024x256 .f32, Ok defs 𝒱 d bd E Q M { quantSt a1 s with out := outT a0 a1 s, raw := W' } (.ret ⟨⟩)) :
    Ok defs 𝒱 d bd E Q M s (body M (BitVec.ofNat 32 a1.val) a0.val a1.val a0.isLt a1.isLt) := by
  have rest := ok_bodyRest a0 a1 hk
  unfold body
  refine ok_ld (part_k _) (ok_ld (part_kb _ _) (ok_st (part_kb _ _) (ok_ld (part_vs _) ?_)))
  have ev : VecWindow.window (s := S1x1x1x128) s.vs ![0, 0, 0, 0] S1x1x1x128.size (inb4 (by omega) (by omega) (by omega) (by omega)) = s.vs := win_full s.vs _
  have ekw : VecWindow.window (s := S1x1x1024x128) s.k ![0, 0, 0, 0] S1x1x1024x128.size (inb4 (by omega) (by omega) (by omega) (by omega)) = s.k := win_full s.k _
  have ek : VecWindow.put (s := S1024x128) s.kb ![0, 0] S1024x128.size (shapeCast S1024x128 (sitofp (F := F) .bf16 (shapeCast S1024x128 s.k))) = kbT s.k :=
    (put_full (s := S1024x128) s.kb zero2 _).trans (shapeCast_self _ _)
  rw [ekw, ek]
  show Ok defs 𝒱 d bd E Q M { s with kb := kbT s.k } (if firstKv (BitVec.ofNat 32 a1.val) = 1#1 then _ else bodyRest M (VecWindow.window (s := S1x1x1x128) s.vs ![0, 0, 0, 0] S1x1x1x128.size _) _ _ _ _ _)
  rw [ev]
  by_cases h : a1 = 0
  · rw [if_pos ((first_iff a1).2 h)]
    refine ok_ld (part_qs _ _) (ok_st (part_qs _ _) ?_)
    rw [put_full (s := S1x8x28) _ zero3]
    unfold qsOld at rest
    rw [if_pos h] at rest
    exact rest
  · rw [if_neg (fun e => h ((first_iff a1).1 e))]
    unfold qsOld at rest
    rw [if_neg h] at rest
    exact rest

end Run

end Attn
-- ==== Proof.KernelBridge.lean ====
/- The printed body, at each of the grid's steps, is the program `Attn.body` over the memrefs it is given. -/
module

public import proofs.«01_k».proof.Proof.Body
public import proofs.«01_k».proof.Proof.Gen.Kernel
import Idealize.ShloMosaic.Lib.Tactic

@[expose] public section

set_option maxRecDepth 100000

noncomputable section

namespace Cert.Kernel.Own

open Idealize.ShloMosaic Idealize.SL.Sem

variable {F : FTy → Type} [FloatOps F] [Facts]

/-- The grid step of batch `b` and group of heads `k`. -/
def at2 (b : Fin 2) (k : Fin 4) : grid0.Coords := fun x => match x with
  | 0 => b
  | 1 => k

/-- The memrefs the body is given, by what they hold. -/
abbrev mems (arg2 : Memref sig .tc .smem S2x4x16 .f32) (harg2 : arg2.IsWhole) (arg3 : Memref sig .tc .vmem S1x1024x896 .bf16) (harg3 : arg3.IsWhole) (arg4 : Memref sig .tc .vmem S1x1x1024x128 .i8) (harg4 : arg4.IsWhole) (arg5 : Memref sig .tc .vmem S1x1x128x1024 .fp8e4m3) (harg5 : arg5.IsWhole) (arg6 : Memref sig .tc .vmem S1x1x1x128 .f32) (harg6 : arg6.IsWhole) (arg7 : Memref sig .tc .vmem S1x1024x896 .bf16) (harg7 : arg7.IsWhole) (arg8 : Memref sig .tc .vmem S1x1024x896 .i8) (harg8 : arg8.IsWhole) (arg9 : Memref sig .tc .vmem S1x8x28 .f32) (harg9 : arg9.IsWhole) (arg10 : Memref sig .tc .vmem S1024x128 .bf16) (harg10 : arg10.IsWhole) (arg11 : Memref sig .tc .vmem S7168x128 .bf16) (harg11 : arg11.IsWhole) (arg12 : Memref sig .tc .vmem S8x896 .f32) (harg12 : arg12.IsWhole) (arg13 : Memref sig .tc .vmem S1024x256 .f32) (harg13 : arg13.IsWhole) : Attn.Mems sig :=
  ⟨arg2, arg3, arg4, arg5, arg6, arg7, harg7, arg8, harg8, arg9, arg10, harg10, arg11, harg11, arg12, arg13⟩

theorem idx_lt {n : ℕ} (x : Fin n) (h : n ≤ 4 := by decide) : (Scalar.indexCast (BitVec.ofNat 32 x.val) : Index).toNat < n := by
  have := x.isLt
  show (BitVec.ofNat 32 x.val).toNat < n
  rw [BitVec.toNat_ofNat]; omega

theorem idx_eq {n : ℕ} (x : Fin n) (h : n ≤ 4 := by decide) : (Scalar.indexCast (BitVec.ofNat 32 x.val) : Index).toNat = x.val := by
  have := x.isLt
  show (BitVec.ofNat 32 x.val).toNat = x.val
  rw [BitVec.toNat_ofNat]; omega

/-- At the steps of the group of heads `k` the printed body is the program. -/
def Is (F : FTy → Type) [FloatOps F] (k : Fin 4) : Prop := ∀ (b : Fin 2) (arg2 : Memref sig .tc .smem S2x4x16 .f32) (harg2 : arg2.IsWhole) (arg3 : Memref sig .tc .vmem S1x1024x896 .bf16) (harg3 : arg3.IsWhole) (arg4 : Memref sig .tc .vmem S1x1x1024x128 .i8) (harg4 : arg4.IsWhole) (arg5 : Memref sig .tc .vmem S1x1x128x1024 .fp8e4m3) (harg5 : arg5.IsWhole) (arg6 : Memref sig .tc .vmem S1x1x1x128 .f32) (harg6 : arg6.IsWhole) (arg7 : Memref sig .tc .vmem S1x1024x896 .bf16) (harg7 : arg7.IsWhole) (arg8 : Memref sig .tc .vmem S1x1024x896 .i8) (harg8 : arg8.IsWhole) (arg9 : Memref sig .tc .vmem S1x8x28 .f32) (harg9 : arg9.IsWhole) (arg10 : Memref sig .tc .vmem S1024x128 .bf16) (harg10 : arg10.IsWhole) (arg11 : Memref sig .tc .vmem S7168x128 .bf16) (harg11 : arg11.IsWhole) (arg12 : Memref sig .tc .vmem S8x896 .f32) (harg12 : arg12.IsWhole) (arg13 : Memref sig .tc .vmem S1024x256 .f32) (harg13 : arg13.IsWhole),
  cc0_causal_gqa_int8_fp8 (F := F) (at2 b k) arg2 harg2 arg3 harg3 arg4 harg4 arg5 harg5 arg6 harg6 arg7 harg7 arg8 harg8 arg9 harg9 arg10 harg10 arg11 harg11 arg12 harg12 arg13 harg13
    = Attn.body (mems arg2 harg2 arg3 harg3 arg4 harg4 arg5 harg5 arg6 harg6 arg7 harg7 arg8 harg8 arg9 harg9 arg10 harg10 arg11 harg11 arg12 harg12 arg13 harg13) (BitVec.ofNat 32 k.val) (Scalar.indexCast (BitVec.ofNat 32 b.val)).toNat k.val (idx_lt b) k.isLt

theorem is0 : Is F 0 := by unfold Is; intros; sl_kernel_rfl
theorem is1 : Is F 1 := by unfold Is; intros; sl_kernel_rfl
theorem is2 : Is F 2 := by unfold Is; intros; sl_kernel_rfl
theorem is3 : Is F 3 := by unfold Is; intros; sl_kernel_rfl

theorem is_all (k : Fin 4) : Is F k := match k with
  | 0 => is0
  | 1 => is1
  | 2 => is2
  | 3 => is3

theorem body_congr {M : Attn.Mems sig} {w : BitVec 32} {a0 a0' a1 : ℕ} (e : a0 = a0') (h0 : a0 < 2) (h0' : a0' < 2) (h1 : a1 < 4) :
    (Attn.body M w a0 a1 h0 h1 : Attn.Body F nD τ sig Λ₀) = Attn.body M w a0' a1 h0' h1 := by
  subst e; rfl

/-- The printed body at any step. -/
theorem body_eq (i : grid0.Coords) (b : Fin 2) (k : Fin 4) (e : i = at2 b k) (arg2 : Memref sig .tc .smem S2x4x16 .f32) (harg2 : arg2.IsWhole) (arg3 : Memref sig .tc .vmem S1x1024x896 .bf16) (harg3 : arg3.IsWhole) (arg4 : Memref sig .tc .vmem S1x1x1024x128 .i8) (harg4 : arg4.IsWhole) (arg5 : Memref sig .tc .vmem S1x1x128x1024 .fp8e4m3) (harg5 : arg5.IsWhole) (arg6 : Memref sig .tc .vmem S1x1x1x128 .f32) (harg6 : arg6.IsWhole) (arg7 : Memref sig .tc .vmem S1x1024x896 .bf16) (harg7 : arg7.IsWhole) (arg8 : Memref sig .tc .vmem S1x1024x896 .i8) (harg8 : arg8.IsWhole) (arg9 : Memref sig .tc .vmem S1x8x28 .f32) (harg9 : arg9.IsWhole) (arg10 : Memref sig .tc .vmem S1024x128 .bf16) (harg10 : arg10.IsWhole) (arg11 : Memref sig .tc .vmem S7168x128 .bf16) (harg11 : arg11.IsWhole) (arg12 : Memref sig .tc .vmem S8x896 .f32) (harg12 : arg12.IsWhole) (arg13 : Memref sig .tc .vmem S1024x256 .f32) (harg13 : arg13.IsWhole) :
    cc0_causal_gqa_int8_fp8 (F := F) i arg2 harg2 arg3 harg3 arg4 harg4 arg5 harg5 arg6 harg6 arg7 harg7 arg8 harg8 arg9 harg9 arg10 harg10 arg11 harg11 arg12 harg12 arg13 harg13
      = Attn.body (mems arg2 harg2 arg3 harg3 arg4 harg4 arg5 harg5 arg6 harg6 arg7 harg7 arg8 harg8 arg9 harg9 arg10 harg10 arg11 harg11 arg12 harg12 arg13 harg13) (BitVec.ofNat 32 k.val) b.val k.val b.isLt k.isLt := by
  subst e
  have h : Is F k := is_all k
  unfold Is at h
  exact (h b arg2 harg2 arg3 harg3 arg4 harg4 arg5 harg5 arg6 harg6 arg7 harg7 arg8 harg8 arg9 harg9 arg10 harg10 arg11 harg11 arg12 harg12 arg13 harg13).trans (body_congr (idx_eq b) _ _ _)

end Cert.Kernel.Own
-- ==== Proof.KernelRun.lean ====
/- The run of the kernel's program: what each grid step leaves in the results' windows, the steps in order, and the
   result arrays at the end. -/
module

public import proofs.«01_k».proof.Proof.BodyRun
public import proofs.«01_k».proof.Proof.KernelBridge
public import proofs.«01_k».proof.Proof.Gen.Kernel.Frame.Runs
public import Idealize.ShloMosaic.Lib.Pipeline.Value
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Attn (ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's steps -/

/-- The batch and the group of heads of a step. -/
def bOf (t : Fin cfg0.N) : Fin 2 := ⟨t.val / 4 % 2, Nat.mod_lt _ (by decide)⟩
def kOf (t : Fin cfg0.N) : Fin 4 := ⟨t.val % 4, Nat.mod_lt _ (by decide)⟩

theorem coord0 (t : Fin cfg0.N) : (grid0.coords t 0).val = t.val / 4 % 2 := Pipeline.Grid.coords_val t 0 (by decide) rfl

theorem coord1 (t : Fin cfg0.N) : (grid0.coords t 1).val = t.val % 4 := by
  have e1 : (grid0.coords t 1).val = t.val / 1 % 4 := Pipeline.Grid.coords_val t 1 (by decide) rfl
  rw [e1, Nat.div_one]

theorem coords_at (t : Fin cfg0.N) : grid0.coords t = at2 (bOf t) (kOf t) := funext fun x => match x with
  | 0 => Fin.ext (coord0 t)
  | 1 => Fin.ext (coord1 t)

/-- The step of a batch and a group. -/
def pt (b : Fin 2) (k : Fin 4) : Fin cfg0.N := ⟨4 * b.val + k.val, by rw [show cfg0.N = 8 from N_0]; omega⟩

theorem bOf_pt (b : Fin 2) (k : Fin 4) : bOf (pt b k) = b := Fin.ext (by show (4 * b.val + k.val) / 4 % 2 = b.val; omega)
theorem kOf_pt (b : Fin 2) (k : Fin 4) : kOf (pt b k) = k := Fin.ext (by show (4 * b.val + k.val) % 4 = k.val; omega)
theorem pt_of (t : Fin cfg0.N) : pt (bOf t) (kOf t) = t := Fin.ext (by
  have : t.val < 8 := Nat.lt_of_lt_of_eq t.isLt N_0
  show 4 * (t.val / 4 % 2) + t.val % 4 = t.val
  omega)

/-! ## What the windows hold -/

/-- The inputs' blocks at a step. -/
def ksB (c : Dev nD) (t : Fin cfg0.N) : Vec F S2x4x16 .f32 := iblk m c 0 t
def xB (c : Dev nD) (t : Fin cfg0.N) : Vec F S1x1024x896 .bf16 := iblk m c 1 t
def kB (c : Dev nD) (t : Fin cfg0.N) : Vec F S1x1x1024x128 .i8 := iblk m c 2 t
def vB (c : Dev nD) (t : Fin cfg0.N) : Vec F S1x1x128x1024 .fp8e4m3 := iblk m c 3 t
def vsB (c : Dev nD) (t : Fin cfg0.N) : Vec F S1x1x1x128 .f32 := iblk m c 4 t

/-- The scales' window before any group of heads. -/
abbrev noScales : Vec F S1x8x28 .f32 := broadcast S1x8x28 (Scalar.ofBits .f32 0x00000000#32)

/-- The attention a step leaves, from its inputs' blocks. -/
def outB (c : Dev nD) (t : Fin cfg0.N) : Vec F S1x1024x896 .bf16 :=
  Attn.outT (bOf t) (kOf t) ⟨ksB m c t, xB m c t, kB m c t, vB m c t, vsB m c t, xB m c t, Attn.qcT (xB m c t), noScales, Attn.kbT (kB m c t),
    Attn.qbT (xB m c t), Attn.qrT (xB m c t), broadcast S1024x256 (Scalar.ofBits .f32 0x00000000#32)⟩

/-- The scales' window after each step: the earlier groups' scales of the batch and the step's own. -/
def qsAt (c : Dev nD) : (n : ℕ) → n < cfg0.N → Vec F S1x8x28 .f32
  | 0, h => Attn.qsT 0 (xB m c ⟨0, h⟩) noScales
  | n + 1, h => Attn.qsT ((n + 1) % 4) (xB m c ⟨n + 1, h⟩) (if (n + 1) % 4 = 0 then noScales else qsAt c n (Nat.lt_of_succ_lt h))

/-- A step's scales put among those of the step before are the window after the step. -/
theorem qsAt_step (c : Dev nD) (t : Fin cfg0.N) (old : Vec F S1x8x28 .f32)
    (hold : (h : t.val % 4 ≠ 0) → old = qsAt m c (t.val - 1) (Nat.lt_of_le_of_lt (Nat.sub_le _ _) t.isLt)) :
    Attn.qsT (kOf t).val (xB m c t) (Attn.qsOld (kOf t) old) = qsAt m c t.val t.isLt := by
  rcases t with ⟨n, h⟩
  cases n with
  | zero => unfold Attn.qsOld; rw [if_pos (Fin.ext rfl : kOf ⟨0, h⟩ = 0)]; rfl
  | succ n =>
    unfold Attn.qsOld qsAt
    by_cases e : (n + 1) % 4 = 0
    · rw [if_pos (Fin.ext e : kOf ⟨n + 1, h⟩ = 0), if_pos e]; rfl
    · rw [if_neg (fun e' : kOf ⟨n + 1, h⟩ = 0 => e (congrArg Fin.val e')), if_neg e, hold e]; rfl

/-! ## The pipeline's proof data -/

/-- The arrays as the launch finds them, and after each step every input's window at its block and every result's at
    what the step leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
    | ⟨6, _⟩ => Attn.qcT (xB m c t)
    | ⟨7, _⟩ => qsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem after0_6 (c : Dev nD) (t : Fin cfg0.N) : (dats m 0 c).after 6 t = Attn.qcT (xB m c t) := by dsimp only [dats]
theorem after0_7 (c : Dev nD) (t : Fin cfg0.N) : (dats m 0 c).after 7 t = qsAt m c t.val t.isLt := by dsimp only [dats]

theorem before0_0 (c : Dev nD) (t : Fin cfg0.N) (d) : (dats m 0 c).before 0 t d = ksB m c t :=
  before0_0_of m (dats m 0 c) (A_eq m c 0) (after0_0 m c) t d
theorem before0_1 (c : Dev nD) (t : Fin cfg0.N) (d) : (dats m 0 c).before 1 t d = xB m c t :=
  before0_1_of m (dats m 0 c) (A_eq m c 1) (after0_1 m c) t d
theorem before0_2 (c : Dev nD) (t : Fin cfg0.N) (d) : (dats m 0 c).before 2 t d = kB m c t :=
  before0_2_of m (dats m 0 c) (A_eq m c 2) (after0_2 m c) t d
theorem before0_3 (c : Dev nD) (t : Fin cfg0.N) (d) : (dats m 0 c).before 3 t d = vB m c t :=
  before0_3_of m (dats m 0 c) (A_eq m c 3) (after0_3 m c) t d
theorem before0_4 (c : Dev nD) (t : Fin cfg0.N) (d) : (dats m 0 c).before 4 t d = vsB m c t :=
  before0_4_of m (dats m 0 c) (A_eq m c 4) (after0_4 m c) t d

/-- Between the groups of one batch the scales' window keeps what it held. -/
theorem before0_7 (c : Dev nD) (t : Fin cfg0.N) (d) (h : t.val % 4 ≠ 0) :
    (dats m 0 c).before 7 t d = qsAt m c (t.val - 1) (Nat.lt_of_le_of_lt (Nat.sub_le _ _) t.isLt) :=
  ((dats m 0 c).before_out_kept 7 rfl t (fun e => h (by rw [e]))
    (Bool.eq_false_iff.mpr fun e => by
      have e' := (flush0_7 ⟨t.val - 1, Nat.lt_of_le_of_lt (Nat.sub_le _ _) t.isLt⟩).mp e
      have : (t.val - 1) % 4 = 3 := e'
      omega)
    (fun _ => rfl) (fun _ _ => rfl) d).trans (after0_7 m c _)

/-! ## The body at a step -/

/-- What the body is called with at a step, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The memrefs of a step, by what they hold. -/
abbrev memsAt (t : Fin cfg0.N) : Attn.Mems sig :=
  mems (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) scM0_0 (Memref.isWhole_whole _) scM0_1 (Memref.isWhole_whole _) scM0_2 (Memref.isWhole_whole _) scM0_3 (Memref.isWhole_whole _)

/-- The body's program at a step, from any record. -/
theorem run_body (c : Dev nD) (t : Fin cfg0.N) (s : Attn.St F) :
    Attn.held (Ix := Unit) (Name := ℕ) (U := UR sig nD τ) (Lvl := ℕ) c (memsAt t) s
      ⊢ wp frame (wpE (defs₀ (F := F)) Variants.none c none) Set.univ (bodyAt0 t)
          (fun _ => iprop(∃ W', Attn.held (Ix := Unit) (Name := ℕ) (U := UR sig nD τ) (Lvl := ℕ) c (memsAt t)
            { Attn.quantSt (kOf t) s with out := Attn.outT (bOf t) (kOf t) s, raw := W' })) := by
  unfold bodyAt0
  rw [body_eq (grid0.coords t) (bOf t) (kOf t) (coords_at t)]
  refine Attn.ok_body (bOf t) (kOf t) fun W' => ?_
  unfold Attn.Ok
  refine BIBase.Entails.trans ?_ (le_wp_ret _ _ _ _ _)
  iintro H
  iexists W'
  iexact H

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← qsAt_step m c t ((dats m 0 c).before 7 t d7) (before0_7 m c t d7)]
  iapply (wp_wand frame (wpE (defs₀ (F := F)) Variants.none c none) Set.univ) $$ [H0 H1 H2 H3 H4 H5 H6 H7 HS0 HS1 HS2 HS3]
  · iapply (run_body c t ⟨ksB m c t, xB m c t, kB m c t, vB m c t, vsB m c t, (dats m 0 c).before 5 t d5, (dats m 0 c).before 6 t d6,
      (dats m 0 c).before 7 t d7, e0, e1, e2, e3⟩)
    unfold Attn.held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  · iintro %_ ⟨%W', H⟩
    unfold Attn.held
    icases H with ⟨H0, H1, H2, H3, H4, H5, H6, H7, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, with the pipeline's arrays as the proof data have them and no semaphore up. -/
theorem run_main : θ_run defs (onTc (τ := τ) (main (F := F))) (s₀ m ρ) (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The result arrays at the end -/

theorem word0 (t : Fin cfg0.N) : (BitVec.ofNat 32 (grid0.coords t 0).val).toNat = (bOf t).val := by
  rw [coord0, BitVec.toNat_ofNat]
  show t.val / 4 % 2 % 2 ^ 32 = t.val / 4 % 2
  omega

theorem word1 (t : Fin cfg0.N) : (BitVec.ofNat 32 (grid0.coords t 1).val).toNat = (kOf t).val := by
  rw [coord1, BitVec.toNat_ofNat]
  show t.val % 4 % 2 ^ 32 = t.val % 4
  omega

/-- Where a block of 896 columns lies in the whole array. -/
def at3 (t : Fin cfg0.N) (j : S1x1024x896.Idx) : S2x1024x3584.Idx :=
  ix3 (bOf t) ⟨(j 1).val, (j 1).isLt⟩ ⟨(kOf t).val * 896 + (j 2).val, by have : (j 2).val < 896 := (j 2).isLt; omega⟩

/-- The whole array that has the blocks `f`. -/
def whole {α : Type} (f : Fin cfg0.N → S1x1024x896.Idx → α) : S2x1024x3584.Idx → α := fun i =>
  f (pt ⟨(i 0).val, (i 0).isLt⟩ ⟨(i 2).val / 896, by have : (i 2).val < 3584 := (i 2).isLt; omega⟩)
    (ix3 (0 : Fin 1) ⟨(i 1).val, (i 1).isLt⟩ ⟨(i 2).val % 896, Nat.mod_lt _ (by decide)⟩)

theorem whole_at3 {α : Type} (f : Fin cfg0.N → S1x1024x896.Idx → α) (t : Fin cfg0.N) (j : S1x1024x896.Idx) : whole f (at3 t j) = f t j := by
  have h0 : (j 0).val < 1 := (j 0).isLt
  have h2 : (j 2).val < 896 := (j 2).isLt
  unfold whole
  refine congr (congrArg f ?_) ?_
  · refine (congr (congrArg pt ?_) ?_).trans (pt_of t)
    · exact Fin.ext rfl
    · exact Fin.ext (by show ((kOf t).val * 896 + (j 2).val) / 896 = (kOf t).val; omega)
  · exact Attn.idx3_ext (by show 0 = (j 0).val; omega) rfl (by show ((kOf t).val * 896 + (j 2).val) % 896 = (j 2).val; omega)

theorem read5 (t : Fin cfg0.N) (X : Vec F S2x1024x3584 .bf16) : ((cfg0.win 5).blk t).view.read (Elt F) X = fun j : S1x1024x896.Idx => X (at3 t j) := by
  funext j
  rw [View.read_apply]
  refine congrArg X (Attn.idx3_ext (p := 2) (q := 1024) (r := 3584) (z := at3 t j) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 1024 + 1 * (j 1).val = (j 1).val
    simp
  · show (BitVec.ofNat 32 (grid0.coords t 1).val).toNat * 896 + 1 * (j 2).val = (kOf t).val * 896 + (j 2).val
    rw [word1]; omega

theorem read6 (t : Fin cfg0.N) (X : Vec F S2x1024x3584 .i8) : ((cfg0.win 6).blk t).view.read (Elt F) X = fun j : S1x1024x896.Idx => X (at3 t j) := by
  funext j
  rw [View.read_apply]
  refine congrArg X (Attn.idx3_ext (p := 2) (q := 1024) (r := 3584) (z := at3 t j) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 1024 + 1 * (j 1).val = (j 1).val
    simp
  · show (BitVec.ofNat 32 (grid0.coords t 1).val).toNat * 896 + 1 * (j 2).val = (kOf t).val * 896 + (j 2).val
    rw [word1]; omega

theorem read7 (t : Fin cfg0.N) (X : Vec F S2x8x28 .f32) :
    ((cfg0.win 7).blk t).view.read (Elt F) X = fun j : S1x8x28.Idx => X (ix3 (bOf t) ⟨(j 1).val, (j 1).isLt⟩ ⟨(j 2).val, (j 2).isLt⟩) := by
  funext j
  rw [View.read_apply]
  refine congrArg X (Attn.idx3_ext (p := 2) (q := 8) (r := 28) (z := ix3 (bOf t) ⟨(j 1).val, (j 1).isLt⟩ ⟨(j 2).val, (j 2).isLt⟩) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 8 + 1 * (j 1).val = (j 1).val
    simp
  · show (0#32 : BitVec 32).toNat * 28 + 1 * (j 2).val = (j 2).val
    simp

/-- The attention, the codes and the scales, whole. -/
def attn (c : Dev nD) : Vec F S2x1024x3584 .bf16 := whole (outB m c)
def codes (c : Dev nD) : Vec F S2x1024x3584 .i8 := whole fun t => Attn.qcT (xB m c t)
def scales (c : Dev nD) : Vec F S2x8x28 .f32 := fun i =>
  qsAt m c (pt ⟨(i 0).val, (i 0).isLt⟩ 3).val (pt ⟨(i 0).val, (i 0).isLt⟩ 3).isLt (ix3 (0 : Fin 1) ⟨(i 1).val, (i 1).isLt⟩ ⟨(i 2).val, (i 2).isLt⟩)

theorem flushed5 (c : Dev nD) (t : Fin cfg0.N) (hf : (cfg0.win 5).flush t = true) :
    (dats m 0 c).flushed 5 t = ((cfg0.win 5).blk t).view.read (Elt F) (attn m c) := by
  rw [read5]
  show (cfg0.win 5).cut (grid0.coords t) ((dats m 0 c).after 5 t) = _
  rw [after0_5]
  exact funext fun j => (whole_at3 (outB m c) t j).symm

theorem flushed6 (c : Dev nD) (t : Fin cfg0.N) (hf : (cfg0.win 6).flush t = true) :
    (dats m 0 c).flushed 6 t = ((cfg0.win 6).blk t).view.read (Elt F) (codes m c) := by
  rw [read6]
  show (cfg0.win 6).cut (grid0.coords t) ((dats m 0 c).after 6 t) = _
  rw [after0_6]
  exact funext fun j => (whole_at3 (fun t => Attn.qcT (xB m c t)) t j).symm

theorem qsAt_congr (c : Dev nD) {n n' : ℕ} (e : n = n') (h : n < cfg0.N) (h' : n' < cfg0.N) (y : S1x8x28.Idx) : qsAt m c n h y = qsAt m c n' h' y := by
  subst e; rfl

theorem flushed7 (c : Dev nD) (t : Fin cfg0.N) (hf : (cfg0.win 7).flush t = true) :
    (dats m 0 c).flushed 7 t = ((cfg0.win 7).blk t).view.read (Elt F) (scales m c) := by
  rw [read7]
  show (cfg0.win 7).cut (grid0.coords t) ((dats m 0 c).after 7 t) = _
  rw [after0_7]
  have h3 : t.val % 4 = 3 := (flush0_7 t).mp hf
  have hN : t.val < 8 := Nat.lt_of_lt_of_eq t.isLt N_0
  funext j
  have h0 : (j 0).val < 1 := (j 0).isLt
  refine (congrArg (qsAt m c t.val t.isLt) (Attn.idx3_ext (p := 1) (q := 8) (r := 28) (y := j) (z := ix3 (0 : Fin 1) ⟨(j 1).val, (j 1).isLt⟩ ⟨(j 2).val, (j 2).isLt⟩) ?_ rfl rfl)).trans
    (qsAt_congr m c ?_ _ _ _)
  · show (j 0).val = 0; omega
  · show t.val = 4 * (t.val / 4 % 2) + 3; omega

/-- The step that writes an element of the results. -/
theorem cover5 (i : S2x1024x3584.Idx) : ∃ t : Fin cfg0.N, (cfg0.win 5).flush t = true ∧ i ∈ ((cfg0.win 5).blk t).view.set := by
  have h0 : (i 0 : ℕ) < 2 := (i 0).isLt
  have h1 : (i 1 : ℕ) < 1024 := (i 1).isLt
  have h2 : (i 2 : ℕ) < 3584 := (i 2).isLt
  obtain ⟨t, hb, hk⟩ : ∃ t : Fin cfg0.N, (bOf t).val = (i 0).val ∧ (kOf t).val = (i 2).val / 896 :=
    ⟨pt ⟨(i 0).val, h0⟩ ⟨(i 2).val / 896, by omega⟩, congrArg Fin.val (bOf_pt _ _), congrArg Fin.val (kOf_pt _ _)⟩
  refine ⟨t, flush0_5 _, ?_⟩
  show i ∈ ((View.whole main_v1_0).slice (win0_5.rect t)).set
  rw [View.set_slice_whole, Rect.mem_set_unit]
  intro a
  match a with
  | ⟨0, _⟩ =>
    show (BitVec.ofNat 32 (grid0.coords t 0).val).toNat * 1 ≤ (i 0 : ℕ) ∧ (i 0 : ℕ) < (BitVec.ofNat 32 (grid0.coords t 0).val).toNat * 1 + 1
    rw [word0, hb]; omega
  | ⟨1, _⟩ =>
    show (0#32 : BitVec 32).toNat * 1024 ≤ (i 1 : ℕ) ∧ (i 1 : ℕ) < (0#32 : BitVec 32).toNat * 1024 + 1024
    exact ⟨by simp, by simpa using h1⟩
  | ⟨2, _⟩ =>
    show (BitVec.ofNat 32 (grid0.coords t 1).val).toNat * 896 ≤ (i 2 : ℕ) ∧ (i 2 : ℕ) < (BitVec.ofNat 32 (grid0.coords t 1).val).toNat * 896 + 896
    rw [word1, hk]; omega

theorem cover6 (i : S2x1024x3584.Idx) : ∃ t : Fin cfg0.N, (cfg0.win 6).flush t = true ∧ i ∈ ((cfg0.win 6).blk t).view.set := by
  have h0 : (i 0 : ℕ) < 2 := (i 0).isLt
  have h1 : (i 1 : ℕ) < 1024 := (i 1).isLt
  have h2 : (i 2 : ℕ) < 3584 := (i 2).isLt
  obtain ⟨t, hb, hk⟩ : ∃ t : Fin cfg0.N, (bOf t).val = (i 0).val ∧ (kOf t).val = (i 2).val / 896 :=
    ⟨pt ⟨(i 0).val, h0⟩ ⟨(i 2).val / 896, by omega⟩, congrArg Fin.val (bOf_pt _ _), congrArg Fin.val (kOf_pt _ _)⟩
  refine ⟨t, flush0_6 _, ?_⟩
  show i ∈ ((View.whole main_v1_1).slice (win0_6.rect t)).set
  rw [View.set_slice_whole, Rect.mem_set_unit]
  intro a
  match a with
  | ⟨0, _⟩ =>
    show (BitVec.ofNat 32 (grid0.coords t 0).val).toNat * 1 ≤ (i 0 : ℕ) ∧ (i 0 : ℕ) < (BitVec.ofNat 32 (grid0.coords t 0).val).toNat * 1 + 1
    rw [word0, hb]; omega
  | ⟨1, _⟩ =>
    show (0#32 : BitVec 32).toNat * 1024 ≤ (i 1 : ℕ) ∧ (i 1 : ℕ) < (0#32 : BitVec 32).toNat * 1024 + 1024
    exact ⟨by simp, by simpa using h1⟩
  | ⟨2, _⟩ =>
    show (BitVec.ofNat 32 (grid0.coords t 1).val).toNat * 896 ≤ (i 2 : ℕ) ∧ (i 2 : ℕ) < (BitVec.ofNat 32 (grid0.coords t 1).val).toNat * 896 + 896
    rw [word1, hk]; omega

theorem cover7 (i : S2x8x28.Idx) : ∃ t : Fin cfg0.N, (cfg0.win 7).flush t = true ∧ i ∈ ((cfg0.win 7).blk t).view.set := by
  have h0 : (i 0 : ℕ) < 2 := (i 0).isLt
  have h1 : (i 1 : ℕ) < 8 := (i 1).isLt
  have h2 : (i 2 : ℕ) < 28 := (i 2).isLt
  obtain ⟨t, hb, hk⟩ : ∃ t : Fin cfg0.N, (bOf t).val = (i 0).val ∧ (kOf t).val = 3 :=
    ⟨pt ⟨(i 0).val, h0⟩ 3, congrArg Fin.val (bOf_pt _ _), congrArg Fin.val (kOf_pt _ _)⟩
  refine ⟨t, (flush0_7 _).mpr hk, ?_⟩
  show i ∈ ((View.whole main_v1_2).slice (win0_7.rect t)).set
  rw [View.set_slice_whole, Rect.mem_set_unit]
  intro a
  match a with
  | ⟨0, _⟩ =>
    show (BitVec.ofNat 32 (grid0.coords t 0).val).toNat * 1 ≤ (i 0 : ℕ) ∧ (i 0 : ℕ) < (BitVec.ofNat 32 (grid0.coords t 0).val).toNat * 1 + 1
    rw [word0, hb]; omega
  | ⟨1, _⟩ =>
    show (0#32 : BitVec 32).toNat * 8 ≤ (i 1 : ℕ) ∧ (i 1 : ℕ) < (0#32 : BitVec 32).toNat * 8 + 8
    exact ⟨by simp, by simpa using h1⟩
  | ⟨2, _⟩ =>
    show (0#32 : BitVec 32).toNat * 28 ≤ (i 2 : ℕ) ∧ (i 2 : ℕ) < (0#32 : BitVec 32).toNat * 28 + 28
    exact ⟨by simp, by simpa using h2⟩

/-- Every execution ends with the three results at these arrays, the arguments unchanged and no semaphore up. -/
theorem run : θ_run defs (onTc (τ := τ) (main (F := F))) ⟨m, fun _ => 0, ρ⟩ (fun r => (∀ c : Dev nD,
      r.2.mem ((c.tc : Thread nD τ).loc main_v1_0) = attn m c
      ∧ r.2.mem ((c.tc : Thread nD τ).loc main_v1_1) = codes m c
      ∧ r.2.mem ((c.tc : Thread nD τ).loc main_v1_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).1 5).trans ((dats m 0 c).arrAt_eq_of_cover 5 (attn m c) (flushed5 m c) cover5),
      ((h.1 c).1 6).trans ((dats m 0 c).arrAt_eq_of_cover 6 (codes m c) (flushed6 m c) cover6),
      ((h.1 c).1 7).trans ((dats m 0 c).arrAt_eq_of_cover 7 (scales m c) (flushed7 m c) cover7),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 0).trans (((dats m 0 c).arrAt_in 0 rfl _).trans ((A_eq m c 0).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c)⟩, h.2⟩) (run_main m ρ)

/-- Every execution ends with the arguments unchanged and no semaphore up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2.2, h.2⟩) (run m ρ)

end Cert.Kernel.Own
-- ==== Proof.KernelIdealBridge.lean ====
/- The printed body, at each of the grid's steps, is the program `Attn.body` over the memrefs it is given. -/
module

public import proofs.«01_k».proof.Proof.Body
public import proofs.«01_k».proof.Proof.Gen.KernelIdeal
import Idealize.ShloMosaic.Lib.Tactic

@[expose] public section

set_option maxRecDepth 100000

noncomputable section

namespace Cert.KernelIdeal.Own

open Idealize.ShloMosaic Idealize.SL.Sem

variable {F : FTy → Type} [FloatOps F] [Facts]

/-- The grid step of batch `b` and group of heads `k`. -/
def at2 (b : Fin 2) (k : Fin 4) : grid0.Coords := fun x => match x with
  | 0 => b
  | 1 => k

/-- The memrefs the body is given, by what they hold. -/
abbrev mems (arg2 : Memref sig .tc .smem S2x4x16 .f32) (harg2 : arg2.IsWhole) (arg3 : Memref sig .tc .vmem S1x1024x896 .bf16) (harg3 : arg3.IsWhole) (arg4 : Memref sig .tc .vmem S1x1x1024x128 .i8) (harg4 : arg4.IsWhole) (arg5 : Memref sig .tc .vmem S1x1x128x1024 .fp8e4m3) (harg5 : arg5.IsWhole) (arg6 : Memref sig .tc .vmem S1x1x1x128 .f32) (harg6 : arg6.IsWhole) (arg7 : Memref sig .tc .vmem S1x1024x896 .bf16) (harg7 : arg7.IsWhole) (arg8 : Memref sig .tc .vmem S1x1024x896 .i8) (harg8 : arg8.IsWhole) (arg9 : Memref sig .tc .vmem S1x8x28 .f32) (harg9 : arg9.IsWhole) (arg10 : Memref sig .tc .vmem S1024x128 .bf16) (harg10 : arg10.IsWhole) (arg11 : Memref sig .tc .vmem S7168x128 .bf16) (harg11 : arg11.IsWhole) (arg12 : Memref sig .tc .vmem S8x896 .f32) (harg12 : arg12.IsWhole) (arg13 : Memref sig .tc .vmem S1024x256 .f32) (harg13 : arg13.IsWhole) : Attn.Mems sig :=
  ⟨arg2, arg3, arg4, arg5, arg6, arg7, harg7, arg8, harg8, arg9, arg10, harg10, arg11, harg11, arg12, arg13⟩

theorem idx_lt {n : ℕ} (x : Fin n) (h : n ≤ 4 := by decide) : (Scalar.indexCast (BitVec.ofNat 32 x.val) : Index).toNat < n := by
  have := x.isLt
  show (BitVec.ofNat 32 x.val).toNat < n
  rw [BitVec.toNat_ofNat]; omega

theorem idx_eq {n : ℕ} (x : Fin n) (h : n ≤ 4 := by decide) : (Scalar.indexCast (BitVec.ofNat 32 x.val) : Index).toNat = x.val := by
  have := x.isLt
  show (BitVec.ofNat 32 x.val).toNat = x.val
  rw [BitVec.toNat_ofNat]; omega

/-- At the steps of the group of heads `k` the printed body is the program. -/
def Is (F : FTy → Type) [FloatOps F] (k : Fin 4) : Prop := ∀ (b : Fin 2) (arg2 : Memref sig .tc .smem S2x4x16 .f32) (harg2 : arg2.IsWhole) (arg3 : Memref sig .tc .vmem S1x1024x896 .bf16) (harg3 : arg3.IsWhole) (arg4 : Memref sig .tc .vmem S1x1x1024x128 .i8) (harg4 : arg4.IsWhole) (arg5 : Memref sig .tc .vmem S1x1x128x1024 .fp8e4m3) (harg5 : arg5.IsWhole) (arg6 : Memref sig .tc .vmem S1x1x1x128 .f32) (harg6 : arg6.IsWhole) (arg7 : Memref sig .tc .vmem S1x1024x896 .bf16) (harg7 : arg7.IsWhole) (arg8 : Memref sig .tc .vmem S1x1024x896 .i8) (harg8 : arg8.IsWhole) (arg9 : Memref sig .tc .vmem S1x8x28 .f32) (harg9 : arg9.IsWhole) (arg10 : Memref sig .tc .vmem S1024x128 .bf16) (harg10 : arg10.IsWhole) (arg11 : Memref sig .tc .vmem S7168x128 .bf16) (harg11 : arg11.IsWhole) (arg12 : Memref sig .tc .vmem S8x896 .f32) (harg12 : arg12.IsWhole) (arg13 : Memref sig .tc .vmem S1024x256 .f32) (harg13 : arg13.IsWhole),
  cc0_causal_gqa_int8_fp8 (F := F) (at2 b k) arg2 harg2 arg3 harg3 arg4 harg4 arg5 harg5 arg6 harg6 arg7 harg7 arg8 harg8 arg9 harg9 arg10 harg10 arg11 harg11 arg12 harg12 arg13 harg13
    = Attn.body (mems arg2 harg2 arg3 harg3 arg4 harg4 arg5 harg5 arg6 harg6 arg7 harg7 arg8 harg8 arg9 harg9 arg10 harg10 arg11 harg11 arg12 harg12 arg13 harg13) (BitVec.ofNat 32 k.val) (Scalar.indexCast (BitVec.ofNat 32 b.val)).toNat k.val (idx_lt b) k.isLt

theorem is0 : Is F 0 := by unfold Is; intros; sl_kernel_rfl
theorem is1 : Is F 1 := by unfold Is; intros; sl_kernel_rfl
theorem is2 : Is F 2 := by unfold Is; intros; sl_kernel_rfl
theorem is3 : Is F 3 := by unfold Is; intros; sl_kernel_rfl

theorem is_all (k : Fin 4) : Is F k := match k with
  | 0 => is0
  | 1 => is1
  | 2 => is2
  | 3 => is3

theorem body_congr {M : Attn.Mems sig} {w : BitVec 32} {a0 a0' a1 : ℕ} (e : a0 = a0') (h0 : a0 < 2) (h0' : a0' < 2) (h1 : a1 < 4) :
    (Attn.body M w a0 a1 h0 h1 : Attn.Body F nD τ sig Λ₀) = Attn.body M w a0' a1 h0' h1 := by
  subst e; rfl

/-- The printed body at any step. -/
theorem body_eq (i : grid0.Coords) (b : Fin 2) (k : Fin 4) (e : i = at2 b k) (arg2 : Memref sig .tc .smem S2x4x16 .f32) (harg2 : arg2.IsWhole) (arg3 : Memref sig .tc .vmem S1x1024x896 .bf16) (harg3 : arg3.IsWhole) (arg4 : Memref sig .tc .vmem S1x1x1024x128 .i8) (harg4 : arg4.IsWhole) (arg5 : Memref sig .tc .vmem S1x1x128x1024 .fp8e4m3) (harg5 : arg5.IsWhole) (arg6 : Memref sig .tc .vmem S1x1x1x128 .f32) (harg6 : arg6.IsWhole) (arg7 : Memref sig .tc .vmem S1x1024x896 .bf16) (harg7 : arg7.IsWhole) (arg8 : Memref sig .tc .vmem S1x1024x896 .i8) (harg8 : arg8.IsWhole) (arg9 : Memref sig .tc .vmem S1x8x28 .f32) (harg9 : arg9.IsWhole) (arg10 : Memref sig .tc .vmem S1024x128 .bf16) (harg10 : arg10.IsWhole) (arg11 : Memref sig .tc .vmem S7168x128 .bf16) (harg11 : arg11.IsWhole) (arg12 : Memref sig .tc .vmem S8x896 .f32) (harg12 : arg12.IsWhole) (arg13 : Memref sig .tc .vmem S1024x256 .f32) (harg13 : arg13.IsWhole) :
    cc0_causal_gqa_int8_fp8 (F := F) i arg2 harg2 arg3 harg3 arg4 harg4 arg5 harg5 arg6 harg6 arg7 harg7 arg8 harg8 arg9 harg9 arg10 harg10 arg11 harg11 arg12 harg12 arg13 harg13
      = Attn.body (mems arg2 harg2 arg3 harg3 arg4 harg4 arg5 harg5 arg6 harg6 arg7 harg7 arg8 harg8 arg9 harg9 arg10 harg10 arg11 harg11 arg12 harg12 arg13 harg13) (BitVec.ofNat 32 k.val) b.val k.val b.isLt k.isLt := by
  subst e
  have h : Is F k := is_all k
  unfold Is at h
  exact (h b arg2 harg2 arg3 harg3 arg4 harg4 arg5 harg5 arg6 harg6 arg7 harg7 arg8 harg8 arg9 harg9 arg10 harg10 arg11 harg11 arg12 harg12 arg13 harg13).trans (body_congr (idx_eq b) _ _ _)

end Cert.KernelIdeal.Own
-- ==== Proof.KernelIdealRun.lean ====
/- The run of the kernel's program: what each grid step leaves in the results' windows, the steps in order, and the
   result arrays at the end. -/
module

public import proofs.«01_k».proof.Proof.BodyRun
public import proofs.«01_k».proof.Proof.KernelIdealBridge
public import proofs.«01_k».proof.Proof.Gen.KernelIdeal.Frame.Runs
public import Idealize.ShloMosaic.Lib.Pipeline.Value
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Attn (ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's steps -/

/-- The batch and the group of heads of a step. -/
def bOf (t : Fin cfg0.N) : Fin 2 := ⟨t.val / 4 % 2, Nat.mod_lt _ (by decide)⟩
def kOf (t : Fin cfg0.N) : Fin 4 := ⟨t.val % 4, Nat.mod_lt _ (by decide)⟩

theorem coord0 (t : Fin cfg0.N) : (grid0.coords t 0).val = t.val / 4 % 2 := Pipeline.Grid.coords_val t 0 (by decide) rfl

theorem coord1 (t : Fin cfg0.N) : (grid0.coords t 1).val = t.val % 4 := by
  have e1 : (grid0.coords t 1).val = t.val / 1 % 4 := Pipeline.Grid.coords_val t 1 (by decide) rfl
  rw [e1, Nat.div_one]

theorem coords_at (t : Fin cfg0.N) : grid0.coords t = at2 (bOf t) (kOf t) := funext fun x => match x with
  | 0 => Fin.ext (coord0 t)
  | 1 => Fin.ext (coord1 t)

/-- The step of a batch and a group. -/
def pt (b : Fin 2) (k : Fin 4) : Fin cfg0.N := ⟨4 * b.val + k.val, by rw [show cfg0.N = 8 from N_0]; omega⟩

theorem bOf_pt (b : Fin 2) (k : Fin 4) : bOf (pt b k) = b := Fin.ext (by show (4 * b.val + k.val) / 4 % 2 = b.val; omega)
theorem kOf_pt (b : Fin 2) (k : Fin 4) : kOf (pt b k) = k := Fin.ext (by show (4 * b.val + k.val) % 4 = k.val; omega)
theorem pt_of (t : Fin cfg0.N) : pt (bOf t) (kOf t) = t := Fin.ext (by
  have : t.val < 8 := Nat.lt_of_lt_of_eq t.isLt N_0
  show 4 * (t.val / 4 % 2) + t.val % 4 = t.val
  omega)

/-! ## What the windows hold -/

/-- The inputs' blocks at a step. -/
def ksB (c : Dev nD) (t : Fin cfg0.N) : Vec F S2x4x16 .f32 := iblk m c 0 t
def xB (c : Dev nD) (t : Fin cfg0.N) : Vec F S1x1024x896 .bf16 := iblk m c 1 t
def kB (c : Dev nD) (t : Fin cfg0.N) : Vec F S1x1x1024x128 .i8 := iblk m c 2 t
def vB (c : Dev nD) (t : Fin cfg0.N) : Vec F S1x1x128x1024 .fp8e4m3 := iblk m c 3 t
def vsB (c : Dev nD) (t : Fin cfg0.N) : Vec F S1x1x1x128 .f32 := iblk m c 4 t

/-- The scales' window before any group of heads. -/
abbrev noScales : Vec F S1x8x28 .f32 := broadcast S1x8x28 (Scalar.ofBits .f32 0x00000000#32)

/-- The attention a step leaves, from its inputs' blocks. -/
def outB (c : Dev nD) (t : Fin cfg0.N) : Vec F S1x1024x896 .bf16 :=
  Attn.outT (bOf t) (kOf t) ⟨ksB m c t, xB m c t, kB m c t, vB m c t, vsB m c t, xB m c t, Attn.qcT (xB m c t), noScales, Attn.kbT (kB m c t),
    Attn.qbT (xB m c t), Attn.qrT (xB m c t), broadcast S1024x256 (Scalar.ofBits .f32 0x00000000#32)⟩

/-- The scales' window after each step: the earlier groups' scales of the batch and the step's own. -/
def qsAt (c : Dev nD) : (n : ℕ) → n < cfg0.N → Vec F S1x8x28 .f32
  | 0, h => Attn.qsT 0 (xB m c ⟨0, h⟩) noScales
  | n + 1, h => Attn.qsT ((n + 1) % 4) (xB m c ⟨n + 1, h⟩) (if (n + 1) % 4 = 0 then noScales else qsAt c n (Nat.lt_of_succ_lt h))

/-- A step's scales put among those of the step before are the window after the step. -/
theorem qsAt_step (c : Dev nD) (t : Fin cfg0.N) (old : Vec F S1x8x28 .f32)
    (hold : (h : t.val % 4 ≠ 0) → old = qsAt m c (t.val - 1) (Nat.lt_of_le_of_lt (Nat.sub_le _ _) t.isLt)) :
    Attn.qsT (kOf t).val (xB m c t) (Attn.qsOld (kOf t) old) = qsAt m c t.val t.isLt := by
  rcases t with ⟨n, h⟩
  cases n with
  | zero => unfold Attn.qsOld; rw [if_pos (Fin.ext rfl : kOf ⟨0, h⟩ = 0)]; rfl
  | succ n =>
    unfold Attn.qsOld qsAt
    by_cases e : (n + 1) % 4 = 0
    · rw [if_pos (Fin.ext e : kOf ⟨n + 1, h⟩ = 0), if_pos e]; rfl
    · rw [if_neg (fun e' : kOf ⟨n + 1, h⟩ = 0 => e (congrArg Fin.val e')), if_neg e, hold e]; rfl

/-! ## The pipeline's proof data -/

/-- The arrays as the launch finds them, and after each step every input's window at its block and every result's at
    what the step leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
    | ⟨6, _⟩ => Attn.qcT (xB m c t)
    | ⟨7, _⟩ => qsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem after0_6 (c : Dev nD) (t : Fin cfg0.N) : (dats m 0 c).after 6 t = Attn.qcT (xB m c t) := by dsimp only [dats]
theorem after0_7 (c : Dev nD) (t : Fin cfg0.N) : (dats m 0 c).after 7 t = qsAt m c t.val t.isLt := by dsimp only [dats]

theorem before0_0 (c : Dev nD) (t : Fin cfg0.N) (d) : (dats m 0 c).before 0 t d = ksB m c t :=
  before0_0_of m (dats m 0 c) (A_eq m c 0) (after0_0 m c) t d
theorem before0_1 (c : Dev nD) (t : Fin cfg0.N) (d) : (dats m 0 c).before 1 t d = xB m c t :=
  before0_1_of m (dats m 0 c) (A_eq m c 1) (after0_1 m c) t d
theorem before0_2 (c : Dev nD) (t : Fin cfg0.N) (d) : (dats m 0 c).before 2 t d = kB m c t :=
  before0_2_of m (dats m 0 c) (A_eq m c 2) (after0_2 m c) t d
theorem before0_3 (c : Dev nD) (t : Fin cfg0.N) (d) : (dats m 0 c).before 3 t d = vB m c t :=
  before0_3_of m (dats m 0 c) (A_eq m c 3) (after0_3 m c) t d
theorem before0_4 (c : Dev nD) (t : Fin cfg0.N) (d) : (dats m 0 c).before 4 t d = vsB m c t :=
  before0_4_of m (dats m 0 c) (A_eq m c 4) (after0_4 m c) t d

/-- Between the groups of one batch the scales' window keeps what it held. -/
theorem before0_7 (c : Dev nD) (t : Fin cfg0.N) (d) (h : t.val % 4 ≠ 0) :
    (dats m 0 c).before 7 t d = qsAt m c (t.val - 1) (Nat.lt_of_le_of_lt (Nat.sub_le _ _) t.isLt) :=
  ((dats m 0 c).before_out_kept 7 rfl t (fun e => h (by rw [e]))
    (Bool.eq_false_iff.mpr fun e => by
      have e' := (flush0_7 ⟨t.val - 1, Nat.lt_of_le_of_lt (Nat.sub_le _ _) t.isLt⟩).mp e
      have : (t.val - 1) % 4 = 3 := e'
      omega)
    (fun _ => rfl) (fun _ _ => rfl) d).trans (after0_7 m c _)

/-! ## The body at a step -/

/-- What the body is called with at a step, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The memrefs of a step, by what they hold. -/
abbrev memsAt (t : Fin cfg0.N) : Attn.Mems sig :=
  mems (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) scM0_0 (Memref.isWhole_whole _) scM0_1 (Memref.isWhole_whole _) scM0_2 (Memref.isWhole_whole _) scM0_3 (Memref.isWhole_whole _)

/-- The body's program at a step, from any record. -/
theorem run_body (c : Dev nD) (t : Fin cfg0.N) (s : Attn.St F) :
    Attn.held (Ix := Unit) (Name := ℕ) (U := UR sig nD τ) (Lvl := ℕ) c (memsAt t) s
      ⊢ wp frame (wpE (defs₀ (F := F)) Variants.none c none) Set.univ (bodyAt0 t)
          (fun _ => iprop(∃ W', Attn.held (Ix := Unit) (Name := ℕ) (U := UR sig nD τ) (Lvl := ℕ) c (memsAt t)
            { Attn.quantSt (kOf t) s with out := Attn.outT (bOf t) (kOf t) s, raw := W' })) := by
  unfold bodyAt0
  rw [body_eq (grid0.coords t) (bOf t) (kOf t) (coords_at t)]
  refine Attn.ok_body (bOf t) (kOf t) fun W' => ?_
  unfold Attn.Ok
  refine BIBase.Entails.trans ?_ (le_wp_ret _ _ _ _ _)
  iintro H
  iexists W'
  iexact H

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← qsAt_step m c t ((dats m 0 c).before 7 t d7) (before0_7 m c t d7)]
  iapply (wp_wand frame (wpE (defs₀ (F := F)) Variants.none c none) Set.univ) $$ [H0 H1 H2 H3 H4 H5 H6 H7 HS0 HS1 HS2 HS3]
  · iapply (run_body c t ⟨ksB m c t, xB m c t, kB m c t, vB m c t, vsB m c t, (dats m 0 c).before 5 t d5, (dats m 0 c).before 6 t d6,
      (dats m 0 c).before 7 t d7, e0, e1, e2, e3⟩)
    unfold Attn.held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  · iintro %_ ⟨%W', H⟩
    unfold Attn.held
    icases H with ⟨H0, H1, H2, H3, H4, H5, H6, H7, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, with the pipeline's arrays as the proof data have them and no semaphore up. -/
theorem run_main : θ_run defs (onTc (τ := τ) (main (F := F))) (s₀ m ρ) (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The result arrays at the end -/

theorem word0 (t : Fin cfg0.N) : (BitVec.ofNat 32 (grid0.coords t 0).val).toNat = (bOf t).val := by
  rw [coord0, BitVec.toNat_ofNat]
  show t.val / 4 % 2 % 2 ^ 32 = t.val / 4 % 2
  omega

theorem word1 (t : Fin cfg0.N) : (BitVec.ofNat 32 (grid0.coords t 1).val).toNat = (kOf t).val := by
  rw [coord1, BitVec.toNat_ofNat]
  show t.val % 4 % 2 ^ 32 = t.val % 4
  omega

/-- Where a block of 896 columns lies in the whole array. -/
def at3 (t : Fin cfg0.N) (j : S1x1024x896.Idx) : S2x1024x3584.Idx :=
  ix3 (bOf t) ⟨(j 1).val, (j 1).isLt⟩ ⟨(kOf t).val * 896 + (j 2).val, by have : (j 2).val < 896 := (j 2).isLt; omega⟩

/-- The whole array that has the blocks `f`. -/
def whole {α : Type} (f : Fin cfg0.N → S1x1024x896.Idx → α) : S2x1024x3584.Idx → α := fun i =>
  f (pt ⟨(i 0).val, (i 0).isLt⟩ ⟨(i 2).val / 896, by have : (i 2).val < 3584 := (i 2).isLt; omega⟩)
    (ix3 (0 : Fin 1) ⟨(i 1).val, (i 1).isLt⟩ ⟨(i 2).val % 896, Nat.mod_lt _ (by decide)⟩)

theorem whole_at3 {α : Type} (f : Fin cfg0.N → S1x1024x896.Idx → α) (t : Fin cfg0.N) (j : S1x1024x896.Idx) : whole f (at3 t j) = f t j := by
  have h0 : (j 0).val < 1 := (j 0).isLt
  have h2 : (j 2).val < 896 := (j 2).isLt
  unfold whole
  refine congr (congrArg f ?_) ?_
  · refine (congr (congrArg pt ?_) ?_).trans (pt_of t)
    · exact Fin.ext rfl
    · exact Fin.ext (by show ((kOf t).val * 896 + (j 2).val) / 896 = (kOf t).val; omega)
  · exact Attn.idx3_ext (by show 0 = (j 0).val; omega) rfl (by show ((kOf t).val * 896 + (j 2).val) % 896 = (j 2).val; omega)

theorem read5 (t : Fin cfg0.N) (X : Vec F S2x1024x3584 .bf16) : ((cfg0.win 5).blk t).view.read (Elt F) X = fun j : S1x1024x896.Idx => X (at3 t j) := by
  funext j
  rw [View.read_apply]
  refine congrArg X (Attn.idx3_ext (p := 2) (q := 1024) (r := 3584) (z := at3 t j) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 1024 + 1 * (j 1).val = (j 1).val
    simp
  · show (BitVec.ofNat 32 (grid0.coords t 1).val).toNat * 896 + 1 * (j 2).val = (kOf t).val * 896 + (j 2).val
    rw [word1]; omega

theorem read6 (t : Fin cfg0.N) (X : Vec F S2x1024x3584 .i8) : ((cfg0.win 6).blk t).view.read (Elt F) X = fun j : S1x1024x896.Idx => X (at3 t j) := by
  funext j
  rw [View.read_apply]
  refine congrArg X (Attn.idx3_ext (p := 2) (q := 1024) (r := 3584) (z := at3 t j) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 1024 + 1 * (j 1).val = (j 1).val
    simp
  · show (BitVec.ofNat 32 (grid0.coords t 1).val).toNat * 896 + 1 * (j 2).val = (kOf t).val * 896 + (j 2).val
    rw [word1]; omega

theorem read7 (t : Fin cfg0.N) (X : Vec F S2x8x28 .f32) :
    ((cfg0.win 7).blk t).view.read (Elt F) X = fun j : S1x8x28.Idx => X (ix3 (bOf t) ⟨(j 1).val, (j 1).isLt⟩ ⟨(j 2).val, (j 2).isLt⟩) := by
  funext j
  rw [View.read_apply]
  refine congrArg X (Attn.idx3_ext (p := 2) (q := 8) (r := 28) (z := ix3 (bOf t) ⟨(j 1).val, (j 1).isLt⟩ ⟨(j 2).val, (j 2).isLt⟩) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 8 + 1 * (j 1).val = (j 1).val
    simp
  · show (0#32 : BitVec 32).toNat * 28 + 1 * (j 2).val = (j 2).val
    simp

/-- The attention, the codes and the scales, whole. -/
def attn (c : Dev nD) : Vec F S2x1024x3584 .bf16 := whole (outB m c)
def codes (c : Dev nD) : Vec F S2x1024x3584 .i8 := whole fun t => Attn.qcT (xB m c t)
def scales (c : Dev nD) : Vec F S2x8x28 .f32 := fun i =>
  qsAt m c (pt ⟨(i 0).val, (i 0).isLt⟩ 3).val (pt ⟨(i 0).val, (i 0).isLt⟩ 3).isLt (ix3 (0 : Fin 1) ⟨(i 1).val, (i 1).isLt⟩ ⟨(i 2).val, (i 2).isLt⟩)

theorem flushed5 (c : Dev nD) (t : Fin cfg0.N) (hf : (cfg0.win 5).flush t = true) :
    (dats m 0 c).flushed 5 t = ((cfg0.win 5).blk t).view.read (Elt F) (attn m c) := by
  rw [read5]
  show (cfg0.win 5).cut (grid0.coords t) ((dats m 0 c).after 5 t) = _
  rw [after0_5]
  exact funext fun j => (whole_at3 (outB m c) t j).symm

theorem flushed6 (c : Dev nD) (t : Fin cfg0.N) (hf : (cfg0.win 6).flush t = true) :
    (dats m 0 c).flushed 6 t = ((cfg0.win 6).blk t).view.read (Elt F) (codes m c) := by
  rw [read6]
  show (cfg0.win 6).cut (grid0.coords t) ((dats m 0 c).after 6 t) = _
  rw [after0_6]
  exact funext fun j => (whole_at3 (fun t => Attn.qcT (xB m c t)) t j).symm

theorem qsAt_congr (c : Dev nD) {n n' : ℕ} (e : n = n') (h : n < cfg0.N) (h' : n' < cfg0.N) (y : S1x8x28.Idx) : qsAt m c n h y = qsAt m c n' h' y := by
  subst e; rfl

theorem flushed7 (c : Dev nD) (t : Fin cfg0.N) (hf : (cfg0.win 7).flush t = true) :
    (dats m 0 c).flushed 7 t = ((cfg0.win 7).blk t).view.read (Elt F) (scales m c) := by
  rw [read7]
  show (cfg0.win 7).cut (grid0.coords t) ((dats m 0 c).after 7 t) = _
  rw [after0_7]
  have h3 : t.val % 4 = 3 := (flush0_7 t).mp hf
  have hN : t.val < 8 := Nat.lt_of_lt_of_eq t.isLt N_0
  funext j
  have h0 : (j 0).val < 1 := (j 0).isLt
  refine (congrArg (qsAt m c t.val t.isLt) (Attn.idx3_ext (p := 1) (q := 8) (r := 28) (y := j) (z := ix3 (0 : Fin 1) ⟨(j 1).val, (j 1).isLt⟩ ⟨(j 2).val, (j 2).isLt⟩) ?_ rfl rfl)).trans
    (qsAt_congr m c ?_ _ _ _)
  · show (j 0).val = 0; omega
  · show t.val = 4 * (t.val / 4 % 2) + 3; omega

/-- The step that writes an element of the results. -/
theorem cover5 (i : S2x1024x3584.Idx) : ∃ t : Fin cfg0.N, (cfg0.win 5).flush t = true ∧ i ∈ ((cfg0.win 5).blk t).view.set := by
  have h0 : (i 0 : ℕ) < 2 := (i 0).isLt
  have h1 : (i 1 : ℕ) < 1024 := (i 1).isLt
  have h2 : (i 2 : ℕ) < 3584 := (i 2).isLt
  obtain ⟨t, hb, hk⟩ : ∃ t : Fin cfg0.N, (bOf t).val = (i 0).val ∧ (kOf t).val = (i 2).val / 896 :=
    ⟨pt ⟨(i 0).val, h0⟩ ⟨(i 2).val / 896, by omega⟩, congrArg Fin.val (bOf_pt _ _), congrArg Fin.val (kOf_pt _ _)⟩
  refine ⟨t, flush0_5 _, ?_⟩
  show i ∈ ((View.whole main_v1_0).slice (win0_5.rect t)).set
  rw [View.set_slice_whole, Rect.mem_set_unit]
  intro a
  match a with
  | ⟨0, _⟩ =>
    show (BitVec.ofNat 32 (grid0.coords t 0).val).toNat * 1 ≤ (i 0 : ℕ) ∧ (i 0 : ℕ) < (BitVec.ofNat 32 (grid0.coords t 0).val).toNat * 1 + 1
    rw [word0, hb]; omega
  | ⟨1, _⟩ =>
    show (0#32 : BitVec 32).toNat * 1024 ≤ (i 1 : ℕ) ∧ (i 1 : ℕ) < (0#32 : BitVec 32).toNat * 1024 + 1024
    exact ⟨by simp, by simpa using h1⟩
  | ⟨2, _⟩ =>
    show (BitVec.ofNat 32 (grid0.coords t 1).val).toNat * 896 ≤ (i 2 : ℕ) ∧ (i 2 : ℕ) < (BitVec.ofNat 32 (grid0.coords t 1).val).toNat * 896 + 896
    rw [word1, hk]; omega

theorem cover6 (i : S2x1024x3584.Idx) : ∃ t : Fin cfg0.N, (cfg0.win 6).flush t = true ∧ i ∈ ((cfg0.win 6).blk t).view.set := by
  have h0 : (i 0 : ℕ) < 2 := (i 0).isLt
  have h1 : (i 1 : ℕ) < 1024 := (i 1).isLt
  have h2 : (i 2 : ℕ) < 3584 := (i 2).isLt
  obtain ⟨t, hb, hk⟩ : ∃ t : Fin cfg0.N, (bOf t).val = (i 0).val ∧ (kOf t).val = (i 2).val / 896 :=
    ⟨pt ⟨(i 0).val, h0⟩ ⟨(i 2).val / 896, by omega⟩, congrArg Fin.val (bOf_pt _ _), congrArg Fin.val (kOf_pt _ _)⟩
  refine ⟨t, flush0_6 _, ?_⟩
  show i ∈ ((View.whole main_v1_1).slice (win0_6.rect t)).set
  rw [View.set_slice_whole, Rect.mem_set_unit]
  intro a
  match a with
  | ⟨0, _⟩ =>
    show (BitVec.ofNat 32 (grid0.coords t 0).val).toNat * 1 ≤ (i 0 : ℕ) ∧ (i 0 : ℕ) < (BitVec.ofNat 32 (grid0.coords t 0).val).toNat * 1 + 1
    rw [word0, hb]; omega
  | ⟨1, _⟩ =>
    show (0#32 : BitVec 32).toNat * 1024 ≤ (i 1 : ℕ) ∧ (i 1 : ℕ) < (0#32 : BitVec 32).toNat * 1024 + 1024
    exact ⟨by simp, by simpa using h1⟩
  | ⟨2, _⟩ =>
    show (BitVec.ofNat 32 (grid0.coords t 1).val).toNat * 896 ≤ (i 2 : ℕ) ∧ (i 2 : ℕ) < (BitVec.ofNat 32 (grid0.coords t 1).val).toNat * 896 + 896
    rw [word1, hk]; omega

theorem cover7 (i : S2x8x28.Idx) : ∃ t : Fin cfg0.N, (cfg0.win 7).flush t = true ∧ i ∈ ((cfg0.win 7).blk t).view.set := by
  have h0 : (i 0 : ℕ) < 2 := (i 0).isLt
  have h1 : (i 1 : ℕ) < 8 := (i 1).isLt
  have h2 : (i 2 : ℕ) < 28 := (i 2).isLt
  obtain ⟨t, hb, hk⟩ : ∃ t : Fin cfg0.N, (bOf t).val = (i 0).val ∧ (kOf t).val = 3 :=
    ⟨pt ⟨(i 0).val, h0⟩ 3, congrArg Fin.val (bOf_pt _ _), congrArg Fin.val (kOf_pt _ _)⟩
  refine ⟨t, (flush0_7 _).mpr hk, ?_⟩
  show i ∈ ((View.whole main_v1_2).slice (win0_7.rect t)).set
  rw [View.set_slice_whole, Rect.mem_set_unit]
  intro a
  match a with
  | ⟨0, _⟩ =>
    show (BitVec.ofNat 32 (grid0.coords t 0).val).toNat * 1 ≤ (i 0 : ℕ) ∧ (i 0 : ℕ) < (BitVec.ofNat 32 (grid0.coords t 0).val).toNat * 1 + 1
    rw [word0, hb]; omega
  | ⟨1, _⟩ =>
    show (0#32 : BitVec 32).toNat * 8 ≤ (i 1 : ℕ) ∧ (i 1 : ℕ) < (0#32 : BitVec 32).toNat * 8 + 8
    exact ⟨by simp, by simpa using h1⟩
  | ⟨2, _⟩ =>
    show (0#32 : BitVec 32).toNat * 28 ≤ (i 2 : ℕ) ∧ (i 2 : ℕ) < (0#32 : BitVec 32).toNat * 28 + 28
    exact ⟨by simp, by simpa using h2⟩

/-- Every execution ends with the three results at these arrays, the arguments unchanged and no semaphore up. -/
theorem run : θ_run defs (onTc (τ := τ) (main (F := F))) ⟨m, fun _ => 0, ρ⟩ (fun r => (∀ c : Dev nD,
      r.2.mem ((c.tc : Thread nD τ).loc main_v1_0) = attn m c
      ∧ r.2.mem ((c.tc : Thread nD τ).loc main_v1_1) = codes m c
      ∧ r.2.mem ((c.tc : Thread nD τ).loc main_v1_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).1 5).trans ((dats m 0 c).arrAt_eq_of_cover 5 (attn m c) (flushed5 m c) cover5),
      ((h.1 c).1 6).trans ((dats m 0 c).arrAt_eq_of_cover 6 (codes m c) (flushed6 m c) cover6),
      ((h.1 c).1 7).trans ((dats m 0 c).arrAt_eq_of_cover 7 (scales m c) (flushed7 m c) cover7),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 0).trans (((dats m 0 c).arrAt_in 0 rfl _).trans ((A_eq m c 0).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c)⟩, h.2⟩) (run_main m ρ)

/-- Every execution ends with the arguments unchanged and no semaphore up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2.2, h.2⟩) (run m ρ)

end Cert.KernelIdeal.Own
-- ==== Proof.Num.lean ====
/- The numbers of the quantiser and of the softmax as extended reals: what the printed constants denote, and the laws
   of products, maxima and powers of two that the two programs differ by. -/
module

public import Idealize.ShloMosaic.PureOps.Ideal
public import Idealize.ShloMosaic.PureOps.Ideal.Laws
public import Idealize.ShloMosaic.PureOps.Reduce
public import Idealize.ShloMosaic.Lib.IdealHost

@[expose] public section

noncomputable section

namespace Attn

open Idealize.ShloMosaic

/-! ## The constants -/

theorem bot32 : Ideal.ofBits .f32 0xFF800000#32 = (⊥ : EReal) := by simp [Ideal.ofBits, Ideal.ieee]
theorem bot16 : Ideal.ofBits .bf16 0xFF80#16 = (⊥ : EReal) := by simp [Ideal.ofBits, Ideal.ieee]
theorem one32 : Ideal.ofBits .f32 0x3F800000#32 = (1 : EReal) := Ideal.ofBits_one_f32
theorem zero32 : Ideal.ofBits .f32 0x00000000#32 = (0 : EReal) := Ideal.ofBits_zero_f32

/-- The score's scale is a positive real. -/
theorem sm_pos : ∃ r : ℝ, 0 < r ∧ Ideal.ofBits .f32 0x3DB504F3#32 = ((r : ℝ) : EReal) :=
  ⟨11863283 * (2 : ℝ) ^ (-27 : Int), by positivity, by
    simp [Ideal.ofBits, Ideal.ieee]⟩

/-- So is the number of bits in a unit of the natural logarithm, -/
theorem log2e_pos : ∃ r : ℝ, 0 < r ∧ Ideal.ofBits .f32 0x3FB8AA3B#32 = ((r : ℝ) : EReal) :=
  ⟨12102203 * (2 : ℝ) ^ (-23 : Int), by positivity, by
    simp [Ideal.ofBits, Ideal.ieee]⟩

/-- and the smallest unit of score. -/
theorem minCoef_pos : (0 : EReal) < Ideal.ofBits .f32 0x0D800000#32 := by
  simp [Ideal.ofBits, Ideal.ieee]
  rw [← EReal.coe_mul]
  exact EReal.coe_pos.2 (by positivity)

theorem c127 : Ideal.ofBits .f32 0x42FE0000#32 = ((127 : ℝ) : EReal) := by
  simp [Ideal.ofBits, Ideal.ieee]
  norm_num [← EReal.coe_mul]
theorem c8 : Ideal.ofBits .f32 0x41000000#32 = ((8 : ℝ) : EReal) := by
  simp [Ideal.ofBits, Ideal.ieee]
  norm_num [← EReal.coe_mul]
theorem c256 : Ideal.ofBits .f32 0x43800000#32 = ((256 : ℝ) : EReal) := by
  simp [Ideal.ofBits, Ideal.ieee]
  norm_num [← EReal.coe_mul]
theorem c256inv : Ideal.ofBits .f32 0x3B800000#32 = ((1 / 256 : ℝ) : EReal) := by
  simp [Ideal.ofBits, Ideal.ieee]
  norm_num [← EReal.coe_mul]

/-! ## Products with a positive number -/

theorem mul_mono {s : EReal} (hs : 0 ≤ s) : Monotone fun x : EReal => x * s := fun _ _ h => mul_le_mul_of_nonneg_right h hs

theorem abs_mul_pos (x s : EReal) (hs : 0 ≤ s) : max (x * s) (-(x * s)) = max x (-x) * s := by
  rw [← EReal.neg_mul]
  exact ((mul_mono hs).map_max).symm

theorem sup_mul {ι : Type} (S : Finset ι) (f : ι → EReal) (s : EReal) (hs : 0 < s) : S.sup f * s = S.sup fun i => f i * s :=
  Finset.comp_sup_eq_sup_comp (fun x : EReal => x * s) (fun _ _ => (mul_mono hs.le).map_max) (EReal.bot_mul_of_pos hs)

/-- A quotient is the product with the inverse, unless by zero. -/
theorem div_eq_mul (x s : EReal) (hs : s ≠ 0) : x * Ideal.div 1 s = Ideal.div x s := by
  unfold Ideal.div
  rw [if_neg hs, if_neg hs, one_mul]

/-! ## A block's scale, from its largest magnitude -/

/-- A 127th of the largest magnitude, or one where that is zero. -/
def scl (a : EReal) : EReal := Scalar.select (FloatOps.cmpf (F := Ideal) (φ := .f32) .oeq a (Ideal.ofBits .f32 0x00000000#32))
  (Ideal.ofBits .f32 0x3F800000#32) (Ideal.div a (Ideal.ofBits .f32 0x42FE0000#32))

theorem scl_eq (a : EReal) : scl a = if a = 0 then 1 else a * ((1 / 127 : ℝ) : EReal) := by
  unfold scl
  rw [zero32, one32, c127, Ideal.div_coe (by norm_num)]
  show Scalar.select (BitVec.ofBool (decide (a = 0))) _ _ = _
  by_cases h : a = 0
  · simp [h, Scalar.select]
  · simp [h, Scalar.select]

theorem scl_ne (a : EReal) : scl a ≠ 0 := by
  rw [scl_eq]
  split
  · exact one_ne_zero
  · next h =>
    refine mul_ne_zero h ?_
    exact_mod_cast (by norm_num : (1 / 127 : ℝ) ≠ 0)

/-! ## A maximum over an axis, by what bounds it -/

theorem maxRed_le {s t : Shape} {φ : FTy} {axes : List (Fin s.rank)} (src : FVec Ideal s φ) (acc : BitVec φ.bits) (h : s.Reduces axes t)
    (hφ : FKind.Formats φ) (hacc : acc = FKind.maximumf.neutral φ hφ) (hb : Ideal.ofBits φ acc = (⊥ : EReal)) (j : t.Idx) (z : EReal) :
    (multiReduction .maximumf axes t src acc h hφ hacc j : EReal) ≤ z ↔ ∀ i, h.drop i = j → (src i : EReal) ≤ z := by
  rw [multiReduction_maximumf_eq_fold]
  refine (Finset.fold_max_le (β := EReal) (f := src) (b := Ideal.ofBits φ acc) (s := Finset.univ.filter fun i => h.drop i = j) z).trans ?_
  rw [hb]
  simp

end Attn
end
-- ==== Proof.Scale.lean ====
/- The quantiser of one block of 128 rows of one head, as the kernel computes it and as the reference does: the scale
   from the largest magnitude, and the codes. -/
module

public import proofs.«01_k».proof.Proof.Num
public import proofs.«01_k».proof.Proof.Quant
public import proofs.«01_k».proof.Proof.Gen.ReferenceIdeal.Skeleton
public import Idealize.ShloMosaic.Lib.ValueIdx

@[expose] public section

noncomputable section

namespace Attn

open Idealize.ShloMosaic

/-- The largest magnitude of a block. -/
def amax (xt : S128x128.Idx → EReal) : EReal := Finset.univ.sup fun i => max (xt i) (-(xt i))

abbrev sm : EReal := Ideal.ofBits .f32 0x3DB504F3#32

theorem sm_gt : (0 : EReal) < sm := by
  obtain ⟨r, hr, e⟩ := sm_pos
  show (0 : EReal) < Ideal.ofBits .f32 0x3DB504F3#32
  rw [e]
  exact EReal.coe_pos.2 hr

/-- The largest scaled magnitude is the largest magnitude, scaled. -/
theorem amax_mul (xt : S128x128.Idx → EReal) :
    (Finset.univ.sup fun i => max (xt i * sm) (-(xt i * sm))) = amax xt * sm := by
  unfold amax
  rw [sup_mul _ _ _ sm_gt]
  exact Finset.sup_congr rfl fun i _ => abs_mul_pos _ _ sm_gt.le

/-- The code of a scaled number at a scale. -/
def codeAt (x s : EReal) : EReal := min (Ideal.ofBits .f32 0x42FE0000#32) (max (Ideal.ofBits .f32 0xC2FE0000#32)
  (FloatOps.roundeven (F := Ideal) (φ := .f32) (Ideal.div (x * sm) s)))

theorem scl_form {s : Shape} (a : FVec Ideal s .f32) (y : s.Idx) :
    select (cmpf .oeq a (broadcast s (Scalar.ofBits .f32 0x00000000#32))) (broadcast s (Scalar.ofBits .f32 0x3F800000#32))
      (divf a (broadcast s (Scalar.ofBits .f32 0x42FE0000#32))) y = scl (a y) := rfl

theorem code_form {s : Shape} (a : FVec Ideal s .f32) (y : s.Idx) :
    minimumf (broadcast s (Scalar.ofBits .f32 0x42FE0000#32)) (maximumf (broadcast s (Scalar.ofBits .f32 0xC2FE0000#32)) (roundeven a)) y
      = min (Ideal.ofBits .f32 0x42FE0000#32) (max (Ideal.ofBits .f32 0xC2FE0000#32) (FloatOps.roundeven (F := Ideal) (φ := .f32) (a y))) := rfl

theorem sm_form {s : Shape} (a : FVec Ideal s .f32) (y : s.Idx) : mulf a (broadcast s (Scalar.ofBits .f32 0x3DB504F3#32)) y = a y * sm := rfl

theorem absf_form {s : Shape} {φ : FTy} (a : FVec Ideal s φ) (y : s.Idx) : absf a y = max (a y) (-(a y)) := rfl

/-- The largest magnitude of the rows, of each column. -/
def colMax (xt : FVec Ideal S128x128 .bf16) : FVec Ideal S128 .bf16 :=
  multiReduction .maximumf [0] S128 (absf xt) 0xFF80#16 (by decide) (.inr rfl) rfl

theorem colMax_le (xt : FVec Ideal S128x128 .bf16) (j : S128.Idx) (z : EReal) :
    colMax xt j ≤ z ↔ ∀ k : S128x128.Idx, (k 1).val = (j 0).val → max (xt k) (-(xt k)) ≤ z := by
  unfold colMax
  refine (maxRed_le _ _ _ _ _ bot16 _ z).trans (forall_congr' fun k => imp_congr ?_ Iff.rfl)
  exact ⟨fun h => congrArg Fin.val (congrFun h 0), fun h => funext fun b => match b with
    | ⟨0, _⟩ => Fin.ext h⟩

theorem rowMax (xt : FVec Ideal S128x128 .bf16) (v : FVec Ideal S1x128 .f32) (hv : ∀ i : S1x128.Idx, v i = colMax xt (ValueIdx.ix1 (i 1))) (j : S1.Idx) :
    multiReduction .maximumf [1] S1 v 0xFF800000#32 (by decide) (.inl rfl) rfl j = amax xt := by
  refine eq_of_forall_ge_iff fun z => ?_
  refine (maxRed_le _ _ _ _ _ bot32 _ z).trans ?_
  unfold amax
  rw [Finset.sup_le_iff]
  constructor
  · intro h k _
    have hh := h (ix2 0 (k 1)) (funext fun b => match b with
      | ⟨0, _⟩ => Fin.ext (by
        have : (j 0).val < 1 := (j 0).isLt
        show 0 = (j 0).val
        omega))
    rw [hv] at hh
    exact (colMax_le _ _ _).1 hh k rfl
  · intro h i _
    rw [hv]
    exact (colMax_le _ _ _).2 fun k _ => h k (Finset.mem_univ k)

theorem ext_row (w : FVec Ideal S128 .bf16) (h : S128.ShapeCasts S1x128) (hb : FTy.bits .bf16 < FTy.bits .f32) (i : S1x128.Idx) :
    (extf .f32 (shapeCast S1x128 w h) hb : FVec Ideal S1x128 .f32) i = w (ValueIdx.ix1 (i 1)) := by
  rw [ValueIdx.extf_apply]
  refine shapeCast_apply w h i (ValueIdx.ix1 (i 1)) ?_
  have hi0 : (i 0).val < 1 := (i 0).isLt
  rw [Shape.rowMajor_val_two, Shape.rowMajor_val_one]
  show (i 1).val = (i 0).val * 128 + (i 1).val
  omega

theorem tileScale_eq (xt : FVec Ideal S128x128 .bf16) (y : S1x1.Idx) : tileScale xt y = scl (amax xt * sm) := by
  unfold tileScale
  refine (scl_form _ y).trans (congrArg scl ?_)
  refine (sm_form _ y).trans (congrArg (· * sm) ?_)
  refine (shapeCast_apply _ _ y (ValueIdx.ix1 0) ?_).trans ?_
  · have h0 : (y 0).val < 1 := (y 0).isLt
    have h1 : (y 1).val < 1 := (y 1).isLt
    rw [Shape.rowMajor_val_two, Shape.rowMajor_val_one]
    show 0 = (y 0).val * 1 + (y 1).val
    omega
  · exact rowMax xt _ (fun i => ext_row (colMax xt) _ _ i) _

theorem tileCodes_eq (xt : FVec Ideal S128x128 .bf16) (y : S128x128.Idx) : tileCodes xt y = codeAt (xt y) (scl (amax xt * sm)) := by
  unfold tileCodes
  refine (code_form _ y).trans ?_
  rw [ValueIdx.mulf_apply, sm_form, ValueIdx.extf_apply, broadcastTo_apply _ _ y (ix2 0 0) (fun a => match a with
    | ⟨0, _⟩ => rfl
    | ⟨1, _⟩ => rfl), ValueIdx.divf_apply, tileScale_eq, show (broadcast S1x1 (Scalar.ofBits .f32 0x3F800000#32) : FVec Ideal S1x1 .f32) (ix2 0 0) = Ideal.ofBits .f32 0x3F800000#32 from rfl,
    one32, div_eq_mul _ _ (scl_ne _), codeAt]

/-! ## The reference's -/

section Ref
open Cert.ReferenceIdeal Cert.ReferenceIdeal.Gen
open Idealize.ShloMosaic.ValueIdx (ix5 eq_ix5)

/-- A block of 128 rows of one head. -/
def tileOf (x : S2x1024x3584.Idx → EReal) (b : Fin 2) (q : Fin 8) (h : Fin 28) : S128x128.Idx → EReal := fun z =>
  x (ix3 b ⟨128 * q.val + (z 0).val, by have : (z 0).val < 128 := (z 0).isLt; omega⟩ ⟨128 * h.val + (z 1).val, by have : (z 1).val < 128 := (z 1).isLt; omega⟩)

theorem pay2_at (x : FVec Ideal S2x1024x3584 .bf16) (b : Fin 2) (q : Fin 8) (r : Fin 128) (h : Fin 28) (d : Fin 128) :
    k0_pay2 (F := Ideal) x (ix5 b q r h d) = tileOf x b q h (ix2 r d) * sm := by
  unfold k0_pay2
  refine (sm_form _ _).trans (congrArg (· * sm) ?_)
  refine (shapeCast_apply _ _ _ (ix3 b (⟨128 * q.val + r.val, by omega⟩ : Fin 1024) (⟨128 * h.val + d.val, by omega⟩ : Fin 3584)) ?_).trans ?_
  · rw [Shape.rowMajor_val_three, Shape.rowMajor_val_five]
    show (b.val * 1024 + (128 * q.val + r.val)) * 3584 + (128 * h.val + d.val) = (((b.val * 8 + q.val) * 128 + r.val) * 28 + h.val) * 128 + d.val
    omega
  · rfl

/-- The scale of a block. -/
def scaleOf (x : S2x1024x3584.Idx → EReal) (b : Fin 2) (q : Fin 8) (h : Fin 28) : EReal := scl (amax (tileOf x b q h) * sm)

theorem refMax (v : FVec Ideal S2x8x128x28x128 .f32) (x : S2x1024x3584.Idx → EReal)
    (hv : ∀ b q r h d, v (ix5 b q r h d) = max (tileOf x b q h (ix2 r d) * sm) (-(tileOf x b q h (ix2 r d) * sm))) (b : Fin 2) (q : Fin 8) (h : Fin 28) :
    multiReduction .maximumf [2, 4] S2x8x28 v 0xFF800000#32 reduces_S2x8x128x28x128_S2x8x28 (.inl rfl) rfl (ix3 b q h) = amax (tileOf x b q h) * sm := by
  refine Eq.trans ?_ (amax_mul _)
  refine eq_of_forall_ge_iff fun z => ?_
  refine (maxRed_le _ _ _ _ _ bot32 _ z).trans ?_
  rw [Finset.sup_le_iff]
  constructor
  · intro hh k _
    have := hh (ix5 b q (k 0 : Fin 128) h (k 1 : Fin 128)) (funext fun a => match a with
      | ⟨0, _⟩ => Fin.ext rfl
      | ⟨1, _⟩ => Fin.ext rfl
      | ⟨2, _⟩ => Fin.ext rfl)
    have ek : ix2 (k 0 : Fin 128) (k 1 : Fin 128) = k := idx2_ext rfl rfl
    have e := (hv b q (k 0) h (k 1)).trans (congrArg (fun j => max (tileOf x b q h j * sm) (-(tileOf x b q h j * sm))) ek)
    exact e.symm.trans_le this
  · intro hh i hi
    have h0 : i 0 = b := Fin.ext (congrArg Fin.val (congrFun hi 0))
    have h1 : i 1 = q := Fin.ext (congrArg Fin.val (congrFun hi 1))
    have h3 : i 3 = h := Fin.ext (congrArg Fin.val (congrFun hi 2))
    have ei : i = ix5 b q (i 2 : Fin 128) h (i 4 : Fin 128) := by rw [← h0, ← h1, ← h3]; exact eq_ix5 i
    exact ((congrArg v ei).trans (hv b q _ h _)).trans_le (hh (ix2 (i 2 : Fin 128) (i 4 : Fin 128)) (Finset.mem_univ _))

theorem pay3_at (x : FVec Ideal S2x1024x3584 .bf16) (b : Fin 2) (q : Fin 8) (h : Fin 28) (u v : Fin 1) :
    k0_pay3 (F := Ideal) x (ix5 b q u h v) = scaleOf x b q h := by
  unfold k0_pay3
  refine (scl_form _ _).trans (congrArg scl ?_)
  refine (shapeCast_apply _ _ _ (ix3 b q h) ?_).trans ?_
  · rw [Shape.rowMajor_val_three, Shape.rowMajor_val_five]
    show (b.val * 8 + q.val) * 28 + h.val = (((b.val * 8 + q.val) * 1 + u.val) * 28 + h.val) * 1 + v.val
    omega
  · refine refMax _ x (fun b q r h d => ?_) b q h
    rw [absf_form, pay2_at]

/-- The scales, -/
theorem pay6_at (x : FVec Ideal S2x1024x3584 .bf16) (b : Fin 2) (q : Fin 8) (h : Fin 28) : k0_pay6 (F := Ideal) x (ix3 b q h) = scaleOf x b q h := by
  unfold k0_pay6
  refine (shapeCast_apply _ _ _ (ix5 b q (0 : Fin 1) h (0 : Fin 1)) ?_).trans (pay3_at x b q h 0 0)
  rw [Shape.rowMajor_val_three, Shape.rowMajor_val_five]
  show (((b.val * 8 + q.val) * 1 + 0) * 28 + h.val) * 1 + 0 = (b.val * 8 + q.val) * 28 + h.val
  omega

/-- the codes, block by block, -/
theorem pay4_at (x : FVec Ideal S2x1024x3584 .bf16) (b : Fin 2) (q : Fin 8) (r : Fin 128) (h : Fin 28) (d : Fin 128) :
    k0_pay4 (F := Ideal) x (ix5 b q r h d) = FloatOps.fptosi (F := Ideal) (φ := .f32) 8 (codeAt (tileOf x b q h (ix2 r d)) (scaleOf x b q h)) := by
  unfold k0_pay4
  refine congrArg (FloatOps.fptosi (F := Ideal) (φ := .f32) 8) ((code_form _ _).trans ?_)
  rw [ValueIdx.divf_apply, broadcastTo_apply _ _ _ (ix5 b q (0 : Fin 1) h (0 : Fin 1)) (fun a => match a with
    | ⟨0, _⟩ => rfl
    | ⟨1, _⟩ => rfl
    | ⟨2, _⟩ => rfl
    | ⟨3, _⟩ => rfl
    | ⟨4, _⟩ => rfl), pay3_at, pay2_at, codeAt]

/-- and in the array. -/
theorem pay5_at (x : FVec Ideal S2x1024x3584 .bf16) (b : Fin 2) (t : Fin 1024) (n : Fin 3584) :
    k0_pay5 (F := Ideal) x (ix3 b t n) = FloatOps.fptosi (F := Ideal) (φ := .f32) 8
      (codeAt (x (ix3 b t n)) (scaleOf x b ⟨t.val / 128, by omega⟩ ⟨n.val / 128, by omega⟩)) := by
  unfold k0_pay5
  refine (shapeCast_apply _ _ _ (ix5 b (⟨t.val / 128, by omega⟩ : Fin 8) (⟨t.val % 128, by omega⟩ : Fin 128) (⟨n.val / 128, by omega⟩ : Fin 28)
      (⟨n.val % 128, by omega⟩ : Fin 128)) ?_).trans ?_
  · rw [Shape.rowMajor_val_three, Shape.rowMajor_val_five]
    show (((b.val * 8 + t.val / 128) * 128 + t.val % 128) * 28 + n.val / 128) * 128 + n.val % 128 = (b.val * 1024 + t.val) * 3584 + n.val
    omega
  · rw [pay4_at]
    refine congrArg (fun v => FloatOps.fptosi (F := Ideal) (φ := .f32) 8 (codeAt v _)) (congrArg x (idx3_ext ?_ ?_ ?_))
    · rfl
    · show 128 * (t.val / 128) + t.val % 128 = t.val
      omega
    · show 128 * (n.val / 128) + n.val % 128 = n.val
      omega

end Ref

end Attn
end
-- ==== Proof.Codes.lean ====
/- The codes and the scales: what the kernel's steps leave in the two arrays is what the reference computes. -/
module

public import proofs.«01_k».proof.Proof.Scale
public import proofs.«01_k».proof.Proof.KernelIdealRun

@[expose] public section

set_option maxRecDepth 16384

noncomputable section

namespace Cert.KernelIdeal.Own

open Idealize.ShloMosaic Idealize.ShloMosaic.TcCoe
open Cert.KernelIdeal.Gen
open Attn (ix2 ix3 tileOf scaleOf codeAt scl amax sm)

section Reads
variable {F : FTy → Type} [FloatOps F]
variable (m : (ℓ : Loc nD τ sig) → Buf (Elt F) ℓ)

theorem xB_at (c : Dev nD) (t : Fin cfg0.N) (j : S1x1024x896.Idx) : xB m c t j = m ((c : Thread nD τ).loc main_arg0) (at3 t j) := by
  unfold xB iblk
  rw [View.read_apply]
  refine (congrFun (V_main_arg0 m c) _).trans ?_
  refine congrArg (m ((c : Thread nD τ).loc main_arg0)) (Attn.idx3_ext (p := 2) (q := 1024) (r := 3584) (z := at3 t j) ?_ ?_ ?_)
  · show (BitVec.ofNat 32 (grid0.coords t 0).val).toNat * 1 + 1 * (j 0).val = (bOf t).val
    have h0 : (j 0).val < 1 := (j 0).isLt
    rw [word0]; omega
  · show (0#32 : BitVec 32).toNat * 1024 + 1 * (j 1).val = (j 1).val
    simp
  · show (BitVec.ofNat 32 (grid0.coords t 1).val).toNat * 896 + 1 * (j 2).val = (kOf t).val * 896 + (j 2).val
    rw [word1]; omega

end Reads

variable (m : (ℓ : Loc nD τ sig) → Buf (Elt Ideal) ℓ)

/-- The block of a step's head is the array's block of that head. -/
theorem tile_at (c : Dev nD) (t : Fin cfg0.N) (q : Fin 8) (h : Fin 7) :
    Attn.tile (xB m c t) q h = tileOf (m ((c : Thread nD τ).loc main_arg0)) (bOf t) q ⟨7 * (kOf t).val + h.val, by omega⟩ := by
  funext z
  have h0 : (z 0).val < 128 := (z 0).isLt
  have h1 : (z 1).val < 128 := (z 1).isLt
  unfold Attn.tile tileOf
  rw [xB_at]
  refine congrArg (m ((c : Thread nD τ).loc main_arg0)) (Attn.idx3_ext rfl rfl ?_)
  show (kOf t).val * 896 + (128 * h.val + (z 1).val) = 128 * (7 * (kOf t).val + h.val) + (z 1).val
  omega

theorem scaleT_at (c : Dev nD) (t : Fin cfg0.N) (q : Fin 8) (h : Fin 7) :
    Attn.scaleT (xB m c t) q h = scaleOf (m ((c : Thread nD τ).loc main_arg0)) (bOf t) q ⟨7 * (kOf t).val + h.val, by omega⟩ := by
  unfold Attn.scaleT scaleOf
  rw [Attn.tileScale_eq, tile_at]

/-- The codes. -/
theorem codes_at (c : Dev nD) (b : Fin 2) (t : Fin 1024) (n : Fin 3584) :
    codes m c (ix3 b t n) = FloatOps.fptosi (F := Ideal) (φ := .f32) 8 (codeAt (m ((c : Thread nD τ).loc main_arg0) (ix3 b t n))
      (scaleOf (m ((c : Thread nD τ).loc main_arg0)) b ⟨t.val / 128, by omega⟩ ⟨n.val / 128, by omega⟩)) := by
  unfold codes whole Attn.qcT
  refine congrArg (FloatOps.fptosi (F := Ideal) (φ := .f32) 8) ?_
  rw [Attn.tileCodes_eq, tile_at]
  refine congr (congrArg codeAt ?_) ?_
  · unfold tileOf
    refine congrArg (m ((c : Thread nD τ).loc main_arg0)) (Attn.idx3_ext ?_ ?_ ?_)
    · show (4 * b.val + n.val / 896) / 4 % 2 = b.val
      omega
    · show 128 * (t.val / 128) + t.val % 128 = t.val
      omega
    · show 128 * (7 * ((4 * b.val + n.val / 896) % 4) + n.val % 896 / 128) + n.val % 896 % 128 = n.val
      omega
  · refine congrArg₂ (fun b' k => scaleOf (m ((c : Thread nD τ).loc main_arg0)) b' ⟨t.val / 128, by omega⟩ k) (Fin.ext ?_) (Fin.ext ?_)
    · show (4 * b.val + n.val / 896) / 4 % 2 = b.val
      omega
    · show 7 * ((4 * b.val + n.val / 896) % 4) + n.val % 896 / 128 = n.val / 128
      omega

/-- After a step the scales of its group of heads and of the earlier groups of the batch are there. -/
theorem qsAt_at (c : Dev nD) (q : Fin 8) (h : Fin 28) : ∀ (n : ℕ) (hn : n < cfg0.N), h.val < 7 * (n % 4) + 7 →
    qsAt m c n hn (ix3 (0 : Fin 1) q h) = scaleOf (m ((c : Thread nD τ).loc main_arg0)) (bOf ⟨n, hn⟩) q h
  | n, hn, hh => by
    have step : ∀ old : Vec Ideal S1x8x28 .f32, (¬ 7 * (n % 4) ≤ h.val → old (ix3 (0 : Fin 1) q h) = scaleOf (m ((c : Thread nD τ).loc main_arg0)) (bOf ⟨n, hn⟩) q h) →
        Attn.qsT (n % 4) (xB m c ⟨n, hn⟩) old (ix3 (0 : Fin 1) q h) = scaleOf (m ((c : Thread nD τ).loc main_arg0)) (bOf ⟨n, hn⟩) q h := by
      intro old ho
      unfold Attn.qsT
      by_cases hin : 7 * (n % 4) ≤ h.val
      · refine (dif_pos (show 7 * (n % 4) ≤ h.val ∧ h.val < 7 * (n % 4) + 7 from ⟨hin, hh⟩)).trans ?_
        refine (scaleT_at m c ⟨n, hn⟩ q _).trans (congrArg (scaleOf _ _ q) (Fin.ext ?_))
        show 7 * (n % 4) + (h.val - 7 * (n % 4)) = h.val
        omega
      · exact (dif_neg (show ¬ (7 * (n % 4) ≤ h.val ∧ h.val < 7 * (n % 4) + 7) from fun e => hin e.1)).trans (ho hin)
    match n, hn, hh, step with
    | 0, hn, hh, step => exact step noScales (fun e => absurd (Nat.zero_le _) e)
    | n + 1, hn, hh, step =>
      unfold qsAt
      refine step _ (fun e => ?_)
      have hne : (n + 1) % 4 ≠ 0 := by omega
      rw [if_neg hne]
      refine (qsAt_at c q h n (Nat.lt_of_succ_lt hn) (by omega)).trans (congrArg (fun b => scaleOf _ b q h) (Fin.ext ?_))
      show n / 4 % 2 = (n + 1) / 4 % 2
      omega

/-- The scales. -/
theorem scales_at (c : Dev nD) (b : Fin 2) (q : Fin 8) (h : Fin 28) : scales m c (ix3 b q h) = scaleOf (m ((c : Thread nD τ).loc main_arg0)) b q h := by
  unfold scales
  refine (qsAt_at m c q h _ _ ?_).trans (congrArg (fun b => scaleOf _ b q h) (bOf_pt b 3))
  show h.val < 7 * ((4 * b.val + 3) % 4) + 7
  omega

/-- Both arrays are the reference's. -/
theorem codes_eq (c : Dev nD) (x : FVec Ideal S2x1024x3584 .bf16) (hx : m ((c : Thread nD τ).loc main_arg0) = x) :
    codes m c = Cert.ReferenceIdeal.Gen.k0_pay5 (F := Ideal) x := by
  subst hx
  funext i
  have e : i = ix3 (i 0 : Fin 2) (i 1 : Fin 1024) (i 2 : Fin 3584) := Attn.idx3_ext rfl rfl rfl
  exact (congrArg (codes m c) e).trans ((codes_at m c _ _ _).trans ((Attn.pay5_at _ _ _ _).symm.trans (congrArg (Cert.ReferenceIdeal.Gen.k0_pay5 (F := Ideal) _) e.symm)))

theorem scales_eq (c : Dev nD) (x : FVec Ideal S2x1024x3584 .bf16) (hx : m ((c : Thread nD τ).loc main_arg0) = x) :
    scales m c = Cert.ReferenceIdeal.Gen.k0_pay6 (F := Ideal) x := by
  subst hx
  funext i
  have e : i = ix3 (i 0 : Fin 2) (i 1 : Fin 8) (i 2 : Fin 28) := Attn.idx3_ext rfl rfl rfl
  exact (congrArg (scales m c) e).trans ((scales_at m c _ _ _).trans ((Attn.pay6_at _ _ _ _).symm.trans (congrArg (Cert.ReferenceIdeal.Gen.k0_pay6 (F := Ideal) _) e.symm)))

end Cert.KernelIdeal.Own
end
-- ==== Proof.Soft.lean ====
/- The softmax of one query over its keys and the values it weighs: the shifted base-two form with the scale of the codes
   taken into the exponent equals the plain form. -/
module

public import proofs.«01_k».proof.Proof.Num

@[expose] public section

noncomputable section

namespace Attn

open Idealize.ShloMosaic

abbrev l2e : EReal := Ideal.ofBits .f32 0x3FB8AA3B#32
abbrev k256 : EReal := Ideal.ofBits .f32 0x43800000#32
abbrev k448 : EReal := Ideal.ofBits .f32 0x43E00000#32
abbrev kInv : EReal := Ideal.ofBits .f32 0x3B800000#32
abbrev k8 : EReal := Ideal.ofBits .f32 0x41000000#32

/-- A score, of the keys up to the query's own. -/
def vis (t : ℕ) (sc : ℕ → EReal) (k : ℕ) : EReal := if k ≤ t then sc k else ⊥

/-- The numerator of a key's probability. -/
def num (t : ℕ) (sc : ℕ → EReal) (k : ℕ) : EReal := Ideal.exp2 ((vis t sc k - (Finset.range 1024).sup (vis t sc)) * l2e)

/-- The plain form: over all 1024 keys, by the largest score. -/
def soft (t : ℕ) (sc v : ℕ → EReal) (vs : EReal) : EReal :=
  Ideal.div ((∑ k ∈ Finset.range 1024, min (num t sc k * k256) k448 * v k) * kInv * vs) (∑ k ∈ Finset.range 1024, num t sc k)

/-- The shifted form: over the first `K` keys, with the scores in base two and the codes' 2⁸ in the exponent; the keys from
    `K` to `W` weigh nothing. -/
def shifted (K W : ℕ) (s v : ℕ → EReal) (M vs : EReal) : EReal :=
  (∑ k ∈ Finset.range W, v k * (if k < K then min (Ideal.exp2 (s k - (M - k8))) k448 else 0)) * vs
    * Ideal.div 1 (∑ k ∈ Finset.range K, Ideal.exp2 (s k - (M - k8)))

theorem coe_sum_range (n : ℕ) (f : ℕ → ℝ) : (∑ k ∈ Finset.range n, (f k : EReal)) = ((∑ k ∈ Finset.range n, f k : ℝ) : EReal) := by
  induction n with
  | zero => simp
  | succ n ih => rw [Finset.sum_range_succ, Finset.sum_range_succ, ih, EReal.coe_add]

theorem shifted_eq_soft (t K W : ℕ) (htK : t < K) (hKW : K ≤ W) (hW : W ≤ 1024) (c : ℕ → ℝ) (sc s v : ℕ → EReal) (M vs : EReal)
    (hM : ∀ z, M ≤ z ↔ ∀ k < K, s k ≤ z) (L : ℝ) (hL : 0 < L) (eL : l2e = (L : EReal))
    (hsc : ∀ k ≤ t, sc k = (c k : EReal)) (hs : ∀ k ≤ t, s k = ((c k * L : ℝ) : EReal)) (hbot : ∀ k, t < k → k < K → s k = ⊥) :
    shifted K W s v M vs = soft t sc v vs := by
  have hne : (Finset.range (t + 1)).Nonempty := ⟨0, by simp⟩
  obtain ⟨k0, hk0, e0⟩ := Finset.exists_mem_eq_sup' hne c
  have hk0 : k0 ≤ t := Nat.lt_succ_iff.mp (Finset.mem_range.mp hk0)
  have hle : ∀ k ≤ t, c k ≤ c k0 := fun k hk => e0 ▸ Finset.le_sup' c (Finset.mem_range.mpr (Nat.lt_succ_of_le hk))
  have eM : M = ((c k0 * L : ℝ) : EReal) := by
    refine le_antisymm ((hM _).2 fun k hk => ?_) ?_
    · by_cases h : k ≤ t
      · rw [hs k h]; exact EReal.coe_le_coe_iff.2 (mul_le_mul_of_nonneg_right (hle k h) hL.le)
      · rw [hbot k (by omega) hk]; exact bot_le
    · rw [← hs k0 hk0]; exact (hM M).1 le_rfl k0 (by omega)
  have eS : (Finset.range 1024).sup (vis t sc) = (c k0 : EReal) := by
    refine le_antisymm (Finset.sup_le fun k _ => ?_) ?_
    · unfold vis
      split
      · next h => rw [hsc k h]; exact EReal.coe_le_coe_iff.2 (hle k h)
      · exact bot_le
    · have := Finset.le_sup (f := vis t sc) (Finset.mem_range.mpr (show k0 < 1024 by omega))
      unfold vis at this ⊢
      rw [if_pos hk0, hsc k0 hk0] at this
      exact this
  let e : ℕ → ℝ := fun k => if k ≤ t then Real.rpow 2 ((c k - c k0) * L) else 0
  have en : ∀ k, num t sc k = (e k : EReal) := by
    intro k
    unfold num
    rw [eS, eL]
    unfold vis
    by_cases h : k ≤ t
    · rw [if_pos h, hsc k h, ← EReal.coe_sub, ← EReal.coe_mul]
      simp only [e, if_pos h]
      rfl
    · rw [if_neg h, EReal.bot_sub, EReal.bot_mul_coe_of_pos hL]
      simp only [e, if_neg h]
      rfl
  have ek : ∀ k < K, Ideal.exp2 (s k - (M - k8)) = ((e k * 256 : ℝ) : EReal) := by
    intro k hk
    rw [eM, show k8 = ((8 : ℝ) : EReal) from c8, ← EReal.coe_sub]
    by_cases h : k ≤ t
    · rw [hs k h, ← EReal.coe_sub]
      simp only [e, if_pos h]
      show ((Real.rpow 2 _ : ℝ) : EReal) = _
      congr 1
      have : c k * L - (c k0 * L - 8) = (c k - c k0) * L + ((8 : ℕ) : ℝ) := by push_cast; ring
      rw [this]
      refine (Real.rpow_add_natCast (by norm_num : (2 : ℝ) ≠ 0) _ 8).trans ?_
      norm_num
    · rw [hbot k (by omega) hk, EReal.bot_sub]
      simp only [e, if_neg h]
      rw [zero_mul]
      rfl
  have hep : ∀ k, 0 ≤ e k := by
    intro k
    simp only [e]
    split
    · exact Real.rpow_nonneg (by norm_num) _
    · exact le_rfl
  have ez : ∀ k, t < k → e k = 0 := fun k hk => by simp only [e]; rw [if_neg (by omega)]
  have sub : ∀ (n : ℕ), t < n → n ≤ 1024 → ∑ k ∈ Finset.range n, e k = ∑ k ∈ Finset.range 1024, e k := fun n h1 h2 =>
    Finset.sum_subset (Finset.range_mono h2) fun k _ hk => ez k (by rw [Finset.mem_range] at hk; omega)
  have hl : 0 < ∑ k ∈ Finset.range 1024, e k := by
    refine Finset.sum_pos' (fun k _ => hep k) ⟨k0, Finset.mem_range.mpr (by omega), ?_⟩
    simp only [e, if_pos hk0]
    exact Real.rpow_pos_of_pos (by norm_num) _
  have sumK : ∑ k ∈ Finset.range K, Ideal.exp2 (s k - (M - k8)) = (((∑ k ∈ Finset.range 1024, e k) * 256 : ℝ) : EReal) := by
    rw [Finset.sum_congr rfl fun k hk => ek k (Finset.mem_range.mp hk), coe_sum_range, ← Finset.sum_mul, sub K htK (by omega)]
  have sumN : ∑ k ∈ Finset.range 1024, num t sc k = ((∑ k ∈ Finset.range 1024, e k : ℝ) : EReal) := by
    rw [Finset.sum_congr rfl fun k _ => en k, coe_sum_range]
  have acc : ∑ k ∈ Finset.range W, v k * (if k < K then min (Ideal.exp2 (s k - (M - k8))) k448 else 0)
      = ∑ k ∈ Finset.range 1024, min (num t sc k * k256) k448 * v k := by
    have z : min (0 : EReal) k448 = 0 := min_eq_left (by
      show (0 : EReal) ≤ Ideal.ofBits .f32 0x43E00000#32
      simp [Ideal.ofBits, Ideal.ieee]
      rw [← EReal.coe_mul]
      exact EReal.coe_nonneg.2 (by positivity))
    have term : ∀ k < W, v k * (if k < K then min (Ideal.exp2 (s k - (M - k8))) k448 else 0) = min (num t sc k * k256) k448 * v k := by
      intro k _
      rw [en, show k256 = ((256 : ℝ) : EReal) from c256, ← EReal.coe_mul, mul_comm (v k)]
      by_cases h : k < K
      · rw [if_pos h, ek k h]
      · rw [if_neg h, ez k (by omega), zero_mul (256 : ℝ)]
        exact congrArg (· * v k) z.symm
    rw [Finset.sum_congr rfl fun k hk => term k (Finset.mem_range.mp hk)]
    refine Finset.sum_subset (Finset.range_mono hW) fun k _ hk => ?_
    rw [en, ez k (by rw [Finset.mem_range] at hk; omega), EReal.coe_zero, zero_mul, z, zero_mul]
  unfold shifted soft
  rw [acc, sumK, sumN, show kInv = ((1 / 256 : ℝ) : EReal) from c256inv, Ideal.div_coe (by positivity), Ideal.div_coe hl.ne', one_mul]
  generalize (∑ k ∈ Finset.range 1024, min (num t sc k * k256) k448 * v k) = A
  have : (1 / ((∑ k ∈ Finset.range 1024, e k) * 256) : ℝ) = (1 / 256) * (1 / ∑ k ∈ Finset.range 1024, e k) := by
    field_simp
  rw [this, EReal.coe_mul]
  simp only [mul_assoc]
  congr 1
  exact mul_left_comm _ _ _

/-- A sum over the first `a n` numbers, in `n` runs of `a`. -/
theorem sum_range_mul {α : Type} [AddCommMonoid α] (a : ℕ) (f : ℕ → α) : ∀ n, ∑ x ∈ Finset.range (a * n), f x = ∑ i ∈ Finset.range n, ∑ r ∈ Finset.range a, f (a * i + r)
  | 0 => by simp
  | n + 1 => by rw [Nat.mul_succ, Finset.sum_range_add, sum_range_mul a f n, Finset.sum_range_succ]

end Attn
end
-- ==== Proof.Lane.lean ====
/- What a chunk makes of one of its lanes: the shifted softmax over the keys the chunk reads. -/
module

public import proofs.«01_k».proof.Proof.Soft
public import proofs.«01_k».proof.Proof.Chunk
public import Idealize.ShloMosaic.Lib.ValueIdx
public import Idealize.ShloMosaic.Lib.MatmulPlain
public import Idealize.ShloMosaic.Lib.Pointwise.Reduce

@[expose] public section

noncomputable section

namespace Attn

open Idealize.ShloMosaic

/-! ## The operations of a group, at a lane -/

theorem fold8 (x : FVec Ideal S64x256 .f32) (h : S64x256.ShapeCasts S8x8x256) (a r : Fin 8) (l : Fin 256) :
    shapeCast S8x8x256 x h (ValueIdx.ix3 a r l) = x (ix2 (⟨8 * a.val + r.val, by omega⟩ : Fin 64) l) := by
  refine shapeCast_apply x h _ _ ?_
  rw [Shape.rowMajor_val_two, Shape.rowMajor_val_three]
  show (8 * a.val + r.val) * 256 + l.val = (a.val * 8 + r.val) * 256 + l.val
  omega

theorem row_to {n : ℕ} (x : FVec Ideal S1x256 .f32) (h : S1x256.Broadcasts ⟨2, ![n, 256]⟩) (r : Fin n) (l : Fin 256) :
    broadcastTo (⟨2, ![n, 256]⟩ : Shape) x h (ix2 r l) = x (ix2 (0 : Fin 1) l) :=
  broadcastTo_apply _ _ _ _ (fun a => match a with
    | ⟨0, _⟩ => rfl
    | ⟨1, _⟩ => rfl)

def colMax8 (raw : FVec Ideal S64x256 .f32) : FVec Ideal S8x256 .f32 :=
  multiReduction .maximumf [0] S8x256 (shapeCast S8x8x256 raw) 0xFF800000#32 (by decide) (.inl rfl) rfl

theorem colMax8_le (raw : FVec Ideal S64x256 .f32) (r : Fin 8) (l : Fin 256) (z : EReal) :
    colMax8 raw (ix2 r l) ≤ z ↔ ∀ a : Fin 8, raw (ix2 (⟨8 * a.val + r.val, by omega⟩ : Fin 64) l) ≤ z := by
  unfold colMax8
  refine (maxRed_le _ _ _ _ _ bot32 _ z).trans ?_
  constructor
  · intro h a
    have := h (ValueIdx.ix3 a r l) (funext fun b => match b with
      | ⟨0, _⟩ => Fin.ext rfl
      | ⟨1, _⟩ => Fin.ext rfl)
    exact (fold8 raw _ a r l).symm.trans_le this
  · intro h i hi
    have e1 : i 1 = r := Fin.ext (congrArg Fin.val (congrFun hi 0))
    have e2 : i 2 = l := Fin.ext (congrArg Fin.val (congrFun hi 1))
    have ei : i = ValueIdx.ix3 (i 0 : Fin 8) r l := by
      funext b
      match b with
      | ⟨0, _⟩ => rfl
      | ⟨1, _⟩ => exact e1
      | ⟨2, _⟩ => exact e2
    rw [ei]
    exact (fold8 raw _ (i 0) r l).trans_le (h _)

theorem m8_form {s : Shape} (a b c : FVec Ideal s .f32) (y : s.Idx) : maximumf a (mulf b c) y = max (a y) (b y * c y) := rfl

theorem m8Of_le (m8 : FVec Ideal S8x256 .f32) (raw : FVec Ideal S64x256 .f32) (cg : FVec Ideal S1x256 .f32) (r : Fin 8) (l : Fin 256) (z : EReal)
    (h0 : 0 < cg (ix2 (0 : Fin 1) l)) :
    m8Of m8 raw cg (ix2 r l) ≤ z ↔ m8 (ix2 r l) ≤ z ∧ ∀ a : Fin 8, raw (ix2 (⟨8 * a.val + r.val, by omega⟩ : Fin 64) l) * cg (ix2 (0 : Fin 1) l) ≤ z := by
  have e : m8Of m8 raw cg (ix2 r l) = max (m8 (ix2 r l)) (colMax8 raw (ix2 r l) * cg (ix2 (0 : Fin 1) l)) :=
    (m8_form _ _ _ _).trans (congrArg (fun w => max (m8 (ix2 r l)) (colMax8 raw (ix2 r l) * w)) (row_to cg _ r l))
  rw [e, max_le_iff]
  have e2 : colMax8 raw (ix2 r l) = Finset.univ.sup fun a : Fin 8 => raw (ix2 (⟨8 * a.val + r.val, by omega⟩ : Fin 64) l) :=
    eq_of_forall_ge_iff fun z => (colMax8_le _ _ _ _).trans (by simp only [Finset.sup_le_iff, Finset.mem_univ, true_imp_iff])
  rw [e2, sup_mul _ _ _ h0]
  simp only [Finset.sup_le_iff, Finset.mem_univ, true_imp_iff]

theorem l8_form {s : Shape} (a b : FVec Ideal s .f32) (y : s.Idx) : addf a b y = a y + b y := rfl

theorem l8Of_at (l8 : FVec Ideal S8x256 .f32) (p : FVec Ideal S64x256 .f32) (r : Fin 8) (l : Fin 256) :
    l8Of l8 p (ix2 r l) = l8 (ix2 r l) + ∑ a : Fin 8, p (ix2 (⟨8 * a.val + r.val, by omega⟩ : Fin 64) l) := by
  unfold l8Of
  refine (l8_form _ _ _).trans (congrArg (l8 (ix2 r l) + ·) ?_)
  refine (Ideal.reduceAdd_r3_a0 _ _ _).trans (Finset.sum_congr rfl fun a _ => ?_)
  exact fold8 p _ a r l

theorem p_form {s : Shape} (a b c : FVec Ideal s .f32) (y : s.Idx) : exp2 (subf (mulf a b) c) y = Ideal.exp2 (a y * b y - c y) := rfl

theorem pOf_at (raw : FVec Ideal S64x256 .f32) (cg shift : FVec Ideal S1x256 .f32) (r : Fin 64) (l : Fin 256) :
    pOf raw cg shift (ix2 r l) = Ideal.exp2 (raw (ix2 r l) * cg (ix2 (0 : Fin 1) l) - shift (ix2 (0 : Fin 1) l)) := by
  unfold pOf
  exact (p_form _ _ _ _).trans (congrArg Ideal.exp2 (congrArg₂ (fun u v => raw (ix2 r l) * u - v) (row_to cg _ r l) (row_to shift _ r l)))

theorem pcOf_at (p : FVec Ideal S64x256 .f32) (y : S64x256.Idx) : pcOf p y = min (p y) k448 := rfl

def rowMax8 (m8 : FVec Ideal S8x256 .f32) : FVec Ideal S256 .f32 :=
  multiReduction .maximumf [0] S256 m8 0xFF800000#32 (by decide) (.inl rfl) rfl

theorem rowMax8_le (m8 : FVec Ideal S8x256 .f32) (l : Fin 256) (z : EReal) :
    rowMax8 m8 (ValueIdx.ix1 l) ≤ z ↔ ∀ r : Fin 8, m8 (ix2 r l) ≤ z := by
  unfold rowMax8
  refine (maxRed_le _ _ _ _ _ bot32 _ z).trans ?_
  constructor
  · intro h r
    exact h (ix2 r l) (funext fun b => match b with
      | ⟨0, _⟩ => Fin.ext rfl)
  · intro h i hi
    have e1 : i 1 = l := Fin.ext (congrArg Fin.val (congrFun hi 0))
    have ei : i = ix2 (i 0 : Fin 8) l := idx2_ext rfl (congrArg Fin.val e1)
    rw [ei]
    exact h _

theorem cast256 (x : FVec Ideal S256 .f32) (h : S256.ShapeCasts S1x256) (l : Fin 256) :
    shapeCast S1x256 x h (ix2 (0 : Fin 1) l) = x (ValueIdx.ix1 l) := by
  refine shapeCast_apply x h _ _ ?_
  rw [Shape.rowMajor_val_two, Shape.rowMajor_val_one]
  show l.val = 0 * 256 + l.val
  omega

theorem sub8_form {s : Shape} (a : FVec Ideal s .f32) (y : s.Idx) : subf a (broadcast s (Scalar.ofBits .f32 0x41000000#32)) y = a y - k8 := rfl

theorem shiftOf_at (m8 : FVec Ideal S8x256 .f32) (l : Fin 256) : shiftOf m8 (ix2 (0 : Fin 1) l) = rowMax8 m8 (ValueIdx.ix1 l) - k8 := by
  unfold shiftOf
  exact (sub8_form _ _).trans (congrArg (· - k8) (cast256 _ _ l))

/-! ## The groups in turn -/

section Groups
variable (ks : Vec Ideal S2x4x16 .f32) (a0 : Fin 2) (a1 : Fin 4) (coef : FVec Ideal S1x256 .f32) (raw : Fin 16 → FVec Ideal S64x256 .f32) (l : Fin 256)

/-- What a unit of raw score of group `g` is worth at the lane. -/
def cgv (g : ℕ) : EReal := if h : g < 16 then cgOf coef (ksAt ks a0 a1 g h) (ix2 (0 : Fin 1) l) else 1

/-- The lane's score of key `k`, in base two. -/
def sK (k : ℕ) : EReal :=
  if h : k < 1024 then raw ⟨k / 64, by omega⟩ (ix2 (⟨k % 64, by omega⟩ : Fin 64) l) * cgv ks a0 a1 coef l (k / 64) else 0

theorem sK_of (g : ℕ) (hg : g < 16) (r : Fin 64) :
    sK ks a0 a1 coef raw l (64 * g + r.val) = raw ⟨g, hg⟩ (ix2 r l) * cgOf coef (ksAt ks a0 a1 g hg) (ix2 (0 : Fin 1) l) := by
  have e3 : (64 * g + r.val) / 64 = g := by omega
  have e1 : (⟨(64 * g + r.val) / 64, by omega⟩ : Fin 16) = ⟨g, hg⟩ := Fin.ext e3
  have e2 : (⟨(64 * g + r.val) % 64, by omega⟩ : Fin 64) = r := Fin.ext (by show (64 * g + r.val) % 64 = r.val; omega)
  unfold sK
  rw [dif_pos (by omega), e1, e2, e3]
  unfold cgv
  rw [dif_pos hg]

variable {ks a0 a1 coef raw l}

theorem m8L_le (hc : ∀ g, (hg : g < 16) → 0 < cgv ks a0 a1 coef l g) (r : Fin 8) (z : EReal) :
    ∀ (n g : ℕ) (hg : g + n ≤ 16) (m8 : FVec Ideal S8x256 .f32), m8L ks a0 a1 coef raw n g hg m8 (ix2 r l) ≤ z ↔
      m8 (ix2 r l) ≤ z ∧ ∀ j < n, ∀ a : Fin 8, sK ks a0 a1 coef raw l (64 * (g + j) + (8 * a.val + r.val)) ≤ z
  | 0, g, hg, m8 => by simp [m8L]
  | n + 1, g, hg, m8 => by
    have hcg := hc g (by omega)
    unfold cgv at hcg
    rw [dif_pos (show g < 16 by omega)] at hcg
    unfold m8L
    rw [m8L_le hc r z n (g + 1) (by omega) _, m8Of_le _ _ _ _ _ _ hcg, and_assoc]
    refine and_congr Iff.rfl ⟨fun h j hj a => ?_, fun h => ⟨fun a => ?_, fun j hj a => ?_⟩⟩
    · match j with
      | 0 => exact (sK_of ks a0 a1 coef raw l g (by omega) ⟨8 * a.val + r.val, by omega⟩).trans_le (h.1 a)
      | j + 1 => rw [show g + (j + 1) = g + 1 + j by omega]; exact h.2 j (by omega) a
    · exact (sK_of ks a0 a1 coef raw l g (by omega) ⟨8 * a.val + r.val, by omega⟩).symm.trans_le (h 0 (by omega) a)
    · rw [show g + 1 + j = g + (j + 1) by omega]; exact h (j + 1) (by omega) a

/-- The largest of the lane's scores of the first `64 n` keys. -/
theorem max_le (hc : ∀ g, (hg : g < 16) → 0 < cgv ks a0 a1 coef l g) (n : ℕ) (hn : 0 + n ≤ 16) (z : EReal) :
    rowMax8 (m8L ks a0 a1 coef raw n 0 hn m8Init) (ValueIdx.ix1 l) ≤ z ↔ ∀ k < 64 * n, sK ks a0 a1 coef raw l k ≤ z := by
  rw [rowMax8_le]
  constructor
  · intro h k hk
    have := ((m8L_le hc ⟨k % 8, by omega⟩ z n 0 hn m8Init).1 (h _)).2 (k / 64) (by omega) ⟨k % 64 / 8, by omega⟩
    rwa [show 64 * (0 + k / 64) + (8 * (k % 64 / 8) + k % 8) = k by omega] at this
  · intro h r
    refine (m8L_le hc r z n 0 hn m8Init).2 ⟨?_, fun j hj a => h _ (by omega)⟩
    show Ideal.ofBits .f32 0xFF800000#32 ≤ z
    rw [bot32]
    exact bot_le

variable (shift : FVec Ideal S1x256 .f32)

theorem l8L_at (r : Fin 8) : ∀ (n g : ℕ) (hg : g + n ≤ 16) (hl : g + (cgsL ks a0 a1 coef n g hg).length ≤ 16) (l8 : FVec Ideal S8x256 .f32),
    l8L raw shift (cgsL ks a0 a1 coef n g hg) g hl l8 (ix2 r l) = l8 (ix2 r l)
      + ∑ j ∈ Finset.range n, ∑ a ∈ Finset.range 8, Ideal.exp2 (sK ks a0 a1 coef raw l (64 * (g + j) + (8 * a + r.val)) - shift (ix2 (0 : Fin 1) l))
  | 0, g, hg, hl, l8 => by
    show l8 (ix2 r l) = l8 (ix2 r l) + _
    rw [Finset.sum_range_zero]
    exact (add_zero (l8 (ix2 r l) : EReal)).symm
  | n + 1, g, hg, hl, l8 => by
    refine (l8L_at r n (g + 1) (by omega) (by rw [cgsL_length]; omega) _).trans ?_
    rw [Finset.sum_range_succ', l8Of_at]
    have e : ∑ a : Fin 8, pOf (raw ⟨g, by omega⟩) (cgOf coef (ksAt ks a0 a1 g (by omega))) shift (ix2 (⟨8 * a.val + r.val, by omega⟩ : Fin 64) l)
        = ∑ a ∈ Finset.range 8, Ideal.exp2 (sK ks a0 a1 coef raw l (64 * (g + 0) + (8 * a + r.val)) - shift (ix2 (0 : Fin 1) l)) := by
      rw [Finset.sum_range]
      refine Finset.sum_congr rfl fun a _ => (pOf_at _ _ _ _ _).trans ?_
      exact congrArg (fun w => Ideal.exp2 (w - shift (ix2 (0 : Fin 1) l))) (sK_of ks a0 a1 coef raw l g (by omega) ⟨8 * a.val + r.val, by omega⟩).symm
    rw [e, add_assoc, add_comm (∑ j ∈ Finset.range n, _)]
    refine congrArg (fun w => l8 (ix2 r l) + (_ + w)) (Finset.sum_congr rfl fun j _ => ?_)
    rw [show g + 1 + j = g + (j + 1) by omega]

/-- The sum of the lane's probabilities of the first `64 n` keys. -/
theorem sum_at (n : ℕ) (hn : 0 + n ≤ 16) (hl : 0 + (cgsL ks a0 a1 coef n 0 hn).length ≤ 16) :
    ∑ r : Fin 8, l8L raw shift (cgsL ks a0 a1 coef n 0 hn) 0 hl l8Init (ix2 r l)
      = ∑ k ∈ Finset.range (64 * n), Ideal.exp2 (sK ks a0 a1 coef raw l k - shift (ix2 (0 : Fin 1) l)) := by
  have z : ∀ r : Fin 8, (l8Init : FVec Ideal S8x256 .f32) (ix2 r l) = (0 : EReal) := fun _ => zero32
  rw [sum_range_mul, Finset.sum_congr rfl fun r _ => (l8L_at shift r n 0 hn hl l8Init).trans (by rw [z, zero_add])]
  rw [Finset.sum_comm]
  refine Finset.sum_congr rfl fun j _ => ?_
  rw [show (64 : ℕ) = 8 * 8 from rfl, sum_range_mul, Finset.sum_comm]
  refine Finset.sum_congr rfl fun a _ => ?_
  rw [Finset.sum_range]
  refine Finset.sum_congr rfl fun r _ => ?_
  rw [show 8 * 8 * (0 + j) + (8 * a + r.val) = 8 * 8 * j + (8 * a + r.val) by omega]

theorem psL_get (raw : Fin 16 → FVec Ideal S64x256 .f32) : ∀ (n g : ℕ) (hg : g + n ≤ 16) (hl : g + (cgsL ks a0 a1 coef n g hg).length ≤ 16) (j : ℕ) (hj : j < n),
    (psL raw shift (cgsL ks a0 a1 coef n g hg) g hl)[j]? =
      some (pcOf (pOf (raw ⟨g + j, by omega⟩) (cgOf coef (ksAt ks a0 a1 (g + j) (by omega))) shift))
  | 0, _, _, _, _, hj => absurd hj (by omega)
  | n + 1, g, hg, hl, 0, hj => rfl
  | n + 1, g, hg, hl, j + 1, hj => by
    refine (psL_get raw n (g + 1) (by omega) (by rw [cgsL_length]; omega) j (by omega)).trans ?_
    simp only [show g + 1 + j = g + (j + 1) by omega]

end Groups

theorem stack_get : ∀ (ps : List (FVec Ideal S64x256 .fp8e4m3)) (j : ℕ), (stack ps)[j]? = (ps[j]?).map fun p => ⟨S64x256, p⟩
  | [], j => by simp [stack]
  | p :: ps, 0 => rfl
  | p :: ps, j + 1 => stack_get ps j

theorem stack_length : ∀ ps : List (FVec Ideal S64x256 .fp8e4m3), (stack ps).length = ps.length
  | [] => rfl
  | p :: ps => congrArg (· + 1) (stack_length ps)

/-- Stacked groups at a key. -/
theorem stack_at {n : ℕ} (ps : List (FVec Ideal S64x256 .fp8e4m3)) (hps : ps.length = n) (h) (j : ℕ) (p : FVec Ideal S64x256 .fp8e4m3) (hp : ps[j]? = some p)
    (r : Fin 64) (l : Fin 256) (k : Fin (64 * n)) (hk : k.val = 64 * j + r.val) :
    concatenate (Keys (64 * n)) 0 (stack ps) h (ix2 k l) = p (ix2 r l) := by
  obtain ⟨hj, hj'⟩ := List.getElem?_eq_some_iff.1 hp
  have hg : (stack ps)[j]? = some ⟨S64x256, p⟩ := by rw [stack_get, hp]; rfl
  obtain ⟨hs, hs'⟩ := List.getElem?_eq_some_iff.1 hg
  refine concatenate_apply_piece 0 (stack ps) h (ix2 k l) j hs S64x256 p hs' rfl (64 * j) ?_ (ix2 r l) (fun b hb => ?_) ?_
  · rw [List.map_take, stack_shapes, List.take_replicate, List.map_replicate, List.sum_replicate, Nat.min_eq_left (by omega)]
    exact Nat.mul_comm j 64
  · match b, hb with
    | ⟨0, _⟩, hb => exact absurd rfl hb
    | ⟨1, _⟩, _ => rfl
  · exact hk.symm

theorem out_form (a b c : FVec Ideal S128x256 .f32) (h) (y : S128x256.Idx) : truncf .bf16 (mulf (mulf a b) c) h y = a y * b y * c y := rfl

theorem inv_form (x : FVec Ideal S1x256 .f32) (y : S1x256.Idx) :
    divf (broadcast S1x256 (Scalar.ofBits .f32 0x3F800000#32)) x y = Ideal.div (Ideal.ofBits .f32 0x3F800000#32) (x y) := rfl

theorem vals_at {n : ℕ} (v : Vec Ideal (Vals4 n) .fp8e4m3) (h) (d : Fin 128) (k : Fin n) :
    shapeCast (Vals n) v h (ix2 d k) = v (ValueIdx.ix4 (0 : Fin 1) (0 : Fin 1) d k) := by
  refine shapeCast_apply v h _ _ ?_
  rw [Shape.rowMajor_val_two, Shape.rowMajor_val_four]
  show ((0 * 1 + 0) * 128 + d.val) * n + k.val = d.val * n + k.val
  simp

theorem outOf_at (n : ℕ) (hn : 2 ≤ n) (vscol : FVec Ideal S128x256 .f32) (v : Vec Ideal (Vals4 (64 * n)) .fp8e4m3) (l8 : FVec Ideal S8x256 .f32)
    (ps : List (FVec Ideal S64x256 .fp8e4m3)) (hps : ps.length = n) (l : Fin 256) (d : Fin 128) (P : ℕ → EReal)
    (hP : ∀ (j : ℕ) (r : Fin 64), j < n → ∃ p, ps[j]? = some p ∧ p (ix2 r l) = P (64 * j + r.val)) :
    outOf n hn vscol v l8 ps hps (ix2 l d) = (∑ k : Fin (64 * n), v (ValueIdx.ix4 (0 : Fin 1) (0 : Fin 1) d k) * P k.val) * vscol (ix2 d l)
      * Ideal.div 1 (∑ r : Fin 8, l8 (ix2 r l)) := by
  unfold outOf
  refine (transpose_apply _ _ _ (ix2 l d) (ix2 d l) (fun b => match b with
    | ⟨0, _⟩ => rfl
    | ⟨1, _⟩ => rfl)).trans ?_
  refine (out_form _ _ _ _ _).trans ?_
  have eM : ∀ (A : FVec Ideal (Vals (64 * n)) .fp8e4m3) (B : FVec Ideal (Keys (64 * n)) .fp8e4m3),
      matmul (DotDims.plain 128 (64 * n) 256) none A B (constant S128x256 .f32 0x00000000#32) (ix2 d l)
        = ∑ k : Fin (64 * n), A (ix2 d k) * B (ix2 k l) := by
    intro A B
    have e1 : ∀ {p q : ℕ} (a : Fin p) (b : Fin q), (ValueIdx.ix2 a b : (⟨2, ![p, q]⟩ : Shape).Idx) = ix2 a b := fun a b => idx2_ext rfl rfl
    have := Ideal.matmul_plain_apply none A B (constant S128x256 .f32 0x00000000#32) d l
    simp only [e1] at this
    refine this.trans ?_
    rw [show (constant S128x256 .f32 0x00000000#32 : FVec Ideal S128x256 .f32) (ix2 d l) = (0 : EReal) from zero32, zero_add]
  rw [eM]
  refine congrArg₂ (fun u w => u * vscol (ix2 d l) * w) (Finset.sum_congr rfl fun k _ => ?_) ?_
  · rw [vals_at]
    obtain ⟨p, hp, e⟩ := hP (k.val / 64) ⟨k.val % 64, by omega⟩ (by omega)
    rw [stack_at ps hps _ (k.val / 64) p hp ⟨k.val % 64, by omega⟩ l k (by show k.val = 64 * (k.val / 64) + k.val % 64; omega), e]
    rw [show 64 * (k.val / 64) + k.val % 64 = k.val by omega]
  · refine (row_to _ _ d l).trans ((inv_form _ _).trans ?_)
    refine congrArg₂ Ideal.div one32 ((cast256 _ _ l).trans ?_)
    refine (Ideal.reduceAdd_r2_a0 _ _ _).trans (Finset.sum_congr rfl fun r _ => ?_)
    exact congrArg l8 (idx2_ext rfl rfl)

end Attn
end
-- ==== Proof.ChunkAt.lean ====
/- A chunk's result at a lane and a channel: the shifted softmax of the lane's scores. And what the lane holds: the token,
   the scale and the codes of the query, and the raw scores. -/
module

public import proofs.«01_k».proof.Proof.Lane
public import proofs.«01_k».proof.Proof.BodyRun
public import Idealize.ShloMosaic.Lib.WordCmp

@[expose] public section

noncomputable section

namespace Attn

open Idealize.ShloMosaic

/-! ## The whole chunk -/

/-- A channel's value of key `k`. -/
def vAt (v : Vec Ideal S1x1x128x1024 .fp8e4m3) (d : Fin 128) (k : ℕ) : EReal :=
  if h : k < 1024 then v (ValueIdx.ix4 (0 : Fin 1) (0 : Fin 1) d ⟨k, h⟩) else 0

theorem vWin_at (v : Vec Ideal S1x1x128x1024 .fp8e4m3) (c : ℕ) (hc : c < 28) (d : Fin 128) (k : Fin (64 * wGroups c)) :
    vWin v c hc (ValueIdx.ix4 (0 : Fin 1) (0 : Fin 1) d k) = vAt v d k.val := by
  have := wGroups_le c hc
  unfold vWin vAt
  rw [dif_pos (by omega)]
  refine congrArg v (funext fun b => Fin.ext ((ValueKit.rect_emb_unit_val (s := S1x1x128x1024) ![0, 0, 0, 0] _ _ _ b).trans ?_))
  match b with
  | ⟨0, _⟩ => rfl
  | ⟨1, _⟩ => rfl
  | ⟨2, _⟩ => exact Nat.zero_add _
  | ⟨3, _⟩ => exact Nat.zero_add _

theorem zero8 : (Scalar.ofBits (F := Ideal) .fp8e4m3 0x00#8 : EReal) = 0 := by
  show Ideal.ofBits .fp8e4m3 0x00#8 = (0 : EReal)
  simp [Ideal.ofBits, Ideal.e4m3fn]

section Whole
variable (ks : Vec Ideal S2x4x16 .f32) (a0 : Fin 2) (a1 : Fin 4) (coef : FVec Ideal S1x256 .f32) (raw : Fin 16 → FVec Ideal S64x256 .f32) (l : Fin 256)

/-- The lane's largest score of the keys the chunk reads. -/
def topOf (c : ℕ) (hc : c < 28) : EReal := rowMax8 (m8L ks a0 a1 coef raw (nGroups c) 0 (nGroups_le c hc) m8Init) (ValueIdx.ix1 l)

theorem padTo_get (c : ℕ) (ps : List (FVec Ideal S64x256 .fp8e4m3)) (h : ps.length = nGroups c) (j : ℕ) (hj : j < wGroups c) :
    (padTo c ps)[j]? = if j < nGroups c then ps[j]? else some pcZero := by
  unfold padTo
  unfold wGroups at hj
  cases hb : Nat.beq (nGroups c % 2) 1
  · have : nGroups c % 2 ≠ 1 := fun e => by rw [e] at hb; exact absurd hb (by decide)
    rw [if_pos (by omega)]
    rfl
  · have : nGroups c % 2 = 1 := Nat.eq_of_beq_eq_true hb
    show (ps ++ [pcZero])[j]? = _
    by_cases hlt : j < nGroups c
    · rw [if_pos hlt, List.getElem?_append_left (by omega)]
    · rw [if_neg hlt, List.getElem?_append_right (by omega), show j - ps.length = 0 by omega]
      rfl

theorem chunkOf_at (vscol : FVec Ideal S128x256 .f32) (v : Vec Ideal S1x1x128x1024 .fp8e4m3) (c : ℕ) (hc : c < 28) (d : Fin 128) :
    chunkOf ks a0 a1 coef raw vscol v c hc (ix2 l d)
      = shifted (64 * nGroups c) (64 * wGroups c) (sK ks a0 a1 coef raw l) (vAt v d) (topOf ks a0 a1 coef raw l c hc) (vscol (ix2 d l)) := by
  have hn := nGroups_le c hc
  have hl : 0 + (cgsL ks a0 a1 coef (nGroups c) 0 hn).length ≤ 16 := by rw [cgsL_length]; exact hn
  unfold chunkOf
  refine (outOf_at _ _ _ _ _ _ _ l d (fun k => if k < 64 * nGroups c then
    min (Ideal.exp2 (sK ks a0 a1 coef raw l k - (topOf ks a0 a1 coef raw l c hc - k8))) k448 else 0) fun j r hj => ?_).trans ?_
  · rw [padTo_get c _ ((psL_length _ _ _ _ _).trans (cgsL_length _ _ _ _ _ _ _)) j hj]
    by_cases hlt : j < nGroups c
    · rw [if_pos hlt, psL_get _ raw (nGroups c) 0 hn hl j hlt]
      refine ⟨_, rfl, ?_⟩
      rw [if_pos (by omega), pcOf_at, pOf_at, shiftOf_at]
      have := sK_of ks a0 a1 coef raw l (0 + j) (by omega) r
      rw [← this, Nat.zero_add]
      rfl
    · rw [if_neg hlt]
      refine ⟨_, rfl, ?_⟩
      rw [if_neg (by omega)]
      exact zero8
  · unfold shifted
    refine congrArg₂ (fun u w => u * vscol (ix2 d l) * Ideal.div 1 w) ?_ ?_
    · rw [Finset.sum_range]
      refine Finset.sum_congr rfl fun k _ => ?_
      rw [vWin_at]
    · rw [sum_at, shiftOf_at]
      rfl

end Whole

/-! ## The lane's query -/

theorem toks_eq : ∀ j : Fin 896, toks (ix2 (0 : Fin 1) j) = BitVec.ofNat 32 (j.val / 112 * 16 + j.val % 16) := by decide +kernel

/-- The token of the lane `n` of the 7168. -/
def tokOf (n : ℕ) : ℕ := 128 * (n / 896) + (n % 896 / 112 * 16 + n % 16)

theorem qtok_word (q j : ℕ) (hj : j < 896) :
    toks (ix2 (0 : Fin 1) (⟨j, hj⟩ : Fin 896)) + BitVec.ofNat 32 (128 * q) = BitVec.ofNat 32 (tokOf (896 * q + j)) := by
  rw [toks_eq, ← BitVec.ofNat_add]
  unfold tokOf
  refine congrArg _ ?_
  show j / 112 * 16 + j % 16 + 128 * q = _
  omega

theorem add_form {s : Shape} {w : ℕ} (a : IVec s w) (b : BitVec w) (y : s.Idx) : addi a (broadcast s b) y = a y + b := rfl

theorem qtokC_at (c : ℕ) (hc : c < 28) (l : Fin 256) : qtokC c (ix2 (0 : Fin 1) l) = BitVec.ofNat 32 (tokOf (256 * c + l.val)) := by
  unfold qtokC
  by_cases h : 256 * c % 896 + 256 ≤ 896
  · rw [dif_pos h]
    unfold qtok1
    refine (add_form _ _ _).trans ((congrArg (· + _) (extractStridedSlice_apply _ toks _ _ (ix2 (0 : Fin 1) (⟨256 * c % 896 + l.val, by omega⟩ : Fin 896)) (fun a => match a with
      | ⟨0, _⟩ => rfl
      | ⟨1, _⟩ => rfl))).trans ?_)
    rw [qtok_word]
    rw [show 896 * (256 * c / 896) + (256 * c % 896 + l.val) = 256 * c + l.val by omega]
  · rw [dif_neg h]
    unfold qtok2
    by_cases hl : l.val < 128
    · refine (concatenate_pair_apply_left (s₁ := S1x128) (s₂ := S1x128) _ _ _ _ (ix2 (0 : Fin 1) l) rfl (ix2 (0 : Fin 1) (⟨l.val, hl⟩ : Fin 128)) (fun b => match b with
        | ⟨0, _⟩ => rfl
        | ⟨1, _⟩ => rfl)).trans ?_
      refine (add_form _ _ _).trans ((congrArg (· + _) (extractStridedSlice_apply _ toks _ _ (ix2 (0 : Fin 1) (⟨768 + l.val, by omega⟩ : Fin 896)) (fun a => match a with
        | ⟨0, _⟩ => rfl
        | ⟨1, _⟩ => rfl))).trans ?_)
      rw [qtok_word]
      rw [show 896 * (256 * c / 896) + (768 + l.val) = 256 * c + l.val by omega]
    · refine (concatenate_pair_apply_right (s₁ := S1x128) (s₂ := S1x128) _ _ _ _ (ix2 (0 : Fin 1) l) rfl rfl (ix2 (0 : Fin 1) (⟨l.val - 128, by omega⟩ : Fin 128)) (fun b hb => match b, hb with
        | ⟨0, _⟩, _ => rfl
        | ⟨1, _⟩, hb => absurd rfl hb) (by show l.val - 128 + 128 = l.val; omega)).trans ?_
      refine (add_form _ _ _).trans ((congrArg (· + _) (extractStridedSlice_apply _ toks _ _ (ix2 (0 : Fin 1) (⟨l.val - 128, by omega⟩ : Fin 896)) (fun a => match a with
        | ⟨0, _⟩ => rfl
        | ⟨1, _⟩ => (Nat.zero_add _).symm))).trans ?_)
      rw [qtok_word]
      rw [show 896 * (256 * c / 896 + 1) + (l.val - 128) = 256 * c + l.val by omega]

theorem coefC_at (qr : Vec Ideal S8x896 .f32) (c : ℕ) (hc : c < 28) (l : Fin 256) :
    coefC qr c hc (ix2 (0 : Fin 1) l) = qr (ix2 (⟨(256 * c + l.val) / 896, by omega⟩ : Fin 8) (⟨(256 * c + l.val) % 896, by omega⟩ : Fin 896)) := by
  unfold coefC
  by_cases h : 256 * c % 896 + 256 ≤ 896
  · rw [dif_pos h]
    refine win2 qr _ _ _ ?_ ?_
    · show (256 * c + l.val) / 896 = 256 * c / 896 + 0
      omega
    · show (256 * c + l.val) % 896 = 256 * c % 896 + l.val
      omega
  · rw [dif_neg h]
    unfold coef2
    by_cases hl : l.val < 128
    · refine (concatenate_pair_apply_left (s₁ := S1x128) (s₂ := S1x128) _ _ _ _ (ix2 (0 : Fin 1) l) rfl (ix2 (0 : Fin 1) (⟨l.val, hl⟩ : Fin 128)) (fun b => match b with
        | ⟨0, _⟩ => rfl
        | ⟨1, _⟩ => rfl)).trans (win2 qr _ _ _ ?_ ?_)
      · show (256 * c + l.val) / 896 = 256 * c / 896 + 0
        omega
      · show (256 * c + l.val) % 896 = 768 + l.val
        omega
    · refine (concatenate_pair_apply_right (s₁ := S1x128) (s₂ := S1x128) _ _ _ _ (ix2 (0 : Fin 1) l) rfl rfl (ix2 (0 : Fin 1) (⟨l.val - 128, by omega⟩ : Fin 128)) (fun b hb => match b, hb with
        | ⟨0, _⟩, _ => rfl
        | ⟨1, _⟩, hb => absurd rfl hb) (by show l.val - 128 + 128 = l.val; omega)).trans (win2 qr _ _ _ ?_ ?_)
      · show (256 * c + l.val) / 896 = 256 * c / 896 + 1 + 0
        omega
      · show (256 * c + l.val) % 896 = 0 + (l.val - 128)
        omega

theorem qtC_at (qb : Vec Ideal S7168x128 .bf16) (c : ℕ) (hc : c < 28) (l : Fin 256) (d : Fin 128) :
    qtC qb c hc (ix2 l d) = qb (ix2 (⟨256 * c + l.val, by omega⟩ : Fin 7168) d) :=
  win2 qb _ _ _ rfl (Nat.zero_add _).symm

/-! ## Its raw scores -/

theorem sel_form {s : Shape} (a b : IVec s 32) (x : FVec Ideal s .f32) (y : s.Idx) (m n : ℕ) (hm : m < 2 ^ 31) (hn : n < 2 ^ 31)
    (ha : a y = BitVec.ofNat 32 m) (hb : b y = BitVec.ofNat 32 n) :
    select (cmpi .sle a b) x (broadcast s (Scalar.ofBits .f32 0xFF800000#32)) y = if m ≤ n then x y else (⊥ : EReal) := by
  show (if IntOp.cmpi .sle (a y) (b y) = 1#1 then x y else Ideal.ofBits .f32 0xFF800000#32) = _
  rw [ha, hb, bot32]
  by_cases h : m ≤ n
  · rw [if_pos h, if_pos ((WordCmp.cmpi_sle_ofNat_eq_one_iff (w := 32) hm hn).2 h)]
  · rw [if_neg h, if_neg (fun e => h ((WordCmp.cmpi_sle_ofNat_eq_one_iff (w := 32) hm hn).1 e))]

theorem score_at (A : FVec Ideal S64x128 .bf16) (B : FVec Ideal S256x128 .bf16) (r : Fin 64) (l : Fin 256) :
    matmul (DotDims.transposedRhs 64 128 256) none A B (constant S64x256 .f32 0x00000000#32) (ix2 r l)
      = ∑ d : Fin 128, A (ix2 r d) * B (ix2 l d) := by
  have e1 : ∀ {p q : ℕ} (a : Fin p) (b : Fin q), (ValueIdx.ix2 a b : (⟨2, ![p, q]⟩ : Shape).Idx) = ix2 a b := fun a b => idx2_ext rfl rfl
  have := Ideal.matmul_transposedRhs_apply none A B (constant S64x256 .f32 0x00000000#32) r l
  simp only [e1] at this
  refine this.trans ?_
  rw [show (constant S64x256 .f32 0x00000000#32 : FVec Ideal S64x256 .f32) (ix2 r l) = (0 : EReal) from zero32, zero_add]

theorem tokOf_lt (n : ℕ) (hn : n < 7168) : tokOf n < 1024 := by unfold tokOf; omega
theorem tokLo_le (c l : ℕ) : tokLo c ≤ tokOf (256 * c + l) := by unfold tokLo tokOf; omega
theorem tok_lt_groups (c l : ℕ) (hl : l < 256) : tokOf (256 * c + l) < 64 * nGroups c := by unfold nGroups tokOf; omega

theorem qtok_to (x : IVec S1x256 32) (h : S1x256.Broadcasts S64x256) (r : Fin 64) (l : Fin 256) :
    broadcastTo S64x256 x h (ix2 r l) = x (ix2 (0 : Fin 1) l) :=
  broadcastTo_apply _ _ _ _ (fun a => match a with
    | ⟨0, _⟩ => rfl
    | ⟨1, _⟩ => rfl)

theorem rawG_at (c : ℕ) (hc : c < 28) (kb : Vec Ideal S1024x128 .bf16) (qt : FVec Ideal S256x128 .bf16) (g : Fin 16) (r : Fin 64) (l : Fin 256) :
    rawG c (qtokC c) kb qt g (ix2 r l) = if 64 * g.val + r.val ≤ tokOf (256 * c + l.val)
      then ∑ d : Fin 128, kb (ix2 (⟨64 * g.val + r.val, by omega⟩ : Fin 1024) d) * qt (ix2 l d) else (⊥ : EReal) := by
  have eS : matmul (DotDims.transposedRhs 64 128 256) none (VecWindow.window (s := S1024x128) kb ![64 * g.val, 0] S64x128.size (inb2 (by omega) (by omega))) qt
      (constant S64x256 .f32 0x00000000#32) (ix2 r l) = ∑ d : Fin 128, kb (ix2 (⟨64 * g.val + r.val, by omega⟩ : Fin 1024) d) * qt (ix2 l d) :=
    (score_at _ _ _ _).trans (Finset.sum_congr rfl fun d _ => congrArg (· * qt (ix2 l d)) (win2 kb _ _ _ rfl (Nat.zero_add _).symm))
  have ht := tokOf_lt (256 * c + l.val) (by omega)
  unfold rawG rawOf
  cases hm : masked c g.val
  · have hm : ¬ tokLo c + 1 < (g.val + 1) * 64 := fun h => by
      unfold masked at hm
      rw [show Nat.blt (tokLo c + 1) ((g.val + 1) * 64) = true from by rw [Nat.blt_eq]; exact h] at hm
      exact absurd hm (by decide)
    have := tokLo_le c l.val
    rw [if_pos (by omega)]
    exact eS
  · refine (sel_form _ _ _ _ (64 * g.val + r.val) (tokOf (256 * c + l.val)) (by omega) (by omega) ?_ ?_).trans ?_
    · refine (add_form _ _ _).trans ?_
      show BitVec.ofNat 32 (0 * 64 + r.val) + BitVec.ofNat 32 (64 * g.val) = _
      rw [← BitVec.ofNat_add]
      refine congrArg _ ?_
      omega
    · exact (qtok_to _ _ r l).trans (qtokC_at c hc l)
    · rw [eS]

end Attn
end
-- ==== Proof.Units.lean ====
/- A lane's scores when their units are finite and not below the floor: the chunk's softmax is then the plain one. And the
   codes as integers. -/
module

public import proofs.«01_k».proof.Proof.Scale
public import proofs.«01_k».proof.Proof.ChunkAt

@[expose] public section

noncomputable section

namespace Attn

open Idealize.ShloMosaic

/-! ## A code is an integer -/

theorem cNeg127 : Ideal.ofBits .f32 0xC2FE0000#32 = ((-127 : ℝ) : EReal) := by
  simp [Ideal.ofBits, Ideal.ieee]
  norm_num [← EReal.coe_mul]

theorem codeAt_int (x s : EReal) : ∃ z : ℤ, -127 ≤ z ∧ z ≤ 127 ∧ codeAt x s = ((z : ℝ) : EReal) := by
  unfold codeAt
  rw [c127, cNeg127, Ideal.roundeven_def]
  induction Ideal.div (x * sm) s with
  | bot => exact ⟨-127, by omega, by omega, by
      rw [Ideal.liftRound_bot, max_eq_left bot_le, min_eq_right (by exact_mod_cast (by norm_num : (-127 : ℝ) ≤ 127))]; norm_num⟩
  | top => exact ⟨127, by omega, by omega, by
      rw [Ideal.liftRound_top, max_eq_right le_top, min_eq_left le_top]; norm_num⟩
  | coe r => exact ⟨min 127 (max (-127) (Ideal.roundHalfEven r)), by omega, by omega, by
      rw [Ideal.liftRound_coe]; push_cast; rfl⟩

theorem fptosi_int (z : ℤ) (h0 : -127 ≤ z) (h1 : z ≤ 127) : (Ideal.fptosi 8 (((z : ℝ)) : EReal)).toInt = z := by
  have e : (if (0 : ℝ) ≤ (z : ℝ) then ⌊(z : ℝ)⌋ else ⌈(z : ℝ)⌉) = z := by split <;> simp
  unfold Ideal.fptosi
  rw [Ideal.toIntClamped_coe, e, BitVec.toInt_ofInt]
  simp only [Int.bmod]
  omega

/-- Read back from its eight bits a code is what it was. -/
theorem code_back (x s : EReal) : codeAt x s = (((FloatOps.fptosi (F := Ideal) (φ := .f32) 8 (codeAt x s)).toInt : ℝ) : EReal) := by
  obtain ⟨z, h0, h1, e⟩ := codeAt_int x s
  show codeAt x s = (((Ideal.fptosi 8 (codeAt x s)).toInt : ℝ) : EReal)
  rw [e, fptosi_int z h0 h1]

/-! ## The unit of a score -/

/-- The floor of a unit, 2⁻¹⁰⁰. -/
abbrev kMin : EReal := Ideal.ofBits .f32 0x0D800000#32

theorem kMin_pos : (0 : EReal) < kMin := minCoef_pos

theorem scaleOf_pos (x : Cert.ReferenceIdeal.S2x1024x3584.Idx → EReal) (b : Fin 2) (q : Fin 8) (h : Fin 28) : 0 < scaleOf x b q h := by
  have ha : (0 : EReal) ≤ amax (tileOf x b q h) := by
    refine le_trans ?_ (Finset.le_sup (f := fun i => max (tileOf x b q h i) (-(tileOf x b q h i))) (Finset.mem_univ (ix2 (0 : Fin 128) (0 : Fin 128))))
    rcases le_total 0 (tileOf x b q h (ix2 (0 : Fin 128) (0 : Fin 128))) with h | h
    · exact le_max_of_le_left h
    · exact le_max_of_le_right (EReal.neg_nonneg.2 h)
  refine lt_of_le_of_ne ?_ (scl_ne _).symm
  unfold scaleOf
  rw [scl_eq]
  split
  · exact zero_le_one
  · exact mul_nonneg (mul_nonneg ha sm_gt.le) (EReal.coe_nonneg.2 (by norm_num))

/-- The factors of a unit that is finite and not below the floor are finite. -/
theorem unit_real (S K : EReal) (hS : 0 < S) (h1 : kMin ≤ S * K * l2e) (h2 : S * K * l2e < ⊤) : S ≠ ⊤ ∧ K ≠ ⊤ ∧ K ≠ ⊥ := by
  obtain ⟨L, hL, eL⟩ := log2e_pos
  have hLp : (0 : EReal) < l2e := by rw [show l2e = ((L : ℝ) : EReal) from eL]; exact EReal.coe_pos.2 hL
  have h0 : 0 < S * K * l2e := lt_of_lt_of_le kMin_pos h1
  have hK : 0 < K := by
    by_contra hk
    have : S * K ≤ 0 := by
      have := mul_le_mul_of_nonneg_left (not_lt.1 hk) hS.le
      rwa [mul_zero] at this
    have := mul_le_mul_of_nonneg_right this hLp.le
    rw [zero_mul] at this
    exact absurd h0 (not_lt.2 this)
  refine ⟨fun e => ?_, fun e => ?_, fun e => ?_⟩
  · rw [e, EReal.top_mul_of_pos hK, EReal.top_mul_of_pos hLp] at h2
    exact lt_irrefl _ h2
  · rw [e, EReal.mul_top_of_pos hS, EReal.top_mul_of_pos hLp] at h2
    exact lt_irrefl _ h2
  · rw [e] at hK
    exact not_lt_bot hK

/-! ## The lane -/

theorem cg_form {s : Shape} (a : FVec Ideal s .f32) (b : EReal) (y : s.Idx) :
    maximumf (mulf (mulf a (broadcast s (b : Ideal .f32))) (broadcast s (Scalar.ofBits .f32 0x3FB8AA3B#32))) (broadcast s (Scalar.ofBits .f32 0x0D800000#32)) y
      = max (a y * b * l2e) kMin := rfl

section Whole
variable (ks : Vec Ideal S2x4x16 .f32) (a0 : Fin 2) (a1 : Fin 4) (coef : FVec Ideal S1x256 .f32) (raw : Fin 16 → FVec Ideal S64x256 .f32) (l : Fin 256)

/-- The scale of the group `g` of keys. -/
def kAt (g : ℕ) : EReal := if h : g < 16 then ks (ValueIdx.ix3 a0 a1 ⟨g, h⟩) else 1

theorem ksAt_eq (g : ℕ) (hg : g < 16) : (ksAt ks a0 a1 g hg : EReal) = kAt ks a0 a1 g := by
  unfold ksAt kAt
  rw [dif_pos hg]
  exact congrArg ks (idx3_ext (Nat.add_zero _) (Nat.add_zero _) (Nat.add_zero _))

theorem cgv_eq (g : ℕ) (hg : g < 16) : cgv ks a0 a1 coef l g = max (coef (ix2 (0 : Fin 1) l) * kAt ks a0 a1 g * l2e) kMin := by
  unfold cgv
  rw [dif_pos hg, ← ksAt_eq ks a0 a1 g hg]
  exact cg_form _ _ _

theorem chunk_soft (vscol : FVec Ideal S128x256 .f32) (v : Vec Ideal S1x1x128x1024 .fp8e4m3) (c : ℕ) (hc : c < 28) (d : Fin 128)
    (t : ℕ) (ht : t < 64 * nGroups c) (D : ℕ → ℝ) (S : EReal) (hS : 0 < S) (eS : coef (ix2 (0 : Fin 1) l) = S) (sc : ℕ → EReal)
    (hraw : ∀ (g : Fin 16) (r : Fin 64), raw g (ix2 r l) = if 64 * g.val + r.val ≤ t then ((D (64 * g.val + r.val) : ℝ) : EReal) else ⊥)
    (hsc : ∀ k ≤ t, sc k = (D k : EReal) * S * kAt ks a0 a1 (k / 64))
    (hU : ∀ g < 16, 64 * g ≤ t → kMin ≤ S * kAt ks a0 a1 g * l2e ∧ S * kAt ks a0 a1 g * l2e < ⊤) :
    chunkOf ks a0 a1 coef raw vscol v c hc (ix2 l d) = soft t sc (vAt v d) (vscol (ix2 d l)) := by
  obtain ⟨L, hL, eL⟩ := log2e_pos
  have hn := nGroups_le c hc
  have hw := wGroups_le c hc
  have hnw : nGroups c ≤ wGroups c := by unfold wGroups; omega
  have e0 := unit_real S _ hS (hU 0 (by omega) (by omega)).1 (hU 0 (by omega) (by omega)).2
  have eS' : ((S.toReal : ℝ) : EReal) = S := EReal.coe_toReal e0.1 (fun e => by rw [e] at hS; exact not_lt_bot hS)
  have eK : ∀ g < 16, 64 * g ≤ t → (((kAt ks a0 a1 g).toReal : ℝ) : EReal) = kAt ks a0 a1 g := fun g hg hgt =>
    EReal.coe_toReal (unit_real S _ hS (hU g hg hgt).1 (hU g hg hgt).2).2.1 (unit_real S _ hS (hU g hg hgt).1 (hU g hg hgt).2).2.2
  have hpos : ∀ g, (hg : g < 16) → 0 < cgv ks a0 a1 coef l g := fun g hg => by
    rw [cgv_eq ks a0 a1 coef l g hg]; exact lt_of_lt_of_le kMin_pos (le_max_right _ _)
  have hsK : ∀ k < 1024, sK ks a0 a1 coef raw l k = (if k ≤ t then ((D k : ℝ) : EReal) else ⊥) * cgv ks a0 a1 coef l (k / 64) := fun k hk => by
    unfold sK
    rw [dif_pos hk, hraw]
    show (if 64 * (k / 64) + k % 64 ≤ t then ((D (64 * (k / 64) + k % 64) : ℝ) : EReal) else ⊥) * _ = _
    rw [Nat.div_add_mod]
  rw [chunkOf_at]
  refine shifted_eq_soft t _ _ ht (by omega) (by omega) (fun k => D k * S.toReal * (kAt ks a0 a1 (k / 64)).toReal) sc _ _ _ _
    (fun z => max_le hpos _ _ z) L hL eL (fun k hk => ?_) (fun k hk => ?_) (fun k hk hk' => ?_)
  · rw [hsc k hk, EReal.coe_mul, EReal.coe_mul, eS', eK _ (by omega) (by omega)]
  · have hg : k / 64 < 16 := by omega
    rw [hsK k (by omega), if_pos hk, cgv_eq ks a0 a1 coef l _ hg, eS, max_eq_left (hU _ hg (by omega)).1, EReal.coe_mul, EReal.coe_mul, EReal.coe_mul, eS',
      eK _ hg (by omega), show l2e = ((L : ℝ) : EReal) from eL, mul_assoc, mul_assoc, mul_assoc]
  · rw [hsK k (by omega), if_neg (by omega)]
    exact EReal.bot_mul_of_pos (hpos _ (by omega))

end Whole

end Attn
end
-- ==== Proof.RefAttn.lean ====
/- The reference's attention at a query and a channel: the plain softmax of the query's scores. -/
module

public import proofs.«01_k».proof.Proof.Scale
public import proofs.«01_k».proof.Proof.ChunkAt
public import Idealize.ShloMosaic.Lib.Pointwise.Contract

@[expose] public section

noncomputable section

namespace Attn

open Idealize.ShloMosaic
open Cert.ReferenceIdeal Cert.ReferenceIdeal.Gen

/-! ## The payload in pieces -/

def sc9 (v33 : FVec Ideal S8x7168x1024 .f32) (v36 : FVec Ideal S8x56x1x1x1 .f32) (v37 : Vec Ideal S2x4x16 .f32) : FVec Ideal S8x7x1024x1024 .f32 :=
  shapeCast S8x7x1024x1024 (mulf (mulf (shapeCast S8x56x128x16x64 v33 shapeCasts_S8x7168x1024_S8x56x128x16x64)
      (broadcastTo S8x56x128x16x64 v36 broadcasts_S8x56x1x1x1_S8x56x128x16x64))
    (broadcastTo S8x56x128x16x64 (shapeCast S8x1x1x16x1 v37 shapeCasts_S2x4x16_S8x1x1x16x1) broadcasts_S8x1x1x16x1_S8x56x128x16x64))
    shapeCasts_S8x56x128x16x64_S8x7x1024x1024

def msk9 (v44 : FVec Ideal S8x7x1024x1024 .f32) : FVec Ideal S8x7x1024x1024 .f32 :=
  select (cmpi .sle (iota .tc S8x7x1024x1024 32 [3] iota_S8x7x1024x1024_d3_w32) (iota .tc S8x7x1024x1024 32 [2] iota_S8x7x1024x1024_d2_w32)) v44
    (broadcast S8x7x1024x1024 (Scalar.ofBits .f32 0xFF800000#32))

def top9 (v49 : FVec Ideal S8x7x1024x1024 .f32) : FVec Ideal S8x7x1024 .f32 :=
  multiReduction .maximumf [3] S8x7x1024 v49 0xFF800000#32 reduces_S8x7x1024x1024_S8x7x1024 (.inl rfl) rfl

def pr9 (v49 : FVec Ideal S8x7x1024x1024 .f32) : FVec Ideal S8x7x1024x1024 .f32 :=
  exp2 (mulf (subf v49 (broadcastTo S8x7x1024x1024 (shapeCast S8x7x1024x1 (top9 v49) shapeCasts_S8x7x1024_S8x7x1024x1) broadcasts_S8x7x1024x1_S8x7x1024x1024))
    (broadcast S8x7x1024x1024 (Scalar.ofBits .f32 0x3FB8AA3B#32)))

def sum9 (e : FVec Ideal S8x7x1024x1024 .f32) : FVec Ideal S8x7x1024 .f32 :=
  multiReduction .add [3] S8x7x1024 e 0x00000000#32 reduces_S8x7x1024x1024_S8x7x1024 (.inl rfl) rfl

def code9 (e : FVec Ideal S8x7x1024x1024 .f32) : FVec Ideal S8x7168x1024 .fp8e4m3 :=
  shapeCast S8x7168x1024 (truncf .fp8e4m3 (minimumf (mulf e (broadcast S8x7x1024x1024 (Scalar.ofBits .f32 0x43800000#32)))
    (broadcast S8x7x1024x1024 (Scalar.ofBits .f32 0x43E00000#32))) bitsLt_fp8e4m3_f32) shapeCasts_S8x7x1024x1024_S8x7168x1024

def dot9 (e : FVec Ideal S8x7168x1024 .fp8e4m3) (v65 : Vec Ideal S2x4x128x1024 .fp8e4m3) : FVec Ideal S8x7168x128 .f32 :=
  matmul (φ₁ := .fp8e4m3) (φ₂ := .fp8e4m3) dot_S8x7168x1024_S8x128x1024_S8x7168x128_2_2_1_1_0_0 none e (shapeCast S8x128x1024 v65 shapeCasts_S2x4x128x1024_S8x128x1024)
    (constant S8x7168x128 .f32 0x00000000#32)

def fin9 (w : FVec Ideal S8x7168x128 .f32) (v71 : Vec Ideal S2x4x128 .f32) (l : FVec Ideal S8x7x1024 .f32) : FVec Ideal S8x7x1024x128 .bf16 :=
  truncf .bf16 (divf (mulf (mulf (shapeCast S8x7x1024x128 w shapeCasts_S8x7168x128_S8x7x1024x128)
      (broadcast S8x7x1024x128 (Scalar.ofBits .f32 0x3B800000#32)))
      (broadcastTo S8x7x1024x128 (shapeCast S8x1x1x128 v71 shapeCasts_S2x4x128_S8x1x1x128) broadcasts_S8x1x1x128_S8x7x1024x128))
    (broadcastTo S8x7x1024x128 (shapeCast S8x7x1024x1 l shapeCasts_S8x7x1024_S8x7x1024x1) broadcasts_S8x7x1024x1_S8x7x1024x128)) bitsLt_bf16_f32

theorem pay9_form (v33 : FVec Ideal S8x7168x1024 .f32) (v36 : FVec Ideal S8x56x1x1x1 .f32) (v37 : Vec Ideal S2x4x16 .f32)
    (v65 : Vec Ideal S2x4x128x1024 .fp8e4m3) (v71 : Vec Ideal S2x4x128 .f32) :
    k0_pay9 (F := Ideal) v33 v36 v37 v65 v71 = shapeCast S2x4x7x1024x128
      (fin9 (dot9 (code9 (pr9 (msk9 (sc9 v33 v36 v37)))) v65) v71 (sum9 (pr9 (msk9 (sc9 v33 v36 v37))))) shapeCasts_S8x7x1024x128_S2x4x7x1024x128 := rfl

/-! ## Each at an index -/

theorem mul_form {s : Shape} (a b : FVec Ideal s .f32) (y : s.Idx) : mulf a b y = a y * b y := rfl

theorem sc9_at (v33 : FVec Ideal S8x7168x1024 .f32) (v36 : FVec Ideal S8x56x1x1x1 .f32) (v37 : Vec Ideal S2x4x16 .f32)
    (b : Fin 2) (kv : Fin 4) (h : Fin 7) (t k : Fin 1024) :
    sc9 v33 v36 v37 (ValueIdx.ix4 (⟨4 * b.val + kv.val, by omega⟩ : Fin 8) h t k) =
      v33 (ix3 (⟨4 * b.val + kv.val, by omega⟩ : Fin 8) (⟨1024 * h.val + t.val, by omega⟩ : Fin 7168) k)
        * v36 (ValueIdx.ix5 (⟨4 * b.val + kv.val, by omega⟩ : Fin 8) (⟨8 * h.val + t.val / 128, by omega⟩ : Fin 56) (0 : Fin 1) (0 : Fin 1) (0 : Fin 1))
        * v37 (ix3 b kv (⟨k.val / 64, by omega⟩ : Fin 16)) := by
  unfold sc9
  refine (shapeCast_apply _ _ _ (ValueIdx.ix5 (⟨4 * b.val + kv.val, by omega⟩ : Fin 8) (⟨8 * h.val + t.val / 128, by omega⟩ : Fin 56) (⟨t.val % 128, by omega⟩ : Fin 128)
    (⟨k.val / 64, by omega⟩ : Fin 16) (⟨k.val % 64, by omega⟩ : Fin 64)) ?_).trans ?_
  · rw [Shape.rowMajor_val_four, Shape.rowMajor_val_five]
    show ((((4 * b.val + kv.val) * 56 + (8 * h.val + t.val / 128)) * 128 + t.val % 128) * 16 + k.val / 64) * 64 + k.val % 64
      = (((4 * b.val + kv.val) * 7 + h.val) * 1024 + t.val) * 1024 + k.val
    omega
  · refine (mul_form _ _ _).trans (congrArg₂ (· * ·) ((mul_form _ _ _).trans (congrArg₂ (· * ·) ?_ ?_)) ?_)
    · refine shapeCast_apply _ _ _ _ ?_
      rw [Shape.rowMajor_val_three, Shape.rowMajor_val_five]
      show ((4 * b.val + kv.val) * 7168 + (1024 * h.val + t.val)) * 1024 + k.val
        = ((((4 * b.val + kv.val) * 56 + (8 * h.val + t.val / 128)) * 128 + t.val % 128) * 16 + k.val / 64) * 64 + k.val % 64
      omega
    · exact broadcastTo_apply _ _ _ _ (fun a => match a with
        | ⟨0, _⟩ => rfl
        | ⟨1, _⟩ => rfl
        | ⟨2, _⟩ => rfl
        | ⟨3, _⟩ => rfl
        | ⟨4, _⟩ => rfl)
    · refine (broadcastTo_apply _ _ _ (ValueIdx.ix5 (⟨4 * b.val + kv.val, by omega⟩ : Fin 8) (0 : Fin 1) (0 : Fin 1) (⟨k.val / 64, by omega⟩ : Fin 16) (0 : Fin 1)) (fun a => match a with
        | ⟨0, _⟩ => rfl
        | ⟨1, _⟩ => rfl
        | ⟨2, _⟩ => rfl
        | ⟨3, _⟩ => rfl
        | ⟨4, _⟩ => rfl)).trans (shapeCast_apply _ _ _ _ ?_)
      rw [Shape.rowMajor_val_three, Shape.rowMajor_val_five]
      show (b.val * 4 + kv.val) * 16 + k.val / 64 = ((((4 * b.val + kv.val) * 1 + 0) * 1 + 0) * 16 + k.val / 64) * 1 + 0
      omega

/-- A row of scores, by number. -/
def rowOf (v : FVec Ideal S8x7x1024x1024 .f32) (p : Fin 8) (h : Fin 7) (t : Fin 1024) (k : ℕ) : EReal :=
  if hk : k < 1024 then v (ValueIdx.ix4 p h t ⟨k, hk⟩) else 0

theorem rowOf_fin (v : FVec Ideal S8x7x1024x1024 .f32) (p : Fin 8) (h : Fin 7) (t k : Fin 1024) : rowOf v p h t k.val = v (ValueIdx.ix4 p h t k) := by
  unfold rowOf
  rw [dif_pos k.isLt]

theorem msk9_at (v : FVec Ideal S8x7x1024x1024 .f32) (p : Fin 8) (h : Fin 7) (t k : Fin 1024) :
    msk9 v (ValueIdx.ix4 p h t k) = vis t.val (rowOf v p h t) k.val := by
  unfold msk9 vis
  rw [rowOf_fin]
  refine sel_form _ _ _ _ k.val t.val (by omega) (by omega) ?_ ?_
  · show BitVec.ofNat 32 (0 * 1024 + k.val) = _
    rw [Nat.zero_mul, Nat.zero_add]
  · show BitVec.ofNat 32 (0 * 1024 + t.val) = _
    rw [Nat.zero_mul, Nat.zero_add]

theorem top9_at (v : FVec Ideal S8x7x1024x1024 .f32) (p : Fin 8) (h : Fin 7) (t : Fin 1024) :
    top9 (msk9 v) (ix3 p h t) = (Finset.range 1024).sup (vis t.val (rowOf v p h t)) := by
  unfold top9
  refine eq_of_forall_ge_iff fun z => (maxRed_le _ _ _ _ _ bot32 _ z).trans ?_
  rw [Finset.sup_le_iff]
  constructor
  · intro hh k hk
    have := hh (ValueIdx.ix4 p h t ⟨k, Finset.mem_range.1 hk⟩) (funext fun a => match a with
      | ⟨0, _⟩ => Fin.ext rfl
      | ⟨1, _⟩ => Fin.ext rfl
      | ⟨2, _⟩ => Fin.ext rfl)
    exact (msk9_at v p h t ⟨k, Finset.mem_range.1 hk⟩).symm.trans_le this
  · intro hh i hi
    have h0 : i 0 = p := Fin.ext (congrArg Fin.val (congrFun hi 0))
    have h1 : i 1 = h := Fin.ext (congrArg Fin.val (congrFun hi 1))
    have h2 : i 2 = t := Fin.ext (congrArg Fin.val (congrFun hi 2))
    have ei : i = ValueIdx.ix4 p h t (i 3 : Fin 1024) := by rw [← h0, ← h1, ← h2]; exact ValueIdx.eq_ix4 i
    exact ((congrArg (msk9 v) ei).trans (msk9_at v p h t _)).trans_le (hh (i 3 : Fin 1024).val (Finset.mem_range.2 (i 3 : Fin 1024).isLt))

theorem cast9 (x : FVec Ideal S8x7x1024 .f32) (hc : S8x7x1024.ShapeCasts S8x7x1024x1) (p : Fin 8) (h : Fin 7) (t : Fin 1024) :
    shapeCast S8x7x1024x1 x hc (ValueIdx.ix4 p h t (0 : Fin 1)) = x (ix3 p h t) := by
  refine shapeCast_apply _ _ _ _ ?_
  rw [Shape.rowMajor_val_three, Shape.rowMajor_val_four]
  show (p.val * 7 + h.val) * 1024 + t.val = ((p.val * 7 + h.val) * 1024 + t.val) * 1 + 0
  omega

theorem e_form {s : Shape} (a b : FVec Ideal s .f32) (y : s.Idx) :
    exp2 (mulf (subf a b) (broadcast s (Scalar.ofBits .f32 0x3FB8AA3B#32))) y = Ideal.exp2 ((a y - b y) * l2e) := rfl

theorem pr9_at (v : FVec Ideal S8x7x1024x1024 .f32) (p : Fin 8) (h : Fin 7) (t k : Fin 1024) :
    pr9 (msk9 v) (ValueIdx.ix4 p h t k) = num t.val (rowOf v p h t) k.val := by
  unfold pr9 num
  refine (e_form _ _ _).trans (congrArg₂ (fun a b => Ideal.exp2 ((a - b) * l2e)) (msk9_at v p h t k) ?_)
  exact (broadcastTo_apply _ _ _ (ValueIdx.ix4 p h t (0 : Fin 1)) (fun a => match a with
    | ⟨0, _⟩ => rfl
    | ⟨1, _⟩ => rfl
    | ⟨2, _⟩ => rfl
    | ⟨3, _⟩ => rfl)).trans ((cast9 _ _ p h t).trans (top9_at v p h t))

theorem sum9_at (v : FVec Ideal S8x7x1024x1024 .f32) (p : Fin 8) (h : Fin 7) (t : Fin 1024) :
    sum9 (pr9 (msk9 v)) (ix3 p h t) = ∑ k ∈ Finset.range 1024, num t.val (rowOf v p h t) k := by
  unfold sum9
  refine (Ideal.reduceAdd_r4_a3 _ _ _).trans ?_
  rw [Finset.sum_range]
  exact Finset.sum_congr rfl fun k _ => pr9_at v p h t k

theorem c_form {s : Shape} (e : FVec Ideal s .f32) (hb) (y : s.Idx) :
    truncf .fp8e4m3 (minimumf (mulf e (broadcast s (Scalar.ofBits .f32 0x43800000#32))) (broadcast s (Scalar.ofBits .f32 0x43E00000#32))) hb y
      = min (e y * k256) k448 := rfl

theorem code9_at (v : FVec Ideal S8x7x1024x1024 .f32) (p : Fin 8) (h : Fin 7) (t k : Fin 1024) :
    code9 (pr9 (msk9 v)) (ix3 p (⟨1024 * h.val + t.val, by omega⟩ : Fin 7168) k) = min (num t.val (rowOf v p h t) k.val * k256) k448 := by
  unfold code9
  refine (shapeCast_apply _ _ _ (ValueIdx.ix4 p h t k) ?_).trans ((c_form _ _ _).trans (congrArg (fun w => min (w * k256) k448) (pr9_at v p h t k)))
  rw [Shape.rowMajor_val_three, Shape.rowMajor_val_four]
  show ((p.val * 7 + h.val) * 1024 + t.val) * 1024 + k.val = (p.val * 7168 + (1024 * h.val + t.val)) * 1024 + k.val
  omega

theorem dot9_at (e : FVec Ideal S8x7168x1024 .fp8e4m3) (v65 : Vec Ideal S2x4x128x1024 .fp8e4m3) (b : Fin 2) (kv : Fin 4) (n : Fin 7168) (d : Fin 128) :
    dot9 e v65 (ix3 (⟨4 * b.val + kv.val, by omega⟩ : Fin 8) n d)
      = ∑ k : Fin 1024, e (ix3 (⟨4 * b.val + kv.val, by omega⟩ : Fin 8) n k) * v65 (ValueIdx.ix4 b kv d k) := by
  unfold dot9
  refine (Ideal.matmul_apply₁_of dot_S8x7168x1024_S8x128x1024_S8x7168x128_2_2_1_1_0_0 (a := 2) rfl rfl _ _ _
    (ix3 (⟨4 * b.val + kv.val, by omega⟩ : Fin 8) n d)
    (fun k => ix3 (⟨4 * b.val + kv.val, by omega⟩ : Fin 8) n k) (fun k => ix3 (⟨4 * b.val + kv.val, by omega⟩ : Fin 8) d k)
    (fun k => funext fun a => match a with
      | ⟨0, _⟩ => rfl
      | ⟨1, _⟩ => rfl
      | ⟨2, _⟩ => rfl) (fun k => funext fun a => match a with
      | ⟨0, _⟩ => rfl
      | ⟨1, _⟩ => rfl
      | ⟨2, _⟩ => rfl)).trans ?_
  rw [show (constant S8x7168x128 .f32 0x00000000#32 : FVec Ideal S8x7168x128 .f32) (ix3 (⟨4 * b.val + kv.val, by omega⟩ : Fin 8) n d) = (0 : EReal) from zero32]
  refine (zero_add _).trans (Finset.sum_congr rfl fun k _ => congrArg (_ * ·) (shapeCast_apply _ _ _ _ ?_))
  rw [Shape.rowMajor_val_three, Shape.rowMajor_val_four]
  show ((b.val * 4 + kv.val) * 128 + d.val) * 1024 + k.val = ((4 * b.val + kv.val) * 128 + d.val) * 1024 + k.val
  omega

theorem f_form {s : Shape} (a b c : FVec Ideal s .f32) (hb) (y : s.Idx) :
    truncf .bf16 (divf (mulf (mulf a (broadcast s (Scalar.ofBits .f32 0x3B800000#32))) b) c) hb y = Ideal.div (a y * kInv * b y) (c y) := rfl

theorem fin9_at (w : FVec Ideal S8x7168x128 .f32) (v71 : Vec Ideal S2x4x128 .f32) (l : FVec Ideal S8x7x1024 .f32)
    (b : Fin 2) (kv : Fin 4) (h : Fin 7) (t : Fin 1024) (d : Fin 128) :
    fin9 w v71 l (ValueIdx.ix4 (⟨4 * b.val + kv.val, by omega⟩ : Fin 8) h t d) = Ideal.div
      (w (ix3 (⟨4 * b.val + kv.val, by omega⟩ : Fin 8) (⟨1024 * h.val + t.val, by omega⟩ : Fin 7168) d) * kInv * v71 (ix3 b kv d))
      (l (ix3 (⟨4 * b.val + kv.val, by omega⟩ : Fin 8) h t)) := by
  unfold fin9
  refine (f_form _ _ _ _ _).trans (congrArg₂ Ideal.div (congrArg₂ (fun u v => u * kInv * v) (shapeCast_apply _ _ _ _ ?_) ?_) ?_)
  · rw [Shape.rowMajor_val_three, Shape.rowMajor_val_four]
    show ((4 * b.val + kv.val) * 7168 + (1024 * h.val + t.val)) * 128 + d.val = (((4 * b.val + kv.val) * 7 + h.val) * 1024 + t.val) * 128 + d.val
    omega
  · refine (broadcastTo_apply _ _ _ (ValueIdx.ix4 (⟨4 * b.val + kv.val, by omega⟩ : Fin 8) (0 : Fin 1) (0 : Fin 1) d) (fun a => match a with
      | ⟨0, _⟩ => rfl
      | ⟨1, _⟩ => rfl
      | ⟨2, _⟩ => rfl
      | ⟨3, _⟩ => rfl)).trans (shapeCast_apply _ _ _ _ ?_)
    rw [Shape.rowMajor_val_three, Shape.rowMajor_val_four]
    show (b.val * 4 + kv.val) * 128 + d.val = (((4 * b.val + kv.val) * 1 + 0) * 1 + 0) * 128 + d.val
    omega
  · exact (broadcastTo_apply _ _ _ (ValueIdx.ix4 (⟨4 * b.val + kv.val, by omega⟩ : Fin 8) h t (0 : Fin 1)) (fun a => match a with
      | ⟨0, _⟩ => rfl
      | ⟨1, _⟩ => rfl
      | ⟨2, _⟩ => rfl
      | ⟨3, _⟩ => rfl)).trans (cast9 _ _ _ _ _)

/-- A channel's values, by the key's number. -/
def v65At (v : Vec Ideal S2x4x128x1024 .fp8e4m3) (b : Fin 2) (kv : Fin 4) (d : Fin 128) (k : ℕ) : EReal :=
  if h : k < 1024 then v (ValueIdx.ix4 b kv d ⟨k, h⟩) else 0

theorem pay9_at (v33 : FVec Ideal S8x7168x1024 .f32) (v36 : FVec Ideal S8x56x1x1x1 .f32) (v37 : Vec Ideal S2x4x16 .f32)
    (v65 : Vec Ideal S2x4x128x1024 .fp8e4m3) (v71 : Vec Ideal S2x4x128 .f32) (b : Fin 2) (kv : Fin 4) (h : Fin 7) (t : Fin 1024) (d : Fin 128) :
    k0_pay9 (F := Ideal) v33 v36 v37 v65 v71 (ValueIdx.ix5 b kv h t d) = soft t.val
      (rowOf (sc9 v33 v36 v37) (⟨4 * b.val + kv.val, by omega⟩ : Fin 8) h t) (v65At v65 b kv d) (v71 (ix3 b kv d)) := by
  rw [pay9_form]
  refine (shapeCast_apply _ _ _ (ValueIdx.ix4 (⟨4 * b.val + kv.val, by omega⟩ : Fin 8) h t d) ?_).trans ?_
  · rw [Shape.rowMajor_val_four, Shape.rowMajor_val_five]
    show (((4 * b.val + kv.val) * 7 + h.val) * 1024 + t.val) * 128 + d.val = (((b.val * 4 + kv.val) * 7 + h.val) * 1024 + t.val) * 128 + d.val
    omega
  · refine (fin9_at _ _ _ b kv h t d).trans ?_
    unfold soft
    refine congrArg₂ Ideal.div (congrArg (fun u => u * kInv * v71 (ix3 b kv d)) ?_) (sum9_at _ _ _ _)
    refine (dot9_at _ _ b kv _ d).trans ?_
    rw [Finset.sum_range]
    refine Finset.sum_congr rfl fun k _ => congrArg₂ (· * ·) (code9_at _ _ h t k) ?_
    unfold v65At
    rw [dif_pos k.isLt]

/-! ## The raw scores and the scales -/

theorem s_form {s : Shape} (a : IVec s 8) (y : s.Idx) : (sitofp .bf16 a : FVec Ideal s .bf16) y = (((a y).toInt : ℝ) : EReal) := rfl

/-- A query's code, a number. -/
def qcode (x : FVec Ideal S2x1024x3584 .bf16) (b : Fin 2) (h : Fin 28) (t : Fin 1024) (d : Fin 128) : BitVec 8 :=
  k0_pay4 (F := Ideal) x (ValueIdx.ix5 b (⟨t.val / 128, by omega⟩ : Fin 8) (⟨t.val % 128, by omega⟩ : Fin 128) h d)

def dot7 (q : FVec Ideal S8x7168x128 .bf16) (k : FVec Ideal S8x1024x128 .bf16) : FVec Ideal S8x7168x1024 .f32 :=
  matmul dot_S8x7168x128_S8x1024x128_S8x7168x1024_2_2_1_1_0_0 none q k (constant S8x7168x1024 .f32 0x00000000#32)

theorem dot7_at (q : FVec Ideal S8x7168x128 .bf16) (k : FVec Ideal S8x1024x128 .bf16) (p : Fin 8) (n : Fin 7168) (j : Fin 1024) :
    dot7 q k (ix3 p n j) = ∑ d : Fin 128, q (ix3 p n d) * k (ix3 p j d) := by
  unfold dot7
  refine (Ideal.matmul_apply₁_of dot_S8x7168x128_S8x1024x128_S8x7168x1024_2_2_1_1_0_0 (a := 2) rfl rfl _ _ _ (ix3 p n j)
    (fun d => ix3 p n d) (fun d => ix3 p j d)
    (fun k => funext fun a => match a with
      | ⟨0, _⟩ => rfl
      | ⟨1, _⟩ => rfl
      | ⟨2, _⟩ => rfl) (fun k => funext fun a => match a with
      | ⟨0, _⟩ => rfl
      | ⟨1, _⟩ => rfl
      | ⟨2, _⟩ => rfl)).trans ?_
  rw [show (constant S8x7168x1024 .f32 0x00000000#32 : FVec Ideal S8x7168x1024 .f32) (ix3 p n j) = (0 : EReal) from zero32]
  exact zero_add _

theorem pay7_at (x : FVec Ideal S2x1024x3584 .bf16) (a1 : Vec Ideal S2x4x1024x128 .i8) (b : Fin 2) (kv : Fin 4) (h : Fin 7) (t k : Fin 1024) :
    k0_pay7 (F := Ideal) x a1 (ix3 (⟨4 * b.val + kv.val, by omega⟩ : Fin 8) (⟨1024 * h.val + t.val, by omega⟩ : Fin 7168) k)
      = ∑ d : Fin 128, (((qcode x b ⟨7 * kv.val + h.val, by omega⟩ t d).toInt : ℝ) : EReal) * (((a1 (ValueIdx.ix4 b kv k d)).toInt : ℝ) : EReal) := by
  unfold k0_pay7
  refine (dot7_at _ _ _ _ _).trans (Finset.sum_congr rfl fun d _ => congrArg₂ (· * ·) ?_ ?_)
  · refine (shapeCast_apply _ _ _ (ValueIdx.ix5 b kv h t d) ?_).trans ?_
    · rw [Shape.rowMajor_val_three, Shape.rowMajor_val_five]
      show (((b.val * 4 + kv.val) * 7 + h.val) * 1024 + t.val) * 128 + d.val = ((4 * b.val + kv.val) * 7168 + (1024 * h.val + t.val)) * 128 + d.val
      omega
    · refine (transpose_apply _ _ _ _ (ValueIdx.ix5 b t kv h d) (fun a => match a with
        | ⟨0, _⟩ => rfl
        | ⟨1, _⟩ => rfl
        | ⟨2, _⟩ => rfl
        | ⟨3, _⟩ => rfl
        | ⟨4, _⟩ => rfl)).trans ?_
      refine (shapeCast_apply _ _ _ (ValueIdx.ix5 b (⟨t.val / 128, by omega⟩ : Fin 8) (⟨t.val % 128, by omega⟩ : Fin 128) (⟨7 * kv.val + h.val, by omega⟩ : Fin 28) d) ?_).trans (s_form _ _)
      rw [Shape.rowMajor_val_five, Shape.rowMajor_val_five]
      show (((b.val * 8 + t.val / 128) * 128 + t.val % 128) * 28 + (7 * kv.val + h.val)) * 128 + d.val
        = (((b.val * 1024 + t.val) * 4 + kv.val) * 7 + h.val) * 128 + d.val
      omega
  · refine (shapeCast_apply _ _ _ (ValueIdx.ix4 b kv k d) ?_).trans (s_form _ _)
    rw [Shape.rowMajor_val_three, Shape.rowMajor_val_four]
    show ((b.val * 4 + kv.val) * 1024 + k.val) * 128 + d.val = ((4 * b.val + kv.val) * 1024 + k.val) * 128 + d.val
    omega

theorem pay8_at (x : FVec Ideal S2x1024x3584 .bf16) (b : Fin 2) (kv : Fin 4) (h : Fin 7) (q : Fin 8) :
    k0_pay8 (F := Ideal) x (ValueIdx.ix5 (⟨4 * b.val + kv.val, by omega⟩ : Fin 8) (⟨8 * h.val + q.val, by omega⟩ : Fin 56) (0 : Fin 1) (0 : Fin 1) (0 : Fin 1))
      = scaleOf x b q ⟨7 * kv.val + h.val, by omega⟩ := by
  unfold k0_pay8
  refine (shapeCast_apply _ _ _ (ValueIdx.ix4 b kv h q) ?_).trans ((transpose_apply _ _ _ _ (ValueIdx.ix4 b q kv h) (fun a => match a with
    | ⟨0, _⟩ => rfl
    | ⟨1, _⟩ => rfl
    | ⟨2, _⟩ => rfl
    | ⟨3, _⟩ => rfl)).trans ((shapeCast_apply _ _ _ (ValueIdx.ix5 b q (0 : Fin 1) (⟨7 * kv.val + h.val, by omega⟩ : Fin 28) (0 : Fin 1)) ?_).trans (pay3_at x b q _ 0 0)))
  · rw [Shape.rowMajor_val_four, Shape.rowMajor_val_five]
    show ((b.val * 4 + kv.val) * 7 + h.val) * 8 + q.val = ((((4 * b.val + kv.val) * 56 + (8 * h.val + q.val)) * 1 + 0) * 1 + 0) * 1 + 0
    omega
  · rw [Shape.rowMajor_val_four, Shape.rowMajor_val_five]
    show (((b.val * 8 + q.val) * 1 + 0) * 28 + (7 * kv.val + h.val)) * 1 + 0 = ((b.val * 8 + q.val) * 4 + kv.val) * 7 + h.val
    omega

/-- The result's entry of a query and a channel. -/
theorem pay1_at (v : FVec Ideal S2x4x7x1024x128 .bf16) (b : Fin 2) (t : Fin 1024) (n : Fin 3584) :
    k0_pay1 (F := Ideal) v (ix3 b t n) = v (ValueIdx.ix5 b (⟨n.val / 896, by omega⟩ : Fin 4) (⟨n.val % 896 / 128, by omega⟩ : Fin 7) t (⟨n.val % 128, by omega⟩ : Fin 128)) := by
  unfold k0_pay1
  refine (shapeCast_apply _ _ _ (ValueIdx.ix5 b t (⟨n.val / 896, by omega⟩ : Fin 4) (⟨n.val % 896 / 128, by omega⟩ : Fin 7) (⟨n.val % 128, by omega⟩ : Fin 128)) ?_).trans
    (transpose_apply _ _ _ _ _ (fun a => match a with
      | ⟨0, _⟩ => rfl
      | ⟨1, _⟩ => rfl
      | ⟨2, _⟩ => rfl
      | ⟨3, _⟩ => rfl
      | ⟨4, _⟩ => rfl))
  rw [Shape.rowMajor_val_three, Shape.rowMajor_val_five]
  show (((b.val * 1024 + t.val) * 4 + n.val / 896) * 7 + n.val % 896 / 128) * 128 + n.val % 128 = (b.val * 1024 + t.val) * 3584 + n.val
  omega

end Attn
end
-- ==== Proof.AttnEq.lean ====
/- The attention: what the kernel's steps leave in the first array is what the reference computes, where the units of the row's
   scores are finite and not below the floor. -/
module

public import proofs.«01_k».proof.Proof.Codes
public import proofs.«01_k».proof.Proof.Units
public import proofs.«01_k».proof.Proof.RefAttn

@[expose] public section

set_option maxRecDepth 16384

noncomputable section

namespace Cert.KernelIdeal.Own

open Idealize.ShloMosaic Idealize.ShloMosaic.TcCoe
open Cert.KernelIdeal.Gen
open Attn (tileOf scaleOf codeAt scl amax sm)

/-! ## The inputs' blocks -/

section Reads
variable {F : FTy → Type} [FloatOps F]
variable (m : (ℓ : Loc nD τ sig) → Buf (Elt F) ℓ)

theorem ksB_at (c : Dev nD) (t : Fin cfg0.N) (j : S2x4x16.Idx) : ksB m c t j = m ((c : Thread nD τ).loc main_arg2) j := by
  unfold ksB iblk
  rw [View.read_apply]
  refine (congrFun (V_main_arg2 m c) _).trans ?_
  refine congrArg (m ((c : Thread nD τ).loc main_arg2)) (Attn.idx3_ext (p := 2) (q := 4) (r := 16) (z := j) ?_ ?_ ?_)
  · show (0#32 : BitVec 32).toNat * 2 + 1 * (j 0).val = (j 0).val
    simp
  · show (0#32 : BitVec 32).toNat * 4 + 1 * (j 1).val = (j 1).val
    simp
  · show (0#32 : BitVec 32).toNat * 16 + 1 * (j 2).val = (j 2).val
    simp

theorem kB_at (c : Dev nD) (t : Fin cfg0.N) (k : Fin 1024) (d : Fin 128) :
    kB m c t (ValueIdx.ix4 (0 : Fin 1) (0 : Fin 1) k d) = m ((c : Thread nD τ).loc main_arg1) (ValueIdx.ix4 (bOf t) (kOf t) k d) := by
  unfold kB iblk
  rw [View.read_apply]
  refine (congrFun (V_main_arg1 m c) _).trans (congrArg (m ((c : Thread nD τ).loc main_arg1)) (funext fun a => Fin.ext ?_))
  match a with
  | ⟨0, _⟩ =>
    show (BitVec.ofNat 32 (grid0.coords t 0).val).toNat * 1 + 1 * 0 = (bOf t).val
    rw [word0]; omega
  | ⟨1, _⟩ =>
    show (BitVec.ofNat 32 (grid0.coords t 1).val).toNat * 1 + 1 * 0 = (kOf t).val
    rw [word1]; omega
  | ⟨2, _⟩ =>
    show (0#32 : BitVec 32).toNat * 1024 + 1 * k.val = k.val
    simp
  | ⟨3, _⟩ =>
    show (0#32 : BitVec 32).toNat * 128 + 1 * d.val = d.val
    simp

theorem vB_at (c : Dev nD) (t : Fin cfg0.N) (d : Fin 128) (k : Fin 1024) :
    vB m c t (ValueIdx.ix4 (0 : Fin 1) (0 : Fin 1) d k) = m ((c : Thread nD τ).loc main_arg3) (ValueIdx.ix4 (bOf t) (kOf t) d k) := by
  unfold vB iblk
  rw [View.read_apply]
  refine (congrFun (V_main_arg3 m c) _).trans (congrArg (m ((c : Thread nD τ).loc main_arg3)) (funext fun a => Fin.ext ?_))
  match a with
  | ⟨0, _⟩ =>
    show (BitVec.ofNat 32 (grid0.coords t 0).val).toNat * 1 + 1 * 0 = (bOf t).val
    rw [word0]; omega
  | ⟨1, _⟩ =>
    show (BitVec.ofNat 32 (grid0.coords t 1).val).toNat * 1 + 1 * 0 = (kOf t).val
    rw [word1]; omega
  | ⟨2, _⟩ =>
    show (0#32 : BitVec 32).toNat * 128 + 1 * d.val = d.val
    simp
  | ⟨3, _⟩ =>
    show (0#32 : BitVec 32).toNat * 1024 + 1 * k.val = k.val
    simp

theorem V_main_v0 (c : Dev nD) : V m c main_v0 = shapeCast S2x4x1x128 (m ((c : Thread nD τ).loc main_arg4)) shapeCasts_S2x4x128_S2x4x1x128 := by
  show StableHlo.after hostOps0 (fun b => m (c, b)) (Proc.devRef .tc main_v0) = _
  rw [StableHlo.after_cons, StableHlo.after_nil, StableHlo.reshape_result]
  rfl

theorem vs_cast (x : Vec F S2x4x128 .f32) (z : S2x4x1x128.Idx) (b : Fin 2) (k : Fin 4) (d : Fin 128) (h0 : (z 0).val = b.val) (h1 : (z 1).val = k.val)
    (h3 : (z 3).val = d.val) : shapeCast S2x4x1x128 x shapeCasts_S2x4x128_S2x4x1x128 z = x (Attn.ix3 b k d) := by
  have h2 : (z 2).val < 1 := (z 2).isLt
  refine shapeCast_apply _ _ _ _ ?_
  rw [Shape.rowMajor_val_three, Shape.rowMajor_val_four]
  show (b.val * 4 + k.val) * 128 + d.val = (((z 0).val * 4 + (z 1).val) * 1 + (z 2).val) * 128 + (z 3).val
  omega

theorem vsB_at (c : Dev nD) (t : Fin cfg0.N) (d : Fin 128) :
    vsB m c t (ValueIdx.ix4 (0 : Fin 1) (0 : Fin 1) (0 : Fin 1) d) = m ((c : Thread nD τ).loc main_arg4) (Attn.ix3 (bOf t) (kOf t) d) := by
  unfold vsB iblk
  rw [View.read_apply]
  refine (congrFun (V_main_v0 m c) _).trans (vs_cast _ _ _ _ _ ?_ ?_ ?_)
  · show (BitVec.ofNat 32 (grid0.coords t 0).val).toNat * 1 + 1 * 0 = (bOf t).val
    rw [word0]; omega
  · show (BitVec.ofNat 32 (grid0.coords t 1).val).toNat * 1 + 1 * 0 = (kOf t).val
    rw [word1]; omega
  · show (0#32 : BitVec 32).toNat * 128 + 1 * d.val = d.val
    simp

end Reads

variable (m : (ℓ : Loc nD τ sig) → Buf (Elt Ideal) ℓ)

/-! ## A step's chunks -/

theorem coe_sum {ι : Type} (S : Finset ι) (f : ι → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

theorem vsCol_at (vs : Vec Ideal S1x1x1x128 .f32) (d : Fin 128) (l : Fin 256) :
    Attn.vsCol vs (Attn.ix2 d l) = vs (ValueIdx.ix4 (0 : Fin 1) (0 : Fin 1) (0 : Fin 1) d) := by
  unfold Attn.vsCol
  refine (broadcastTo_apply _ _ _ (Attn.ix2 d (0 : Fin 1)) (fun a => match a with
    | ⟨0, _⟩ => rfl
    | ⟨1, _⟩ => rfl)).trans ?_
  refine (shapeCast_apply _ _ _ (Attn.ix2 d (0 : Fin 1)) rfl).trans ?_
  refine (shapeCast_apply _ _ _ (ValueIdx.ix1 d) ?_).trans (shapeCast_apply _ _ _ _ ?_)
  · rw [Shape.rowMajor_val_one, Shape.rowMajor_val_two]
    show d.val = d.val * 1 + 0
    omega
  · rw [Shape.rowMajor_val_one, Shape.rowMajor_val_four]
    show ((0 * 1 + 0) * 1 + 0) * 128 + d.val = d.val
    omega

theorem kbT_at (k : Vec Ideal S1x1x1024x128 .i8) (j : Fin 1024) (d : Fin 128) :
    Attn.kbT k (Attn.ix2 j d) = (((k (ValueIdx.ix4 (0 : Fin 1) (0 : Fin 1) j d)).toInt : ℝ) : EReal) := by
  unfold Attn.kbT
  refine (Attn.s_form _ _).trans (congrArg (fun w : BitVec 8 => ((w.toInt : ℝ) : EReal)) (shapeCast_apply _ _ _ _ ?_))
  rw [Shape.rowMajor_val_two, Shape.rowMajor_val_four]
  show ((0 * 1 + 0) * 1024 + j.val) * 128 + d.val = j.val * 128 + d.val
  omega

/-- The widened codes are the codes. -/
theorem qbT_at (c : Dev nD) (T : Fin cfg0.N) (N : Fin 7168) (h : Fin 7) (t : Fin 1024) (hN : N.val = 16 * (t.val / 16 * 7 + h.val) + t.val % 16) (d : Fin 128) :
    Attn.qbT (xB m c T) (Attn.ix2 N d)
      = (((Attn.qcode (m ((c : Thread nD τ).loc main_arg0)) (bOf T) ⟨7 * (kOf T).val + h.val, by omega⟩ t d).toInt : ℝ) : EReal) := by
  have e1 : (⟨N.val / 896, by omega⟩ : Fin 8) = ⟨t.val / 128, by omega⟩ := Fin.ext (by show N.val / 896 = t.val / 128; omega)
  have e2 : (⟨N.val % 112 / 16, by omega⟩ : Fin 7) = h := Fin.ext (by show N.val % 112 / 16 = h.val; omega)
  have e3 : (⟨16 * (N.val % 896 / 112) + N.val % 16, by omega⟩ : Fin 128) = ⟨t.val % 128, by omega⟩ :=
    Fin.ext (by show 16 * (N.val % 896 / 112) + N.val % 16 = t.val % 128; omega)
  have e4 : Attn.qbT (xB m c T) (Attn.ix2 N d) = Attn.tileCodes (Attn.tile (xB m c T) ⟨N.val / 896, by omega⟩ ⟨N.val % 112 / 16, by omega⟩)
      (Attn.ix2 (⟨16 * (N.val % 896 / 112) + N.val % 16, by omega⟩ : Fin 128) d) := rfl
  rw [e4, e1, e2, e3, Attn.tileCodes_eq, tile_at]
  unfold Attn.qcode
  rw [Attn.pay4_at]
  exact Attn.code_back _ _

theorem coef_at (c : Dev nD) (T : Fin cfg0.N) (C : ℕ) (hC : C < 28) (l : Fin 256) (h : Fin 7) (t : Fin 1024)
    (hN : 256 * C + l.val = 16 * (t.val / 16 * 7 + h.val) + t.val % 16) :
    Attn.coefC (Attn.qrT (xB m c T)) C hC (Attn.ix2 (0 : Fin 1) l)
      = scaleOf (m ((c : Thread nD τ).loc main_arg0)) (bOf T) ⟨t.val / 128, by omega⟩ ⟨7 * (kOf T).val + h.val, by omega⟩ := by
  have e1 : (⟨(256 * C + l.val) / 896, by omega⟩ : Fin 8) = ⟨t.val / 128, by omega⟩ := Fin.ext (by show (256 * C + l.val) / 896 = t.val / 128; omega)
  have e2 : (⟨(256 * C + l.val) % 896 % 112 / 16, by omega⟩ : Fin 7) = h := Fin.ext (by show (256 * C + l.val) % 896 % 112 / 16 = h.val; omega)
  rw [Attn.coefC_at]
  refine (show _ = Attn.scaleT (xB m c T) ⟨(256 * C + l.val) / 896, by omega⟩ ⟨(256 * C + l.val) % 896 % 112 / 16, by omega⟩ from rfl).trans ?_
  rw [e1, e2, scaleT_at]

/-- The scores of a row. -/
abbrev scoresOf (c : Dev nD) : FVec Ideal Cert.ReferenceIdeal.S8x7x1024x1024 .f32 :=
  Attn.sc9 (Cert.ReferenceIdeal.Gen.k0_pay7 (F := Ideal) (m ((c : Thread nD τ).loc main_arg0)) (m ((c : Thread nD τ).loc main_arg1)))
    (Cert.ReferenceIdeal.Gen.k0_pay8 (F := Ideal) (m ((c : Thread nD τ).loc main_arg0))) (m ((c : Thread nD τ).loc main_arg2))

theorem step_at (c : Dev nD) (T : Fin cfg0.N) (t : Fin 1024) (h : Fin 7) (d : Fin 128) (C : ℕ) (hC : C < 28) (l : Fin 256)
    (hN : 256 * C + l.val = 16 * (t.val / 16 * 7 + h.val) + t.val % 16)
    (hU : ∀ g : Fin 16, 64 * g.val ≤ t.val → Attn.kMin ≤ scaleOf (m ((c : Thread nD τ).loc main_arg0)) (bOf T) ⟨t.val / 128, by omega⟩ ⟨7 * (kOf T).val + h.val, by omega⟩
        * m ((c : Thread nD τ).loc main_arg2) (Attn.ix3 (bOf T) (kOf T) g) * Attn.l2e
      ∧ scaleOf (m ((c : Thread nD τ).loc main_arg0)) (bOf T) ⟨t.val / 128, by omega⟩ ⟨7 * (kOf T).val + h.val, by omega⟩
        * m ((c : Thread nD τ).loc main_arg2) (Attn.ix3 (bOf T) (kOf T) g) * Attn.l2e < (⊤ : EReal)) :
    Attn.chunkOf (ksB m c T) (bOf T) (kOf T) (Attn.coefC (Attn.qrT (xB m c T)) C hC)
        (Attn.rawG C (Attn.qtokC C) (Attn.kbT (kB m c T)) (Attn.qtC (Attn.qbT (xB m c T)) C hC)) (Attn.vsCol (vsB m c T)) (vB m c T) C hC (Attn.ix2 l d)
      = Attn.soft t.val (Attn.rowOf (scoresOf m c) (⟨4 * (bOf T).val + (kOf T).val, by omega⟩ : Fin 8) h t)
          (Attn.v65At (m ((c : Thread nD τ).loc main_arg3)) (bOf T) (kOf T) d) (m ((c : Thread nD τ).loc main_arg4) (Attn.ix3 (bOf T) (kOf T) d)) := by
  have htok : Attn.tokOf (256 * C + l.val) = t.val := by rw [hN]; unfold Attn.tokOf; omega
  have hks : ∀ g : Fin 16, Attn.kAt (ksB m c T) (bOf T) (kOf T) g.val = m ((c : Thread nD τ).loc main_arg2) (Attn.ix3 (bOf T) (kOf T) g) := fun g => by
    unfold Attn.kAt
    rw [dif_pos g.isLt]
    exact (ksB_at m c T _).trans (congrArg (m ((c : Thread nD τ).loc main_arg2)) (Attn.idx3_ext (p := 2) (q := 4) (r := 16) rfl rfl rfl))
  let D : ℕ → ℝ := fun k => if hk : k < 1024 then
    ∑ e : Fin 128, ((Attn.qcode (m ((c : Thread nD τ).loc main_arg0)) (bOf T) ⟨7 * (kOf T).val + h.val, by omega⟩ t e).toInt : ℝ)
      * ((m ((c : Thread nD τ).loc main_arg1) (ValueIdx.ix4 (bOf T) (kOf T) ⟨k, hk⟩ e) : BitVec 8).toInt : ℝ) else 0
  have hD : ∀ k (hk : k < 1024), (D k : EReal)
      = ∑ e : Fin 128, (((Attn.qcode (m ((c : Thread nD τ).loc main_arg0)) (bOf T) ⟨7 * (kOf T).val + h.val, by omega⟩ t e).toInt : ℝ) : EReal)
        * (((m ((c : Thread nD τ).loc main_arg1) (ValueIdx.ix4 (bOf T) (kOf T) ⟨k, hk⟩ e) : BitVec 8).toInt : ℝ) : EReal) := fun k hk => by
    show ((D k : ℝ) : EReal) = _
    rw [show D k = _ from dif_pos hk, ← coe_sum]
    exact Finset.sum_congr rfl fun e _ => EReal.coe_mul _ _
  refine (Attn.chunk_soft (ksB m c T) (bOf T) (kOf T) _ _ l _ _ C hC d t.val (htok ▸ Attn.tok_lt_groups C l.val l.isLt) D _
    (Attn.scaleOf_pos _ _ _ _) (coef_at m c T C hC l h t hN) (Attn.rowOf (scoresOf m c) (⟨4 * (bOf T).val + (kOf T).val, by omega⟩ : Fin 8) h t)
    (fun g r => ?_) (fun k hk => ?_) (fun g hg hgt => ?_)).trans ?_
  · rw [Attn.rawG_at C hC, htok]
    by_cases hv : 64 * g.val + r.val ≤ t.val
    · rw [if_pos hv, if_pos hv, hD _ (by omega)]
      refine Finset.sum_congr rfl fun e _ => ?_
      rw [kbT_at, kB_at, Attn.qtC_at, qbT_at m c T _ h t hN e]
      exact mul_comm _ _
    · rw [if_neg hv, if_neg hv]
  · have hk' : k < 1024 := by omega
    refine (Attn.rowOf_fin _ _ _ _ ⟨k, hk'⟩).trans ((Attn.sc9_at _ _ _ _ _ _ _ _).trans ?_)
    rw [Attn.pay7_at, hD k hk']
    exact congrArg₂ (fun w z => _ * w * z) (Attn.pay8_at _ (bOf T) (kOf T) h ⟨t.val / 128, by omega⟩) (hks ⟨k / 64, by omega⟩).symm
  · rw [show g = (⟨g, hg⟩ : Fin 16).val from rfl, hks]
    exact hU ⟨g, hg⟩ hgt
  · refine congrArg₂ (Attn.soft t.val _) (funext fun k => ?_) ((vsCol_at _ _ _).trans (vsB_at m c T d))
    unfold Attn.vAt Attn.v65At
    by_cases hk : k < 1024
    · rw [dif_pos hk, dif_pos hk]; exact vB_at m c T d ⟨k, hk⟩
    · rw [dif_neg hk, dif_neg hk]

/-! ## The whole array -/

theorem outA_at (f : (C : ℕ) → C < 28 → FVec Ideal S256x128 .bf16) (t : Fin 1024) (n : Fin 896) :
    Attn.outA f (Attn.ix3 (0 : Fin 1) t n) = f ((t.val / 16 * 7 + n.val / 128) / 16) (by omega)
      (Attn.ix2 (⟨16 * ((t.val / 16 * 7 + n.val / 128) % 16) + t.val % 16, by omega⟩ : Fin 256) (⟨n.val % 128, by omega⟩ : Fin 128)) := rfl

theorem chunkOut_of (a0 : Fin 2) (a1 : Fin 4) (s : Attn.St Ideal) (vscol : FVec Ideal S128x256 .f32) (C : ℕ) (hC : C < 28) :
    Attn.chunkOut (Attn.quantSt a1 s) vscol a0 a1 C hC = Attn.chunkOf s.ks a0 a1 (Attn.coefC (Attn.qrT s.x) C hC)
      (Attn.rawG C (Attn.qtokC C) (Attn.kbT s.k) (Attn.qtC (Attn.qbT s.x) C hC)) vscol s.v C hC := by
  unfold Attn.chunkOut Attn.quantSt
  dsimp only

theorem outT_at (a0 : Fin 2) (a1 : Fin 4) (s : Attn.St Ideal) (t : Fin 1024) (n : Fin 896) (C : ℕ) (hC : C < 28) (l : Fin 256) (d : Fin 128)
    (eC : (t.val / 16 * 7 + n.val / 128) / 16 = C) (el : 16 * ((t.val / 16 * 7 + n.val / 128) % 16) + t.val % 16 = l.val) (ed : n.val % 128 = d.val) :
    Attn.outT a0 a1 s (Attn.ix3 (0 : Fin 1) t n) = Attn.chunkOf s.ks a0 a1 (Attn.coefC (Attn.qrT s.x) C hC)
      (Attn.rawG C (Attn.qtokC C) (Attn.kbT s.k) (Attn.qtC (Attn.qbT s.x) C hC)) (Attn.vsCol s.vs) s.v C hC (Attn.ix2 l d) := by
  subst eC
  unfold Attn.outT
  refine (outA_at _ t n).trans ?_
  rw [chunkOut_of]
  exact congrArg (Attn.chunkOf s.ks a0 a1 _ _ (Attn.vsCol s.vs) s.v _ _) (Attn.idx2_ext (p := 256) (q := 128) el ed)

theorem outB_at (c : Dev nD) (T : Fin cfg0.N) (t : Fin 1024) (n : Fin 896) (C : ℕ) (hC : C < 28) (l : Fin 256) (d : Fin 128)
    (eC : (t.val / 16 * 7 + n.val / 128) / 16 = C) (el : 16 * ((t.val / 16 * 7 + n.val / 128) % 16) + t.val % 16 = l.val) (ed : n.val % 128 = d.val) :
    outB m c T (Attn.ix3 (0 : Fin 1) t n) = Attn.chunkOf (ksB m c T) (bOf T) (kOf T) (Attn.coefC (Attn.qrT (xB m c T)) C hC)
        (Attn.rawG C (Attn.qtokC C) (Attn.kbT (kB m c T)) (Attn.qtC (Attn.qbT (xB m c T)) C hC)) (Attn.vsCol (vsB m c T)) (vB m c T) C hC (Attn.ix2 l d) := by
  unfold outB
  exact outT_at (bOf T) (kOf T) _ t n C hC l d eC el ed

theorem attn_of (c : Dev nD) (b : Fin 2) (t : Fin 1024) (n : Fin 3584) :
    attn m c (Attn.ix3 b t n) = outB m c (pt b ⟨n.val / 896, by omega⟩) (Attn.ix3 (0 : Fin 1) t (⟨n.val % 896, by omega⟩ : Fin 896)) := rfl

theorem attn_eq (c : Dev nD) (b : Fin 2) (t : Fin 1024) (n : Fin 3584)
    (hU : ∀ g : Fin 16, 64 * g.val ≤ t.val →
      Attn.kMin ≤ scaleOf (m ((c : Thread nD τ).loc main_arg0)) b ⟨t.val / 128, by omega⟩ ⟨n.val / 128, by omega⟩
        * m ((c : Thread nD τ).loc main_arg2) (Attn.ix3 b (⟨n.val / 896, by omega⟩ : Fin 4) g) * Attn.l2e
      ∧ scaleOf (m ((c : Thread nD τ).loc main_arg0)) b ⟨t.val / 128, by omega⟩ ⟨n.val / 128, by omega⟩
        * m ((c : Thread nD τ).loc main_arg2) (Attn.ix3 b (⟨n.val / 896, by omega⟩ : Fin 4) g) * Attn.l2e < (⊤ : EReal)) :
    attn m c (Attn.ix3 b t n) = Cert.ReferenceIdeal.Gen.k0_pay1 (F := Ideal) (Cert.ReferenceIdeal.Gen.k0_pay9 (F := Ideal)
      (Cert.ReferenceIdeal.Gen.k0_pay7 (F := Ideal) (m ((c : Thread nD τ).loc main_arg0)) (m ((c : Thread nD τ).loc main_arg1)))
      (Cert.ReferenceIdeal.Gen.k0_pay8 (F := Ideal) (m ((c : Thread nD τ).loc main_arg0))) (m ((c : Thread nD τ).loc main_arg2))
      (m ((c : Thread nD τ).loc main_arg3)) (m ((c : Thread nD τ).loc main_arg4))) (Attn.ix3 b t n) := by
  have e0 : (⟨n.val % 896 % 128, by omega⟩ : Fin 128) = ⟨n.val % 128, by omega⟩ := Fin.ext (by show n.val % 896 % 128 = n.val % 128; omega)
  have e1 : (⟨7 * (⟨n.val / 896, by omega⟩ : Fin 4).val + (⟨n.val % 896 / 128, by omega⟩ : Fin 7).val, by omega⟩ : Fin 28) = ⟨n.val / 128, by omega⟩ :=
    Fin.ext (by show 7 * (n.val / 896) + n.val % 896 / 128 = n.val / 128; omega)
  have key := step_at m c (pt b ⟨n.val / 896, by omega⟩) t ⟨n.val % 896 / 128, by omega⟩ ⟨n.val % 896 % 128, by omega⟩
    ((t.val / 16 * 7 + n.val % 896 / 128) / 16) (by omega) ⟨16 * ((t.val / 16 * 7 + n.val % 896 / 128) % 16) + t.val % 16, by omega⟩
    (by show 256 * ((t.val / 16 * 7 + n.val % 896 / 128) / 16) + (16 * ((t.val / 16 * 7 + n.val % 896 / 128) % 16) + t.val % 16)
          = 16 * (t.val / 16 * 7 + n.val % 896 / 128) + t.val % 16
        omega)
    (by simp only [bOf_pt, kOf_pt]; rw [e1]; exact hU)
  rw [attn_of]
  refine (outB_at m c _ t _ _ _ _ _ ?_ ?_ ?_).trans (key.trans ?_)
  · rfl
  · rfl
  · rfl
  simp only [bOf_pt, kOf_pt]
  rw [Attn.pay1_at, Attn.pay9_at, e0]

end Cert.KernelIdeal.Own
end
-- ==== Proof.Mask.lean ====
/- Where the attention is claimed: every unit of a score of the row's head, of the keys up to the row's own, is finite and not
   below the floor. -/
module

public import proofs.«01_k».proof.On_on
public import proofs.«01_k».proof.Proof.Units
public import Idealize.ShloMosaic.Lib.KernelVsHost
public import Idealize.ShloMosaic.Lib.Pipeline.Value
public import Idealize.ShloMosaic.Lib.WordCmp

@[expose] public section

set_option maxRecDepth 4096

noncomputable section

namespace Attn.Mask

open Idealize.ShloMosaic
open Cert.On_on Cert.On_on.Facts

variable [Cert.On_on.Facts]

/-! ## The mask in pieces -/

def absM (x : FVec Ideal S2x1024x3584 .bf16) : FVec Ideal S2x8x128x28x128 .f32 :=
  Host.absf (mulf (shapeCast S2x8x128x28x128 (extf .f32 x bitsLt_bf16_f32) shapeCasts_S2x1024x3584_S2x8x128x28x128)
    (broadcastInDim S2x8x128x28x128 ![] bcast_S_S2x8x128x28x128 (constant S_ .f32 0x3DB504F3#32)))

def topM (x : FVec Ideal S2x1024x3584 .bf16) : FVec Ideal S2x8x28 .f32 :=
  Host.reduce FloatOps.maximumf (absM x) (constant S_ .f32 0xFF800000#32) reducesTo_S2x8x128x28x128_S2x8x28_d2_4 h_S_

def sclM (a : FVec Ideal S2x8x28 .f32) : FVec Ideal S2x8x28 .f32 :=
  fn_where (F := Ideal) (cmpf .oeq a (broadcastInDim S2x8x28 ![] bcast_S_S2x8x28 (constant S_ .f32 0x00000000#32))) (constant S_ .f32 0x3F800000#32)
    (Host.divf a (broadcastInDim S2x8x28 ![] bcast_S_S2x8x28 (constant S_ .f32 0x42FE0000#32)))

def rowM (s : FVec Ideal S2x8x28 .f32) : FVec Ideal S2x1024x28x16 .f32 :=
  broadcastInDim S2x1024x28x16 ![0, 1, 2, 3] bcast_S2x1024x28x1_S2x1024x28x16_0_1_2_3
    (shapeCast S2x1024x28x1 (broadcastInDim S2x8x128x28 ![0, 1, 2, 3] bcast_S2x8x1x28_S2x8x128x28_0_1_2_3
      (shapeCast S2x8x1x28 s shapeCasts_S2x8x28_S2x8x1x28)) shapeCasts_S2x8x128x28_S2x1024x28x1)

def keyM (k : FVec Ideal S2x4x16 .f32) : FVec Ideal S2x1024x28x16 .f32 :=
  broadcastInDim S2x1024x28x16 ![0, 1, 2, 3] bcast_S2x1x28x16_S2x1024x28x16_0_1_2_3
    (shapeCast S2x1x28x16 (broadcastInDim S2x4x7x16 ![0, 1, 2, 3] bcast_S2x4x1x16_S2x4x7x16_0_1_2_3
      (shapeCast S2x4x1x16 k shapeCasts_S2x4x16_S2x4x1x16)) shapeCasts_S2x4x7x16_S2x1x28x16)

def unitM (r k : FVec Ideal S2x1024x28x16 .f32) : FVec Ideal S2x1024x28x16 .f32 :=
  mulf (mulf r k) (broadcastInDim S2x1024x28x16 ![] bcast_S_S2x1024x28x16 (constant S_ .f32 0x3FB8AA3B#32))

def finM (u : FVec Ideal S2x1024x28x16 .f32) : FVec Ideal S2x1024x28x16 .f32 :=
  fn_where_0 (F := Ideal) (cmpf .olt u (broadcastInDim S2x1024x28x16 ![] bcast_S_S2x1024x28x16 (constant S_ .f32 0x7F800000#32))) u
    (constant S_ .f32 0x00000000#32)

def seenM : IVec S2x1024x28x16 1 :=
  cmpi .sle (muli (iotaInDim S2x1024x28x16 32 3) (broadcastInDim S2x1024x28x16 ![] bcast_S_S2x1024x28x16 (constantI S_ 32 64#32)))
    (iotaInDim S2x1024x28x16 32 1)

def okM (w : FVec Ideal S2x1024x28x16 .f32) : IVec S2x1024x28 1 :=
  cmpf .oge (Host.reduce FloatOps.minimumf (fn_where_0 (F := Ideal) seenM w (constant S_ .f32 0x0D800000#32)) (constant S_ .f32 0x7F800000#32)
      reducesTo_S2x1024x28x16_S2x1024x28_d3 h_S_)
    (broadcastInDim S2x1024x28 ![] bcast_S_S2x1024x28 (constant S_ .f32 0x0D800000#32))

def outM (o : IVec S2x1024x28 1) : IVec S2x1024x3584 1 :=
  shapeCast S2x1024x3584 (broadcastInDim S2x1024x28x128 ![0, 1, 2, 3] bcast_S2x1024x28x1_S2x1024x28x128_0_1_2_3
    (shapeCast S2x1024x28x1 o shapeCasts_S2x1024x28_S2x1024x28x1)) shapeCasts_S2x1024x28x128_S2x1024x3584

theorem fn_form (x : FVec Ideal S2x1024x3584 .bf16) (a1 : IVec S2x4x1024x128 8) (a2 : FVec Ideal S2x4x16 .f32) (a3 : FVec Ideal S2x4x128x1024 .fp8e4m3)
    (a4 : FVec Ideal S2x4x128 .f32) :
    (fn (F := Ideal) x a1 a2 a3 a4).1 = outM (okM (finM (unitM (rowM (sclM (topM x))) (keyM a2)))) := by
  unfold fn fn_part1 fn_part2
  rfl

/-! ## Each at an index -/

theorem absM_form {s : Shape} (v : FVec Ideal s .f32) (y : s.Idx) : Host.absf v y = max (v y) (-(v y)) := rfl

theorem bc_form {s t : Shape} (d : Fin s.rank → Fin t.rank) (h : s.BroadcastsInDim t d) (b : BitVec 32) (y : t.Idx) :
    (broadcastInDim t d h (constant s .f32 b : FVec Ideal s .f32)) y = Ideal.ofBits .f32 b := rfl

theorem topM_at (x : FVec Ideal S2x1024x3584 .bf16) (b : Fin 2) (q : Fin 8) (h : Fin 28) : topM x (ix3 b q h) = amax (tileOf x b q h) * sm := by
  unfold topM
  refine (congrFun (hostReduce_maximumf_eq_multiReduction (absM x) 0xFF800000#32 _ _ Cert.ReferenceIdeal.Gen.reduces_S2x8x128x28x128_S2x8x28 (.inl rfl) rfl) _).trans ?_
  refine refMax _ x (fun b q r h d => ?_) b q h
  unfold absM
  refine (absM_form _ _).trans (congrArg (fun w => max w (-w)) ?_)
  refine (ValueIdx.mulf_apply _ _ _).trans (congrArg (· * sm) ?_)
  refine (shapeCast_apply _ _ _ (ix3 b (⟨128 * q.val + r.val, by omega⟩ : Fin 1024) (⟨128 * h.val + d.val, by omega⟩ : Fin 3584)) ?_).trans rfl
  rw [Shape.rowMajor_val_three, Shape.rowMajor_val_five]
  show (b.val * 1024 + (128 * q.val + r.val)) * 3584 + (128 * h.val + d.val) = (((b.val * 8 + q.val) * 128 + r.val) * 28 + h.val) * 128 + d.val
  omega

theorem sclM_at (a : FVec Ideal S2x8x28 .f32) (y : S2x8x28.Idx) : sclM a y = scl (a y) := rfl

theorem rowM_at (s : FVec Ideal S2x8x28 .f32) (b : Fin 2) (t : Fin 1024) (h : Fin 28) (g : Fin 16) :
    rowM s (ValueIdx.ix4 b t h g) = s (ix3 b (⟨t.val / 128, by omega⟩ : Fin 8) h) := by
  unfold rowM
  refine (broadcastInDim_apply _ _ _ _ (ValueIdx.ix4 b t h (0 : Fin 1)) (fun a => match a with
    | ⟨0, _⟩ => rfl
    | ⟨1, _⟩ => rfl
    | ⟨2, _⟩ => rfl
    | ⟨3, _⟩ => rfl)).trans ?_
  refine (shapeCast_apply _ _ _ (ValueIdx.ix4 b (⟨t.val / 128, by omega⟩ : Fin 8) (⟨t.val % 128, by omega⟩ : Fin 128) h) ?_).trans ?_
  · rw [Shape.rowMajor_val_four, Shape.rowMajor_val_four]
    show ((b.val * 8 + t.val / 128) * 128 + t.val % 128) * 28 + h.val = ((b.val * 1024 + t.val) * 28 + h.val) * 1 + 0
    omega
  · refine (broadcastInDim_apply _ _ _ _ (ValueIdx.ix4 b (⟨t.val / 128, by omega⟩ : Fin 8) (0 : Fin 1) h) (fun a => match a with
      | ⟨0, _⟩ => rfl
      | ⟨1, _⟩ => rfl
      | ⟨2, _⟩ => rfl
      | ⟨3, _⟩ => rfl)).trans (shapeCast_apply _ _ _ _ ?_)
    rw [Shape.rowMajor_val_three, Shape.rowMajor_val_four]
    show (b.val * 8 + t.val / 128) * 28 + h.val = ((b.val * 8 + t.val / 128) * 1 + 0) * 28 + h.val
    omega

theorem keyM_at (k : FVec Ideal S2x4x16 .f32) (b : Fin 2) (t : Fin 1024) (h : Fin 28) (g : Fin 16) :
    keyM k (ValueIdx.ix4 b t h g) = k (ix3 b (⟨h.val / 7, by omega⟩ : Fin 4) g) := by
  unfold keyM
  refine (broadcastInDim_apply _ _ _ _ (ValueIdx.ix4 b (0 : Fin 1) h g) (fun a => match a with
    | ⟨0, _⟩ => rfl
    | ⟨1, _⟩ => rfl
    | ⟨2, _⟩ => rfl
    | ⟨3, _⟩ => rfl)).trans ?_
  refine (shapeCast_apply _ _ _ (ValueIdx.ix4 b (⟨h.val / 7, by omega⟩ : Fin 4) (⟨h.val % 7, by omega⟩ : Fin 7) g) ?_).trans ?_
  · rw [Shape.rowMajor_val_four, Shape.rowMajor_val_four]
    show ((b.val * 4 + h.val / 7) * 7 + h.val % 7) * 16 + g.val = ((b.val * 1 + 0) * 28 + h.val) * 16 + g.val
    omega
  · refine (broadcastInDim_apply _ _ _ _ (ValueIdx.ix4 b (⟨h.val / 7, by omega⟩ : Fin 4) (0 : Fin 1) g) (fun a => match a with
      | ⟨0, _⟩ => rfl
      | ⟨1, _⟩ => rfl
      | ⟨2, _⟩ => rfl
      | ⟨3, _⟩ => rfl)).trans (shapeCast_apply _ _ _ _ ?_)
    rw [Shape.rowMajor_val_three, Shape.rowMajor_val_four]
    show (b.val * 4 + h.val / 7) * 16 + g.val = ((b.val * 4 + h.val / 7) * 1 + 0) * 16 + g.val
    omega

theorem unitM_at (r k : FVec Ideal S2x1024x28x16 .f32) (y : S2x1024x28x16.Idx) : unitM r k y = r y * k y * l2e := rfl

theorem where_form (c : IVec S2x1024x28x16 1) (x : FVec Ideal S2x1024x28x16 .f32) (b : BitVec 32) (y : S2x1024x28x16.Idx) :
    fn_where_0 (F := Ideal) c x (constant S_ .f32 b) y = if c y = 1#1 then x y else Ideal.ofBits .f32 b := rfl

theorem outM_at (o : IVec S2x1024x28 1) (b : Fin 2) (t : Fin 1024) (n : Fin 3584) : outM o (ix3 b t n) = o (ix3 b t (⟨n.val / 128, by omega⟩ : Fin 28)) := by
  unfold outM
  refine (shapeCast_apply _ _ _ (ValueIdx.ix4 b t (⟨n.val / 128, by omega⟩ : Fin 28) (⟨n.val % 128, by omega⟩ : Fin 128)) ?_).trans ?_
  · rw [Shape.rowMajor_val_three, Shape.rowMajor_val_four]
    show ((b.val * 1024 + t.val) * 28 + n.val / 128) * 128 + n.val % 128 = (b.val * 1024 + t.val) * 3584 + n.val
    omega
  · refine (broadcastInDim_apply _ _ _ _ (ValueIdx.ix4 b t (⟨n.val / 128, by omega⟩ : Fin 28) (0 : Fin 1)) (fun a => match a with
      | ⟨0, _⟩ => rfl
      | ⟨1, _⟩ => rfl
      | ⟨2, _⟩ => rfl
      | ⟨3, _⟩ => rfl)).trans (shapeCast_apply _ _ _ _ ?_)
    rw [Shape.rowMajor_val_three, Shape.rowMajor_val_four]
    show (b.val * 1024 + t.val) * 28 + n.val / 128 = ((b.val * 1024 + t.val) * 28 + n.val / 128) * 1 + 0
    omega

theorem seenM_at (b : Fin 2) (t : Fin 1024) (h : Fin 28) (g : Fin 16) (hg : 64 * g.val ≤ t.val) : seenM (ValueIdx.ix4 b t h g) = 1#1 := by
  show IntOp.cmpi .sle (BitVec.ofNat 32 g.val * 64#32) (BitVec.ofNat 32 t.val) = 1#1
  rw [show (64#32 : BitVec 32) = BitVec.ofNat 32 64 from rfl, ← BitVec.ofNat_mul]
  exact (WordCmp.cmpi_sle_ofNat_eq_one_iff (w := 32) (by omega) (by omega)).2 (by omega)

/-! ## What it says -/

/-- A bound below a minimum is below each of its numbers. -/
theorem minRed_ge {s t u : Shape} {axes : List (Fin s.rank)} (x : s.Idx → EReal) (init : u.Idx → EReal) (h : s.ReducesTo axes t) (hu : 0 < u.numel)
    (j : t.Idx) (z : EReal) (hz : z ≤ Host.reduce (min : EReal → EReal → EReal) x init h hu j) (i : s.Idx) (hi : h.drop i = j) : z ≤ x i := by
  rw [Host.reduce_eq_fold (min : EReal → EReal → EReal) x init h hu j] at hz
  exact ((Finset.le_fold_min z).1 hz).2 i (Finset.mem_filter.2 ⟨Finset.mem_univ _, hi⟩)

theorem ge_form {s : Shape} (a c : FVec Ideal s .f32) (y : s.Idx) (h : cmpf .oge a c y = 1#1) : (c y : EReal) ≤ a y := by
  have : BitVec.ofBool (decide ((c y : EReal) ≤ a y)) = 1#1 := h
  by_contra hn
  rw [decide_eq_false hn] at this
  exact absurd this (by decide)

theorem lt_form {s : Shape} (a c : FVec Ideal s .f32) (y : s.Idx) (h : cmpf .olt a c y = 1#1) : (a y : EReal) < c y := by
  have : BitVec.ofBool (decide ((a y : EReal) < c y)) = 1#1 := h
  by_contra hn
  rw [decide_eq_false hn] at this
  exact absurd this (by decide)

theorem top32 : Ideal.ofBits .f32 0x7F800000#32 = (⊤ : EReal) := by simp [Ideal.ofBits, Ideal.ieee]

theorem okM_at (u : FVec Ideal S2x1024x28x16 .f32) (b : Fin 2) (t : Fin 1024) (h : Fin 28) (hk : okM (finM u) (ix3 b t h) = 1#1) (g : Fin 16) (hg : 64 * g.val ≤ t.val) :
    kMin ≤ u (ValueIdx.ix4 b t h g) ∧ u (ValueIdx.ix4 b t h g) < (⊤ : EReal) := by
  unfold okM at hk
  have h1 := minRed_ge _ _ _ _ _ _ (ge_form _ _ _ hk) (ValueIdx.ix4 b t h g) (funext fun a => match a with
    | ⟨0, _⟩ => Fin.ext rfl
    | ⟨1, _⟩ => Fin.ext rfl
    | ⟨2, _⟩ => Fin.ext rfl)
  rw [bc_form, where_form, if_pos (seenM_at b t h g hg)] at h1
  unfold finM at h1
  rw [where_form] at h1
  split at h1
  · next hlt => exact ⟨h1, top32 ▸ lt_form _ _ _ hlt⟩
  · rw [zero32] at h1
    exact absurd kMin_pos (not_lt.2 h1)

theorem unit_of (x : FVec Ideal S2x1024x3584 .bf16) (a1 : IVec S2x4x1024x128 8) (a2 : FVec Ideal S2x4x16 .f32) (a3 : FVec Ideal S2x4x128x1024 .fp8e4m3)
    (a4 : FVec Ideal S2x4x128 .f32) (b : Fin 2) (t : Fin 1024) (n : Fin 3584) (h : (fn (F := Ideal) x a1 a2 a3 a4).1 (ix3 b t n) = 1#1) (g : Fin 16)
    (hg : 64 * g.val ≤ t.val) :
    kMin ≤ scaleOf x b ⟨t.val / 128, by omega⟩ ⟨n.val / 128, by omega⟩ * a2 (ix3 b (⟨n.val / 896, by omega⟩ : Fin 4) g) * l2e
      ∧ scaleOf x b ⟨t.val / 128, by omega⟩ ⟨n.val / 128, by omega⟩ * a2 (ix3 b (⟨n.val / 896, by omega⟩ : Fin 4) g) * l2e < (⊤ : EReal) := by
  rw [fn_form, outM_at] at h
  have := okM_at _ b t _ h g hg
  have ek : (⟨(⟨n.val / 128, by omega⟩ : Fin 28).val / 7, by omega⟩ : Fin 4) = ⟨n.val / 896, by omega⟩ := Fin.ext (by show n.val / 128 / 7 = n.val / 896; omega)
  rw [unitM_at, rowM_at, keyM_at, sclM_at, topM_at, ek] at this
  exact this

end Attn.Mask
end
-- ==== Proof.lean ====
/- The claims, assembled: the programs' runs end with the arguments unchanged, the kernel's codes and scales are the
   reference's, and so is its attention wherever the mask says. -/
module

public import proofs.«01_k».proof.Defs
public import proofs.«01_k».proof.Proof.Gen.Kernel
public import proofs.«01_k».proof.Proof.Gen.KernelIdeal
public import proofs.«01_k».proof.Proof.KernelRun
public import proofs.«01_k».proof.Proof.KernelIdealRun
public import proofs.«01_k».proof.Proof.Codes
public import proofs.«01_k».proof.Proof.AttnEq
public import proofs.«01_k».proof.Proof.Mask
public import proofs.«01_k».proof.Proof.Gen.ReferenceIdeal.Frame
public import proofs.«01_k».proof.Proof.Gen.ReferenceIdeal.Value

@[expose] public section

noncomputable section

namespace Cert.Proof

open Idealize.ShloMosaic Idealize.SL.Sem

theorem onFacts : Cert.On_on.Facts := ⟨by decide, by decide, by decide, by decide, by decide, by decide, by decide, by decide, by decide, by decide, by decide, by decide, by decide, by decide, by decide, by decide, by decide, by decide, by decide, by decide, by decide⟩

section
open Idealize.ShloMosaic.TcCoe
attribute [local instance] Cert.KernelIdeal.Gen.facts Cert.ReferenceIdeal.Gen.facts onFacts

open Cert.KernelIdeal in
/-- The attention of the kernel is the reference's at the places of the mask. -/
theorem attn_on (m : (ℓ : Loc nD τ sig) → Buf (Elt Ideal) ℓ) (c : Dev nD) (x : FVec Ideal Cert.On_on.S2x1024x3584 .bf16) (a1 : IVec Cert.On_on.S2x4x1024x128 8)
    (a2 : FVec Ideal Cert.On_on.S2x4x16 .f32) (a3 : FVec Ideal Cert.On_on.S2x4x128x1024 .fp8e4m3) (a4 : FVec Ideal Cert.On_on.S2x4x128 .f32)
    (h0 : m ((c : Thread nD τ).loc main_arg0) = x) (h1 : m ((c : Thread nD τ).loc main_arg1) = a1) (h2 : m ((c : Thread nD τ).loc main_arg2) = a2)
    (h3 : m ((c : Thread nD τ).loc main_arg3) = a3) (h4 : m ((c : Thread nD τ).loc main_arg4) = a4)
    (i : Cert.On_on.S2x1024x3584.Idx) (hi : (Cert.On_on.fn (F := Ideal) x a1 a2 a3 a4).1 i = 1#1) :
    (Own.attn m c i : EReal) = Cert.ReferenceIdeal.Gen.k0_pay1 (F := Ideal) (Cert.ReferenceIdeal.Gen.k0_pay9 (F := Ideal)
      (Cert.ReferenceIdeal.Gen.k0_pay7 (F := Ideal) x a1) (Cert.ReferenceIdeal.Gen.k0_pay8 (F := Ideal) x) a2 a3 a4) i := by
  subst h0 h1 h2 h3 h4
  have e : i = Attn.ix3 (i 0) (i 1) (i 2) := Attn.idx3_ext rfl rfl rfl
  rw [e] at hi ⊢
  exact Own.attn_eq m c _ _ _ fun g hg => Attn.Mask.unit_of _ _ _ _ _ _ _ _ hi g hg

/-- The codes and the scales of the kernel are the reference's, and its attention is at the places of the mask. -/
theorem algebraic : Cert.algebraic_KernelIdeal_ReferenceIdeal_on_on := fun m g m' g' _ h =>
  ⟨Cert.KernelIdeal.Own.attn m, Cert.KernelIdeal.Own.codes m, Cert.KernelIdeal.Own.scales m,
    (θ_run _ _ _).mono (fun _ hr c => ⟨fun i _ => congrFun (hr.1 c).1 i, fun i _ => congrFun (hr.1 c).2.1 i, fun i _ => congrFun (hr.1 c).2.2.1 i, (hr.1 c).2.2.2⟩)
      (Cert.KernelIdeal.Own.run m g),
    (θ_run _ _ _).mono (fun _ hr c => ⟨fun i hi => (congrFun (hr c).1 i).trans (attn_on m c _ _ _ _ _ (h c).1.symm (h c).2.1.symm (h c).2.2.1.symm (h c).2.2.2.1.symm (h c).2.2.2.2.symm i
            (by rw [(h c).1, (h c).2.1, (h c).2.2.1, (h c).2.2.2.1, (h c).2.2.2.2]; exact hi)).symm,
        fun i _ => (congrFun (hr c).2.1 i).trans (congrFun (Cert.KernelIdeal.Own.codes_eq m c _ (h c).1.symm).symm i),
        fun i _ => (congrFun (hr c).2.2.1 i).trans (congrFun (Cert.KernelIdeal.Own.scales_eq m c _ (h c).1.symm).symm i), (hr c).2.2.2⟩)
      (Cert.ReferenceIdeal.Value.run m' g')⟩

end

theorem claim : Cert.Claim := ⟨Cert.Kernel.Gen.facts, Cert.KernelIdeal.Gen.facts, Cert.ReferenceIdeal.Gen.facts, onFacts,
  fun m ρ _ => Cert.Kernel.Own.frame m ρ, fun m ρ _ => Cert.KernelIdeal.Own.frame m ρ, fun m ρ _ => Cert.ReferenceIdeal.Gen.frame m ρ, trivial, algebraic⟩

end Cert.Proof

end
